-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutReference (m : (ℓ : Loc Cert.OutReference.nD Cert.OutReference.τ Cert.OutReference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4)
      ∧ r.2.mem ((c.tc : Thread Cert.OutKernel.nD Cert.OutKernel.τ).loc Cert.OutKernel.main_arg5) = m ((c.tc : Thread Cert.OutKernel.nD Cert.OutKernel.τ).loc Cert.OutKernel.main_arg5)
      ∧ r.2.mem ((c.tc : Thread Cert.OutKernel.nD Cert.OutKernel.τ).loc Cert.OutKernel.main_arg6) = m ((c.tc : Thread Cert.OutKernel.nD Cert.OutKernel.τ).loc Cert.OutKernel.main_arg6)
      ∧ r.2.mem ((c.tc : Thread Cert.OutKernel.nD Cert.OutKernel.τ).loc Cert.OutKernel.main_arg7) = m ((c.tc : Thread Cert.OutKernel.nD Cert.OutKernel.τ).loc Cert.OutKernel.main_arg7)
      ∧ r.2.mem ((c.tc : Thread Cert.OutKernel.nD Cert.OutKernel.τ).loc Cert.OutKernel.main_arg8) = m ((c.tc : Thread Cert.OutKernel.nD Cert.OutKernel.τ).loc Cert.OutKernel.main_arg8))
      ∧ r.2.sem = fun _ => 0)

def quiescent_OutReference [hOutReference : Cert.OutReference.Facts] : Prop :=
  ∀ (m : (ℓ : Loc Cert.OutReference.nD Cert.OutReference.τ Cert.OutReference.sig) → Buf (Elt Bits) ℓ) (g : Dev Cert.OutReference.nD → PrngReg), Pre_OutReference m →
    θ_run (Cert.OutReference.defs (F := Bits)) (onTc (τ := Cert.OutReference.τ) (Cert.OutReference.main (F := Bits))) ⟨m, fun _ => 0, g⟩ (fun r => (∀ c : Dev Cert.OutReference.nD,
      r.2.mem ((c.tc : Thread Cert.OutReference.nD Cert.OutReference.τ).loc Cert.OutReference.main_arg0) = m ((c.tc : Thread Cert.OutReference.nD Cert.OutReference.τ).loc Cert.OutReference.main_arg0)
      ∧ r.2.mem ((c.tc : Thread Cert.OutReference.nD Cert.OutReference.τ).loc Cert.OutReference.main_arg1) = m ((c.tc : Thread Cert.OutReference.nD Cert.OutReference.τ).loc Cert.OutReference.main_arg1)
      ∧ r.2.mem ((c.tc : Thread Cert.OutReference.nD Cert.OutReference.τ).loc Cert.OutReference.main_arg2) = m ((c.tc : Thread Cert.OutReference.nD Cert.OutReference.τ).loc Cert.OutReference.main_arg2)
      ∧ r.2.mem ((c.tc : Thread Cert.OutReference.nD Cert.OutReference.τ).loc Cert.OutReference.main_arg3) = m ((c.tc : Thread Cert.OutReference.nD Cert.OutReference.τ).loc Cert.OutReference.main_arg3)
      ∧ r.2.mem ((c.tc : Thread Cert.OutReference.nD Cert.OutReference.τ).loc Cert.OutReference.main_arg4) = m ((c.tc : Thread Cert.OutReference.nD Cert.OutReference.τ).loc Cert.OutReference.main_arg4)
      ∧ r.2.mem ((c.tc : Thread Cert.OutReference.nD Cert.OutReference.τ).loc Cert.OutReference.main_arg5) = m ((c.tc : Thread Cert.OutReference.nD Cert.OutReference.τ).loc Cert.OutReference.main_arg5)
      ∧ r.2.mem ((c.tc : Thread Cert.OutReference.nD Cert.OutReference.τ).loc Cert.OutReference.main_arg6) = m ((c.tc : Thread Cert.OutReference.nD Cert.OutReference.τ).loc Cert.OutReference.main_arg6)
      ∧ r.2.mem ((c.tc : Thread Cert.OutReference.nD Cert.OutReference.τ).loc Cert.OutReference.main_arg7) = m ((c.tc : Thread Cert.OutReference.nD Cert.OutReference.τ).loc Cert.OutReference.main_arg7)
      ∧ r.2.mem ((c.tc : Thread Cert.OutReference.nD Cert.OutReference.τ).loc Cert.OutReference.main_arg8) = m ((c.tc : Thread Cert.OutReference.nD Cert.OutReference.τ).loc Cert.OutReference.main_arg8))
      ∧ r.2.sem = fun _ => 0)

def preserves_Kernel_KernelIdeal : Prop :=
  IdealRules.named_const.Statement Cert.KernelIdeal.κ "scale_log2e" .f32 0x3DD53B95#32 (((Real.sqrt 192)⁻¹ * (Real.log 2)⁻¹ : ℝ) : EReal)
  ∧ IdealRules.named_const.Statement Cert.KernelIdeal.κ "inv_p_scale" .f32 0x3B124925#32 ((1 / 448 : ℝ) : EReal)
  ∧ IdealRules.named_const.Statement Cert.KernelIdeal.κ "log2_p_scale" .f32 0x410CEAED#32 (((Real.log 448) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def bitexact_OutKernel_OutReference [hOutKernel : Cert.OutKernel.Facts] [hOutReference : Cert.OutReference.Facts] : Prop :=
  ∀ (m : (ℓ : Loc Cert.OutKernel.nD Cert.OutKernel.τ Cert.OutKernel.sig) → Buf (Elt Bits) ℓ) (g : Dev Cert.OutKernel.nD → PrngReg)
    (m' : (ℓ : Loc Cert.OutReference.nD Cert.OutReference.τ Cert.OutReference.sig) → Buf (Elt Bits) ℓ) (g' : Dev Cert.OutReference.nD → PrngReg), Pre_OutKernel m →
    (∀ c : Dev Cert.OutKernel.nD,
      m' ((c.tc : Thread Cert.OutReference.nD Cert.OutReference.τ).loc Cert.OutReference.main_arg0) = m ((c.tc : Thread Cert.OutKernel.nD Cert.OutKernel.τ).loc Cert.OutKernel.main_arg0)
      ∧ m' ((c.tc : Thread Cert.OutReference.nD Cert.OutReference.τ).loc Cert.OutReference.main_arg1) = m ((c.tc : Thread Cert.OutKernel.nD Cert.OutKernel.τ).loc Cert.OutKernel.main_arg1)
      ∧ m' ((c.tc : Thread Cert.OutReference.nD Cert.OutReference.τ).loc Cert.OutReference.main_arg2) = m ((c.tc : Thread Cert.OutKernel.nD Cert.OutKernel.τ).loc Cert.OutKernel.main_arg2)
      ∧ m' ((c.tc : Thread Cert.OutReference.nD Cert.OutReference.τ).loc Cert.OutReference.main_arg3) = m ((c.tc : Thread Cert.OutKernel.nD Cert.OutKernel.τ).loc Cert.OutKernel.main_arg3)
      ∧ m' ((c.tc : Thread Cert.OutReference.nD Cert.OutReference.τ).loc Cert.OutReference.main_arg4) = m ((c.tc : Thread Cert.OutKernel.nD Cert.OutKernel.τ).loc Cert.OutKernel.main_arg4)
      ∧ m' ((c.tc : Thread Cert.OutReference.nD Cert.OutReference.τ).loc Cert.OutReference.main_arg5) = m ((c.tc : Thread Cert.OutKernel.nD Cert.OutKernel.τ).loc Cert.OutKernel.main_arg5)
      ∧ m' ((c.tc : Thread Cert.OutReference.nD Cert.OutReference.τ).loc Cert.OutReference.main_arg6) = m ((c.tc : Thread Cert.OutKernel.nD Cert.OutKernel.τ).loc Cert.OutKernel.main_arg6)
      ∧ m' ((c.tc : Thread Cert.OutReference.nD Cert.OutReference.τ).loc Cert.OutReference.main_arg7) = m ((c.tc : Thread Cert.OutKernel.nD Cert.OutKernel.τ).loc Cert.OutKernel.main_arg7)
      ∧ m' ((c.tc : Thread Cert.OutReference.nD Cert.OutReference.τ).loc Cert.OutReference.main_arg8) = m ((c.tc : Thread Cert.OutKernel.nD Cert.OutKernel.τ).loc Cert.OutKernel.main_arg8)) →
    ∃ (v0 : (c : Dev Cert.OutKernel.nD) → Buf (Elt Bits) ((c.tc : Thread Cert.OutKernel.nD Cert.OutKernel.τ).loc Cert.OutKernel.main_v8_1)) (v1 : (c : Dev Cert.OutKernel.nD) → Buf (Elt Bits) ((c.tc : Thread Cert.OutKernel.nD Cert.OutKernel.τ).loc Cert.OutKernel.main_v8_2)),
      θ_run (Cert.OutKernel.defs (F := Bits)) (onTc (τ := Cert.OutKernel.τ) (Cert.OutKernel.main (F := Bits))) ⟨m, fun _ => 0, g⟩ (fun r => ∀ c : Dev Cert.OutKernel.nD,
          r.2.mem ((c.tc : Thread Cert.OutKernel.nD Cert.OutKernel.τ).loc Cert.OutKernel.main_v8_1) = v0 c
          ∧ r.2.mem ((c.tc : Thread Cert.OutKernel.nD Cert.OutKernel.τ).loc Cert.OutKernel.main_v8_2) = v1 c
          ∧ r.2.mem ((c.tc : Thread Cert.OutKernel.nD Cert.OutKernel.τ).loc Cert.OutKernel.main_arg0) = m ((c.tc : Thread Cert.OutKernel.nD Cert.OutKernel.τ).loc Cert.OutKernel.main_arg0)
          ∧ r.2.mem ((c.tc : Thread Cert.OutKernel.nD Cert.OutKernel.τ).loc Cert.OutKernel.main_arg1) = m ((c.tc : Thread Cert.OutKernel.nD Cert.OutKernel.τ).loc Cert.OutKernel.main_arg1)
          ∧ r.2.mem ((c.tc : Thread Cert.OutKernel.nD Cert.OutKernel.τ).loc Cert.OutKernel.main_arg2) = m ((c.tc : Thread Cert.OutKernel.nD Cert.OutKernel.τ).loc Cert.OutKernel.main_arg2)
          ∧ r.2.mem ((c.tc : Thread Cert.OutKernel.nD Cert.OutKernel.τ).loc Cert.OutKernel.main_arg3) = m ((c.tc : Thread Cert.OutKernel.nD Cert.OutKernel.τ).loc Cert.OutKernel.main_arg3)
          ∧ r.2.mem ((c.tc : Thread Cert.OutKernel.nD Cert.OutKernel.τ).loc Cert.OutKernel.main_arg4) = m ((c.tc : Thread Cert.OutKernel.nD Cert.OutKernel.τ).loc Cert.OutKernel.main_arg4)
          ∧ r.2.mem ((c.tc : Thread Cert.OutKernel.nD Cert.OutKernel.τ).loc Cert.OutKernel.main_arg5) = m ((c.tc : Thread Cert.OutKernel.nD Cert.OutKernel.τ).loc Cert.OutKernel.main_arg5)
          ∧ r.2.mem ((c.tc : Thread Cert.OutKernel.nD Cert.OutKernel.τ).loc Cert.OutKernel.main_arg6) = m ((c.tc : Thread Cert.OutKernel.nD Cert.OutKernel.τ).loc Cert.OutKernel.main_arg6)
          ∧ r.2.mem ((c.tc : Thread Cert.OutKernel.nD Cert.OutKernel.τ).loc Cert.OutKernel.main_arg7) = m ((c.tc : Thread Cert.OutKernel.nD Cert.OutKernel.τ).loc Cert.OutKernel.main_arg7)
          ∧ r.2.mem ((c.tc : Thread Cert.OutKernel.nD Cert.OutKernel.τ).loc Cert.OutKernel.main_arg8) = m ((c.tc : Thread Cert.OutKernel.nD Cert.OutKernel.τ).loc Cert.OutKernel.main_arg8))
      ∧ θ_run (Cert.OutReference.defs (F := Bits)) (onTc (τ := Cert.OutReference.τ) (Cert.OutReference.main (F := Bits))) ⟨m', fun _ => 0, g'⟩ (fun r => ∀ c : Dev Cert.OutReference.nD,
          r.2.mem ((c.tc : Thread Cert.OutReference.nD Cert.OutReference.τ).loc Cert.OutReference.main_v0_0) = v0 c
          ∧ r.2.mem ((c.tc : Thread Cert.OutReference.nD Cert.OutReference.τ).loc Cert.OutReference.main_v0_1) = v1 c
          ∧ r.2.mem ((c.tc : Thread Cert.OutReference.nD Cert.OutReference.τ).loc Cert.OutReference.main_arg0) = m' ((c.tc : Thread Cert.OutReference.nD Cert.OutReference.τ).loc Cert.OutReference.main_arg0)
          ∧ r.2.mem ((c.tc : Thread Cert.OutReference.nD Cert.OutReference.τ).loc Cert.OutReference.main_arg1) = m' ((c.tc : Thread Cert.OutReference.nD Cert.OutReference.τ).loc Cert.OutReference.main_arg1)
          ∧ r.2.mem ((c.tc : Thread Cert.OutReference.nD Cert.OutReference.τ).loc Cert.OutReference.main_arg2) = m' ((c.tc : Thread Cert.OutReference.nD Cert.OutReference.τ).loc Cert.OutReference.main_arg2)
          ∧ r.2.mem ((c.tc : Thread Cert.OutReference.nD Cert.OutReference.τ).loc Cert.OutReference.main_arg3) = m' ((c.tc : Thread Cert.OutReference.nD Cert.OutReference.τ).loc Cert.OutReference.main_arg3)
          ∧ r.2.mem ((c.tc : Thread Cert.OutReference.nD Cert.OutReference.τ).loc Cert.OutReference.main_arg4) = m' ((c.tc : Thread Cert.OutReference.nD Cert.OutReference.τ).loc Cert.OutReference.main_arg4)
          ∧ r.2.mem ((c.tc : Thread Cert.OutReference.nD Cert.OutReference.τ).loc Cert.OutReference.main_arg5) = m' ((c.tc : Thread Cert.OutReference.nD Cert.OutReference.τ).loc Cert.OutReference.main_arg5)
          ∧ r.2.mem ((c.tc : Thread Cert.OutReference.nD Cert.OutReference.τ).loc Cert.OutReference.main_arg6) = m' ((c.tc : Thread Cert.OutReference.nD Cert.OutReference.τ).loc Cert.OutReference.main_arg6)
          ∧ r.2.mem ((c.tc : Thread Cert.OutReference.nD Cert.OutReference.τ).loc Cert.OutReference.main_arg7) = m' ((c.tc : Thread Cert.OutReference.nD Cert.OutReference.τ).loc Cert.OutReference.main_arg7)
          ∧ r.2.mem ((c.tc : Thread Cert.OutReference.nD Cert.OutReference.τ).loc Cert.OutReference.main_arg8) = m' ((c.tc : Thread Cert.OutReference.nD Cert.OutReference.τ).loc Cert.OutReference.main_arg8))

def Claim : Prop :=
  ∃ (hKernel : Cert.Kernel.Facts) (hKernelIdeal : Cert.KernelIdeal.Facts) (hReferenceIdeal : Cert.ReferenceIdeal.Facts) (hOutKernel : Cert.OutKernel.Facts) (hOutReference : Cert.OutReference.Facts),
    quiescent_Kernel (hKernel := hKernel)
    ∧ quiescent_KernelIdeal (hKernelIdeal := hKernelIdeal)
    ∧ quiescent_ReferenceIdeal (hReferenceIdeal := hReferenceIdeal)
    ∧ quiescent_OutKernel (hOutKernel := hOutKernel)
    ∧ quiescent_OutReference (hOutReference := hOutReference)
    ∧ preserves_Kernel_KernelIdeal
    ∧ algebraic_KernelIdeal_ReferenceIdeal (hKernelIdeal := hKernelIdeal) (hReferenceIdeal := hReferenceIdeal)
    ∧ bitexact_OutKernel_OutReference (hOutKernel := hOutKernel) (hOutReference := hOutReference)
-- ==== Kernel.lean ====
abbrev S16x200x128 : Shape := ⟨3, ![16, 200, 128]⟩
abbrev S16x200 : Shape := ⟨2, ![16, 200]⟩
abbrev S16x200x64 : Shape := ⟨3, ![16, 200, 64]⟩
abbrev S16x16384x128 : Shape := ⟨3, ![16, 16384, 128]⟩
abbrev S16 : Shape := ⟨1, ![16]⟩
abbrev S16384x64 : Shape := ⟨2, ![16384, 64]⟩
abbrev S16x1 : Shape := ⟨2, ![16, 1]⟩
abbrev S16x200x1 : Shape := ⟨3, ![16, 200, 1]⟩
abbrev S64x16384 : Shape := ⟨2, ![64, 16384]⟩
abbrev S1x200x128 : Shape := ⟨3, ![1, 200, 128]⟩
abbrev S1x200x64 : Shape := ⟨3, ![1, 200, 64]⟩
abbrev S1x16384x128 : Shape := ⟨3, ![1, 16384, 128]⟩
abbrev S200x16384 : Shape := ⟨2, ![200, 16384]⟩
abbrev S200x128 : Shape := ⟨2, ![200, 128]⟩
abbrev S1x512x128 : Shape := ⟨3, ![1, 512, 128]⟩
abbrev S512x128 : Shape := ⟨2, ![512, 128]⟩
abbrev S200x512 : Shape := ⟨2, ![200, 512]⟩
abbrev S200x64 : Shape := ⟨2, ![200, 64]⟩
abbrev S64x512 : Shape := ⟨2, ![64, 512]⟩
abbrev S200 : Shape := ⟨1, ![200]⟩
abbrev S200x1 : Shape := ⟨2, ![200, 1]⟩
abbrev S1 : Shape := ⟨1, ![1]⟩

abbrev nBuf : Space → Nat
  | .hbm => 16
  | .vmem => 20
  | .smem => 1
  | _ => 0

abbrev bufTy : (tb : Table) → Fin (tcTables nBuf tb) → BufTy
  | .hbm, ⟨0, _⟩ => ⟨S16x200x128, .fp8e4m3⟩
  | .hbm, ⟨1, _⟩ => ⟨S16x200, .f32⟩
  | .hbm, ⟨2, _⟩ => ⟨S16x200x64, .bf16⟩
  | .hbm, ⟨3, _⟩ => ⟨S16x16384x128, .fp8e4m3⟩
  | .hbm, ⟨4, _⟩ => ⟨S16, .f32⟩
  | .hbm, ⟨5, _⟩ => ⟨S16x16384x128, .fp8e4m3⟩
  | .hbm, ⟨6, _⟩ => ⟨S16, .f32⟩
  | .hbm, ⟨7, _⟩ => ⟨S16384x64, .bf16⟩
  | .hbm, ⟨8, _⟩ => ⟨S16x1, .f32⟩
  | .hbm, ⟨9, _⟩ => ⟨S16x200, .f32⟩
  | .hbm, ⟨10, _⟩ => ⟨S16x200, .f32⟩
  | .hbm, ⟨11, _⟩ => ⟨S16x200x1, .f32⟩
  | .hbm, ⟨12, _⟩ => ⟨S16x200x128, .f32⟩
  | .hbm, ⟨13, _⟩ => ⟨S64x16384, .bf16⟩
  | .hbm, ⟨14, _⟩ => ⟨S16x200x128, .f32⟩
  | .hbm, ⟨15, _⟩ => ⟨S16x200x128, .f32⟩
  | .local _ .vmem, ⟨0, _⟩ => ⟨S1x200x128, .fp8e4m3⟩
  | .local _ .vmem, ⟨1, _⟩ => ⟨S1x200x128, .fp8e4m3⟩
  | .local _ .vmem, ⟨2, _⟩ => ⟨S1x200x64, .bf16⟩
  | .local _ .vmem, ⟨3, _⟩ => ⟨S1x200x64, .bf16⟩
  | .local _ .vmem, ⟨4, _⟩ => ⟨S1x200x128, .f32⟩
  | .local _ .vmem, ⟨5, _⟩ => ⟨S1x200x128, .f32⟩
  | .local _ .vmem, ⟨6, _⟩ => ⟨S64x16384, .bf16⟩
  | .local _ .vmem, ⟨7, _⟩ => ⟨S1x16384x128, .fp8e4m3⟩
  | .local _ .vmem, ⟨8, _⟩ => ⟨S1x16384x128, .fp8e4m3⟩
  | .local _ .vmem, ⟨9, _⟩ => ⟨S1x16384x128, .fp8e4m3⟩
  | .local _ .vmem, ⟨10, _⟩ => ⟨S1x16384x128, .fp8e4m3⟩
  | .local _ .vmem, ⟨11, _⟩ => ⟨S1x200x128, .f32⟩
  | .local _ .vmem, ⟨12, _⟩ => ⟨S1x200x128, .f32⟩
  | .local _ .vmem, ⟨13, _⟩ => ⟨S1x200x128, .f32⟩
  | .local _ .vmem, ⟨14, _⟩ => ⟨S1x200x128, .f32⟩
  | .local _ .vmem, ⟨15, _⟩ => ⟨S200x16384, .f32⟩
  | .local _ .vmem, ⟨16, _⟩ => ⟨S200x128, .f32⟩
  | .local _ .vmem, ⟨17, _⟩ => ⟨S200x128, .f32⟩
  | .local _ .vmem, ⟨18, _⟩ => ⟨S200x128, .f32⟩
  | .local _ .vmem, ⟨19, _⟩ => ⟨S200x128, .f32⟩
  | .local _ .smem, ⟨0, _⟩ => ⟨S16, .f32⟩
  | _, _ => ⟨S16x200x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_10 : BitVec 32 := 0#32
  let c32_i32 : BitVec 32 := 32#32
  let v21 : BitVec 32 := Scalar.addi c0_i32_10 c32_i32
  let c1_i32 : BitVec 32 := 1#32
  ⟨c0_i32_10, v21, c1_i32⟩
def k0_mult1 (k0_t1 : Fin k0_t1_loop.trips) : BitVec 32 :=
  let c0_i32_13 : BitVec 32 := 0#32
  let c0_i32_10 : BitVec 32 := 0#32
  let c1_i32 : BitVec 32 := 1#32
  let arg15 : BitVec 32 := Scf.iv c0_i32_10 c1_i32 k0_t1
  let c1_i32_12 : BitVec 32 := 1#32
  let v22 : BitVec 32 := Scalar.muli arg15 c1_i32_12
  let v23 : BitVec 32 := Scalar.addi c0_i32_13 v22
  let c512_i32 : BitVec 32 := 512#32
  let v24 : BitVec 32 := Scalar.muli v23 c512_i32
  v24
def k0_off1 (k0_t1 : Fin k0_t1_loop.trips) : Fin 3 → Nat :=
  let c0_17 : Index := 0#32
  let c0_i32_13 : BitVec 32 := 0#32
  let c0_i32_10 : BitVec 32 := 0#32
  let c1_i32 : BitVec 32 := 1#32
  let arg15 : BitVec 32 := Scf.iv c0_i32_10 c1_i32 k0_t1
  let c1_i32_12 : BitVec 32 := 1#32
  let v22 : BitVec 32 := Scalar.muli arg15 c1_i32_12
  let v23 : BitVec 32 := Scalar.addi c0_i32_13 v22
  let c512_i32 : BitVec 32 := 512#32
  let v24 : BitVec 32 := Scalar.muli v23 c512_i32
  let v25 : BitVec 32 := v24
  let v28 : Index := Scalar.indexCast v25
  let c0_18 : Index := 0#32
  ![0, v28.toNat, 0]
def k0_off2 (k0_t1 : Fin k0_t1_loop.trips) : Fin 2 → Nat :=
  let c0_23 : Index := 0#32
  let c0_i32_13 : BitVec 32 := 0#32
  let c0_i32_10 : BitVec 32 := 0#32
  let c1_i32 : BitVec 32 := 1#32
  let arg15 : BitVec 32 := Scf.iv c0_i32_10 c1_i32 k0_t1
  let c1_i32_12 : BitVec 32 := 1#32
  let v22 : BitVec 32 := Scalar.muli arg15 c1_i32_12
  let v23 : BitVec 32 := Scalar.addi c0_i32_13 v22
  let c512_i32 : BitVec 32 := 512#32
  let v24 : BitVec 32 := Scalar.muli v23 c512_i32
  let v25 : BitVec 32 := v24
  let v34 : Index := Scalar.indexCast v25
  ![0, v34.toNat]
def k0_mult2 (k0_t1 : Fin k0_t1_loop.trips) : BitVec 32 :=
  let c0_i32_13 : BitVec 32 := 0#32
  let c0_i32_10 : BitVec 32 := 0#32
  let c1_i32 : BitVec 32 := 1#32
  let arg15 : BitVec 32 := Scf.iv c0_i32_10 c1_i32 k0_t1
  let c1_i32_12 : BitVec 32 := 1#32
  let v22 : BitVec 32 := Scalar.muli arg15 c1_i32_12
  let v23 : BitVec 32 := Scalar.addi c0_i32_13 v22
  let c512_i32_30 : BitVec 32 := 512#32
  let v45 : BitVec 32 := Scalar.muli v23 c512_i32_30
  let c0_i32_31 : BitVec 32 := 0#32
  let v46 : BitVec 32 := Scalar.addi v45 c0_i32_31
  v46
def k0_off3 (k0_t1 : Fin k0_t1_loop.trips) (c0_i32_31 : BitVec 32) : Fin 2 → Nat :=
  let c0_32 : Index := 0#32
  let c0_i32_13 : BitVec 32 := 0#32
  let c0_i32_10 : BitVec 32 := 0#32
  let c1_i32 : BitVec 32 := 1#32
  let arg15 : BitVec 32 := Scf.iv c0_i32_10 c1_i32 k0_t1
  let c1_i32_12 : BitVec 32 := 1#32
  let v22 : BitVec 32 := Scalar.muli arg15 c1_i32_12
  let v23 : BitVec 32 := Scalar.addi c0_i32_13 v22
  let c512_i32_30 : BitVec 32 := 512#32
  let v45 : BitVec 32 := Scalar.muli v23 c512_i32_30
  let v46 : BitVec 32 := Scalar.addi v45 c0_i32_31
  let v47 : BitVec 32 := v46
  let v48 : Index := Scalar.indexCast v47
  ![0, v48.toNat]
def k0_mult3 (k0_t1 : Fin k0_t1_loop.trips) : BitVec 32 :=
  let c0_i32_13 : BitVec 32 := 0#32
  let c0_i32_10 : BitVec 32 := 0#32
  let c1_i32 : BitVec 32 := 1#32
  let arg15 : BitVec 32 := Scf.iv c0_i32_10 c1_i32 k0_t1
  let c1_i32_12 : BitVec 32 := 1#32
  let v22 : BitVec 32 := Scalar.muli arg15 c1_i32_12
  let v23 : BitVec 32 := Scalar.addi c0_i32_13 v22
  let c512_i32_33 : BitVec 32 := 512#32
  let v57 : BitVec 32 := Scalar.muli v23 c512_i32_33
  let c128_i32 : BitVec 32 := 128#32
  let v58 : BitVec 32 := Scalar.addi v57 c128_i32
  v58
def k0_mult4 (k0_t1 : Fin k0_t1_loop.trips) : BitVec 32 :=
  let c0_i32_13 : BitVec 32 := 0#32
  let c0_i32_10 : BitVec 32 := 0#32
  let c1_i32 : BitVec 32 := 1#32
  let arg15 : BitVec 32 := Scf.iv c0_i32_10 c1_i32 k0_t1
  let c1_i32_12 : BitVec 32 := 1#32
  let v22 : BitVec 32 := Scalar.muli arg15 c1_i32_12
  let v23 : BitVec 32 := Scalar.addi c0_i32_13 v22
  let c512_i32_35 : BitVec 32 := 512#32
  let v69 : BitVec 32 := Scalar.muli v23 c512_i32_35
  let c256_i32 : BitVec 32 := 256#32
  let v70 : BitVec 32 := Scalar.addi v69 c256_i32
  v70
def k0_mult5 (k0_t1 : Fin k0_t1_loop.trips) : BitVec 32 :=
  let c0_i32_13 : BitVec 32 := 0#32
  let c0_i32_10 : BitVec 32 := 0#32
  let c1_i32 : BitVec 32 := 1#32
  let arg15 : BitVec 32 := Scf.iv c0_i32_10 c1_i32 k0_t1
  let c1_i32_12 : BitVec 32 := 1#32
  let v22 : BitVec 32 := Scalar.muli arg15 c1_i32_12
  let v23 : BitVec 32 := Scalar.addi c0_i32_13 v22
  let c512_i32_37 : BitVec 32 := 512#32
  let v81 : BitVec 32 := Scalar.muli v23 c512_i32_37
  let c384_i32 : BitVec 32 := 384#32
  let v82 : BitVec 32 := Scalar.addi v81 c384_i32
  v82
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c16_i32 : BitVec 32 := 16#32
  let v4 : BitVec 1 := Scalar.cmpi .slt arg0 c16_i32
  let v5 : BitVec 1 := Scalar.andi v3 v4
  let v6 : BitVec 32 := Scalar.extui v5
  let c0_i32_2 : BitVec 32 := 0#32
  let v7 : BitVec 1 := Scalar.cmpi .ne v6 c0_i32_2
  v7

@[reducible] def k0_t2_loop : Scf.Loop 32 :=
  let c0_i32_16 : BitVec 32 := 0#32
  let c32_i32 : BitVec 32 := 32#32
  let v29 : BitVec 32 := Scalar.addi c0_i32_16 c32_i32
  let c1_i32 : BitVec 32 := 1#32
  ⟨c0_i32_16, v29, c1_i32⟩
def k0_mult6 (k0_t2 : Fin k0_t2_loop.trips) : BitVec 32 :=
  let c0_i32_19 : BitVec 32 := 0#32
  let c0_i32_16 : BitVec 32 := 0#32
  let c1_i32 : BitVec 32 := 1#32
  let arg15 : BitVec 32 := Scf.iv c0_i32_16 c1_i32 k0_t2
  let c1_i32_18 : BitVec 32 := 1#32
  let v30 : BitVec 32 := Scalar.muli arg15 c1_i32_18
  let v31 : BitVec 32 := Scalar.addi c0_i32_19 v30
  let c512_i32 : BitVec 32 := 512#32
  let v32 : BitVec 32 := Scalar.muli v31 c512_i32
  v32
def k0_mult7 (k0_t2 : Fin k0_t2_loop.trips) : BitVec 32 :=
  let c0_i32_19 : BitVec 32 := 0#32
  let c0_i32_16 : BitVec 32 := 0#32
  let c1_i32 : BitVec 32 := 1#32
  let arg15 : BitVec 32 := Scf.iv c0_i32_16 c1_i32 k0_t2
  let c1_i32_18 : BitVec 32 := 1#32
  let v30 : BitVec 32 := Scalar.muli arg15 c1_i32_18
  let v31 : BitVec 32 := Scalar.addi c0_i32_19 v30
  let c512_i32_24 : BitVec 32 := 512#32
  let v36 : BitVec 32 := Scalar.muli v31 c512_i32_24
  let c0_i32_25 : BitVec 32 := 0#32
  let v37 : BitVec 32 := Scalar.addi v36 c0_i32_25
  v37
def k0_off4 (k0_t2 : Fin k0_t2_loop.trips) (c0_i32_25 : BitVec 32) : Fin 2 → Nat :=
  let c0_26 : Index := 0#32
  let c0_i32_19 : BitVec 32 := 0#32
  let c0_i32_16 : BitVec 32 := 0#32
  let c1_i32 : BitVec 32 := 1#32
  let arg15 : BitVec 32 := Scf.iv c0_i32_16 c1_i32 k0_t2
  let c1_i32_18 : BitVec 32 := 1#32
  let v30 : BitVec 32 := Scalar.muli arg15 c1_i32_18
  let v31 : BitVec 32 := Scalar.addi c0_i32_19 v30
  let c512_i32_24 : BitVec 32 := 512#32
  let v36 : BitVec 32 := Scalar.muli v31 c512_i32_24
  let v37 : BitVec 32 := Scalar.addi v36 c0_i32_25
  let v38 : BitVec 32 := v37
  let v39 : Index := Scalar.indexCast v38
  ![0, v39.toNat]
def k0_mult8 (k0_t2 : Fin k0_t2_loop.trips) : BitVec 32 :=
  let c0_i32_19 : BitVec 32 := 0#32
  let c0_i32_16 : BitVec 32 := 0#32
  let c1_i32 : BitVec 32 := 1#32
  let arg15 : BitVec 32 := Scf.iv c0_i32_16 c1_i32 k0_t2
  let c1_i32_18 : BitVec 32 := 1#32
  let v30 : BitVec 32 := Scalar.muli arg15 c1_i32_18
  let v31 : BitVec 32 := Scalar.addi c0_i32_19 v30
  let c512_i32_28 : BitVec 32 := 512#32
  let v47 : BitVec 32 := Scalar.muli v31 c512_i32_28
  let c128_i32 : BitVec 32 := 128#32
  let v48 : BitVec 32 := Scalar.addi v47 c128_i32
  v48
def k0_mult9 (k0_t2 : Fin k0_t2_loop.trips) : BitVec 32 :=
  let c0_i32_19 : BitVec 32 := 0#32
  let c0_i32_16 : BitVec 32 := 0#32
  let c1_i32 : BitVec 32 := 1#32
  let arg15 : BitVec 32 := Scf.iv c0_i32_16 c1_i32 k0_t2
  let c1_i32_18 : BitVec 32 := 1#32
  let v30 : BitVec 32 := Scalar.muli arg15 c1_i32_18
  let v31 : BitVec 32 := Scalar.addi c0_i32_19 v30
  let c512_i32_31 : BitVec 32 := 512#32
  let v58 : BitVec 32 := Scalar.muli v31 c512_i32_31
  let c256_i32 : BitVec 32 := 256#32
  let v59 : BitVec 32 := Scalar.addi v58 c256_i32
  v59
def k0_mult10 (k0_t2 : Fin k0_t2_loop.trips) : BitVec 32 :=
  let c0_i32_19 : BitVec 32 := 0#32
  let c0_i32_16 : BitVec 32 := 0#32
  let c1_i32 : BitVec 32 := 1#32
  let arg15 : BitVec 32 := Scf.iv c0_i32_16 c1_i32 k0_t2
  let c1_i32_18 : BitVec 32 := 1#32
  let v30 : BitVec 32 := Scalar.muli arg15 c1_i32_18
  let v31 : BitVec 32 := Scalar.addi c0_i32_19 v30
  let c512_i32_34 : BitVec 32 := 512#32
  let v69 : BitVec 32 := Scalar.muli v31 c512_i32_34
  let c384_i32 : BitVec 32 := 384#32
  let v70 : BitVec 32 := Scalar.addi v69 c384_i32
  v70
def k0_off5 (k0_t2 : Fin k0_t2_loop.trips) : Fin 3 → Nat :=
  let c0_41 : Index := 0#32
  let c0_i32_19 : BitVec 32 := 0#32
  let c0_i32_16 : BitVec 32 := 0#32
  let c1_i32 : BitVec 32 := 1#32
  let arg15 : BitVec 32 := Scf.iv c0_i32_16 c1_i32 k0_t2
  let c1_i32_18 : BitVec 32 := 1#32
  let v30 : BitVec 32 := Scalar.muli arg15 c1_i32_18
  let v31 : BitVec 32 := Scalar.addi c0_i32_19 v30
  let c512_i32 : BitVec 32 := 512#32
  let v32 : BitVec 32 := Scalar.muli v31 c512_i32
  let v33 : BitVec 32 := v32
  let v85 : Index := Scalar.indexCast v33
  let c0_42 : Index := 0#32
  ![0, v85.toNat, 0]
def k0_mult11 (k0_t2 : Fin k0_t2_loop.trips) : BitVec 32 :=
  let c0_i32_19 : BitVec 32 := 0#32
  let c0_i32_16 : BitVec 32 := 0#32
  let c1_i32 : BitVec 32 := 1#32
  let arg15 : BitVec 32 := Scf.iv c0_i32_16 c1_i32 k0_t2
  let c1_i32_18 : BitVec 32 := 1#32
  let v30 : BitVec 32 := Scalar.muli arg15 c1_i32_18
  let v31 : BitVec 32 := Scalar.addi c0_i32_19 v30
  let c512_i32_46 : BitVec 32 := 512#32
  let v93 : BitVec 32 := Scalar.muli v31 c512_i32_46
  v93
def k0_off6 (k0_t2 : Fin k0_t2_loop.trips) : Fin 2 → Nat :=
  let c0_56 : Index := 0#32
  let c0_i32_19 : BitVec 32 := 0#32
  let c0_i32_16 : BitVec 32 := 0#32
  let c1_i32 : BitVec 32 := 1#32
  let arg15 : BitVec 32 := Scf.iv c0_i32_16 c1_i32 k0_t2
  let c1_i32_18 : BitVec 32 := 1#32
  let v30 : BitVec 32 := Scalar.muli arg15 c1_i32_18
  let v31 : BitVec 32 := Scalar.addi c0_i32_19 v30
  let c512_i32_46 : BitVec 32 := 512#32
  let v93 : BitVec 32 := Scalar.muli v31 c512_i32_46
  let v94 : BitVec 32 := v93
  let v103 : Index := Scalar.indexCast v94
  ![0, v103.toNat]
def k0_mult12 (k0_t2 : Fin k0_t2_loop.trips) : BitVec 32 :=
  let c0_i32_19 : BitVec 32 := 0#32
  let c0_i32_16 : BitVec 32 := 0#32
  let c1_i32 : BitVec 32 := 1#32
  let arg15 : BitVec 32 := Scf.iv c0_i32_16 c1_i32 k0_t2
  let c1_i32_18 : BitVec 32 := 1#32
  let v30 : BitVec 32 := Scalar.muli arg15 c1_i32_18
  let v31 : BitVec 32 := Scalar.addi c0_i32_19 v30
  let c512_i32_63 : BitVec 32 := 512#32
  let v114 : BitVec 32 := Scalar.muli v31 c512_i32_63
  let c0_i32_64 : BitVec 32 := 0#32
  let v115 : BitVec 32 := Scalar.addi v114 c0_i32_64
  v115
def k0_mult13 (k0_t2 : Fin k0_t2_loop.trips) : BitVec 32 :=
  let c0_i32_19 : BitVec 32 := 0#32
  let c0_i32_16 : BitVec 32 := 0#32
  let c1_i32 : BitVec 32 := 1#32
  let arg15 : BitVec 32 := Scf.iv c0_i32_16 c1_i32 k0_t2
  let c1_i32_18 : BitVec 32 := 1#32
  let v30 : BitVec 32 := Scalar.muli arg15 c1_i32_18
  let v31 : BitVec 32 := Scalar.addi c0_i32_19 v30
  let c512_i32_66 : BitVec 32 := 512#32
  let v126 : BitVec 32 := Scalar.muli v31 c512_i32_66
  let c128_i32_67 : BitVec 32 := 128#32
  let v127 : BitVec 32 := Scalar.addi v126 c128_i32_67
  v127
def k0_mult14 (k0_t2 : Fin k0_t2_loop.trips) : BitVec 32 :=
  let c0_i32_19 : BitVec 32 := 0#32
  let c0_i32_16 : BitVec 32 := 0#32
  let c1_i32 : BitVec 32 := 1#32
  let arg15 : BitVec 32 := Scf.iv c0_i32_16 c1_i32 k0_t2
  let c1_i32_18 : BitVec 32 := 1#32
  let v30 : BitVec 32 := Scalar.muli arg15 c1_i32_18
  let v31 : BitVec 32 := Scalar.addi c0_i32_19 v30
  let c512_i32_69 : BitVec 32 := 512#32
  let v138 : BitVec 32 := Scalar.muli v31 c512_i32_69
  let c256_i32_70 : BitVec 32 := 256#32
  let v139 : BitVec 32 := Scalar.addi v138 c256_i32_70
  v139
def k0_mult15 (k0_t2 : Fin k0_t2_loop.trips) : BitVec 32 :=
  let c0_i32_19 : BitVec 32 := 0#32
  let c0_i32_16 : BitVec 32 := 0#32
  let c1_i32 : BitVec 32 := 1#32
  let arg15 : BitVec 32 := Scf.iv c0_i32_16 c1_i32 k0_t2
  let c1_i32_18 : BitVec 32 := 1#32
  let v30 : BitVec 32 := Scalar.muli arg15 c1_i32_18
  let v31 : BitVec 32 := Scalar.addi c0_i32_19 v30
  let c512_i32_72 : BitVec 32 := 512#32
  let v150 : BitVec 32 := Scalar.muli v31 c512_i32_72
  let c384_i32_73 : BitVec 32 := 384#32
  let v151 : BitVec 32 := Scalar.addi v150 c384_i32_73
  v151
def k0_cond3 (i : grid0.Coords) : BitVec 1 :=
  let arg0 : BitVec 32 := BitVec.ofNat 32 (i 0).val
  let c16_i32_3 : BitVec 32 := 16#32
  let v8 : BitVec 1 := Scalar.cmpi .eq arg0 c16_i32_3
  let v9 : BitVec 32 := Scalar.extui v8
  let c0_i32_4 : BitVec 32 := 0#32
  let v10 : BitVec 1 := Scalar.cmpi .ne v9 c0_i32_4
  v10

@[reducible] def k0_t3_loop : Scf.Loop 32 :=
  let c0_i32_13 : BitVec 32 := 0#32
  let c32_i32 : BitVec 32 := 32#32
  let v25 : BitVec 32 := Scalar.addi c0_i32_13 c32_i32
  let c1_i32 : BitVec 32 := 1#32
  ⟨c0_i32_13, v25, c1_i32⟩
def k0_mult16 (k0_t3 : Fin k0_t3_loop.trips) : BitVec 32 :=
  let c0_i32_16 : BitVec 32 := 0#32
  let c0_i32_13 : BitVec 32 := 0#32
  let c1_i32 : BitVec 32 := 1#32
  let arg15 : BitVec 32 := Scf.iv c0_i32_13 c1_i32 k0_t3
  let c1_i32_15 : BitVec 32 := 1#32
  let v26 : BitVec 32 := Scalar.muli arg15 c1_i32_15
  let v27 : BitVec 32 := Scalar.addi c0_i32_16 v26
  let c512_i32 : BitVec 32 := 512#32
  let v28 : BitVec 32 := Scalar.muli v27 c512_i32
  v28
def k0_mult17 (k0_t3 : Fin k0_t3_loop.trips) : BitVec 32 :=
  let c0_i32_16 : BitVec 32 := 0#32
  let c0_i32_13 : BitVec 32 := 0#32
  let c1_i32 : BitVec 32 := 1#32
  let arg15 : BitVec 32 := Scf.iv c0_i32_13 c1_i32 k0_t3
  let c1_i32_15 : BitVec 32 := 1#32
  let v26 : BitVec 32 := Scalar.muli arg15 c1_i32_15
  let v27 : BitVec 32 := Scalar.addi c0_i32_16 v26
  let c512_i32_21 : BitVec 32 := 512#32
  let v32 : BitVec 32 := Scalar.muli v27 c512_i32_21
  let c0_i32_22 : BitVec 32 := 0#32
  let v33 : BitVec 32 := Scalar.addi v32 c0_i32_22
  v33
def k0_off7 (k0_t3 : Fin k0_t3_loop.trips) (c0_i32_22 : BitVec 32) : Fin 2 → Nat :=
  let c0_23 : Index := 0#32
  let c0_i32_16 : BitVec 32 := 0#32
  let c0_i32_13 : BitVec 32 := 0#32
  let c1_i32 : BitVec 32 := 1#32
  let arg15 : BitVec 32 := Scf.iv c0_i32_13 c1_i32 k0_t3
  let c1_i32_15 : BitVec 32 := 1#32
  let v26 : BitVec 32 := Scalar.muli arg15 c1_i32_15
  let v27 : BitVec 32 := Scalar.addi c0_i32_16 v26
  let c512_i32_21 : BitVec 32 := 512#32
  let v32 : BitVec 32 := Scalar.muli v27 c512_i32_21
  let v33 : BitVec 32 := Scalar.addi v32 c0_i32_22
  let v34 : BitVec 32 := v33
  let v35 : Index := Scalar.indexCast v34
  ![0, v35.toNat]
def k0_mult18 (k0_t3 : Fin k0_t3_loop.trips) : BitVec 32 :=
  let c0_i32_16 : BitVec 32 := 0#32
  let c0_i32_13 : BitVec 32 := 0#32
  let c1_i32 : BitVec 32 := 1#32
  let arg15 : BitVec 32 := Scf.iv c0_i32_13 c1_i32 k0_t3
  let c1_i32_15 : BitVec 32 := 1#32
  let v26 : BitVec 32 := Scalar.muli arg15 c1_i32_15
  let v27 : BitVec 32 := Scalar.addi c0_i32_16 v26
  let c512_i32_25 : BitVec 32 := 512#32
  let v43 : BitVec 32 := Scalar.muli v27 c512_i32_25
  let c128_i32 : BitVec 32 := 128#32
  let v44 : BitVec 32 := Scalar.addi v43 c128_i32
  v44
def k0_mult19 (k0_t3 : Fin k0_t3_loop.trips) : BitVec 32 :=
  let c0_i32_16 : BitVec 32 := 0#32
  let c0_i32_13 : BitVec 32 := 0#32
  let c1_i32 : BitVec 32 := 1#32
  let arg15 : BitVec 32 := Scf.iv c0_i32_13 c1_i32 k0_t3
  let c1_i32_15 : BitVec 32 := 1#32
  let v26 : BitVec 32 := Scalar.muli arg15 c1_i32_15
  let v27 : BitVec 32 := Scalar.addi c0_i32_16 v26
  let c512_i32_28 : BitVec 32 := 512#32
  let v54 : BitVec 32 := Scalar.muli v27 c512_i32_28
  let c256_i32 : BitVec 32 := 256#32
  let v55 : BitVec 32 := Scalar.addi v54 c256_i32
  v55
def k0_mult20 (k0_t3 : Fin k0_t3_loop.trips) : BitVec 32 :=
  let c0_i32_16 : BitVec 32 := 0#32
  let c0_i32_13 : BitVec 32 := 0#32
  let c1_i32 : BitVec 32 := 1#32
  let arg15 : BitVec 32 := Scf.iv c0_i32_13 c1_i32 k0_t3
  let c1_i32_15 : BitVec 32 := 1#32
  let v26 : BitVec 32 := Scalar.muli arg15 c1_i32_15
  let v27 : BitVec 32 := Scalar.addi c0_i32_16 v26
  let c512_i32_31 : BitVec 32 := 512#32
  let v65 : BitVec 32 := Scalar.muli v27 c512_i32_31
  let c384_i32 : BitVec 32 := 384#32
  let v66 : BitVec 32 := Scalar.addi v65 c384_i32
  v66
def k0_off8 (k0_t3 : Fin k0_t3_loop.trips) : Fin 3 → Nat :=
  let c0_38 : Index := 0#32
  let c0_i32_16 : BitVec 32 := 0#32
  let c0_i32_13 : BitVec 32 := 0#32
  let c1_i32 : BitVec 32 := 1#32
  let arg15 : BitVec 32 := Scf.iv c0_i32_13 c1_i32 k0_t3
  let c1_i32_15 : BitVec 32 := 1#32
  let v26 : BitVec 32 := Scalar.muli arg15 c1_i32_15
  let v27 : BitVec 32 := Scalar.addi c0_i32_16 v26
  let c512_i32 : BitVec 32 := 512#32
  let v28 : BitVec 32 := Scalar.muli v27 c512_i32
  let v29 : BitVec 32 := v28
  let v81 : Index := Scalar.indexCast v29
  let c0_39 : Index := 0#32
  ![0, v81.toNat, 0]
def k0_cond4 (i : grid0.Coords) : BitVec 1 :=
  let arg0 : BitVec 32 := BitVec.ofNat 32 (i 0).val
  let c0_i32_5 : BitVec 32 := 0#32
  let v11 : BitVec 1 := Scalar.cmpi .sgt arg0 c0_i32_5
  let v12 : BitVec 32 := Scalar.extui v11
  let c0_i32_6 : BitVec 32 := 0#32
  let v13 : BitVec 1 := Scalar.cmpi .ne v12 c0_i32_6
  v13

def k0_off9 (i : grid0.Coords) : Fin 1 → Nat :=
  let arg0 : BitVec 32 := BitVec.ofNat 32 (i 0).val
  let c1_i32 : BitVec 32 := 1#32
  let v23 : BitVec 32 := Scalar.subi arg0 c1_i32
  let v24 : Index := Scalar.indexCast v23
  ![v24.toNat]
def cc0_transform_0 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_7 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_8 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S1x200x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x200x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x200x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x16384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x16384x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16384x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x200x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x200x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "inv_p_scale" => some ((1 / 448 : ℝ) : EReal)
  | "log2_p_scale" => some (((Real.log 448) * (Real.log 2)⁻¹ : ℝ) : EReal)
  | "log2e" => some (((Real.log 2)⁻¹ : ℝ) : EReal)
  | "scale_log2e" => some (((Real.sqrt 192)⁻¹ * (Real.log 2)⁻¹ : ℝ) : EReal)
  | _ => none
-- ==== ReferenceIdeal.lean ====
abbrev S16x200x128 : Shape := ⟨3, ![16, 200, 128]⟩
abbrev S16x200 : Shape := ⟨2, ![16, 200]⟩
abbrev S16x200x64 : Shape := ⟨3, ![16, 200, 64]⟩
abbrev S16x16384x128 : Shape := ⟨3, ![16, 16384, 128]⟩
abbrev S16 : Shape := ⟨1, ![16]⟩
abbrev S16384x64 : Shape := ⟨2, ![16384, 64]⟩
abbrev S16x1 : Shape := ⟨2, ![16, 1]⟩
abbrev S1x16384x64 : Shape := ⟨3, ![1, 16384, 64]⟩
abbrev S16x200x16384 : Shape := ⟨3, ![16, 200, 16384]⟩
abbrev S16x200x1 : Shape := ⟨3, ![16, 200, 1]⟩
abbrev S16x16384x64 : Shape := ⟨3, ![16, 16384, 64]⟩
abbrev S16x1x1 : Shape := ⟨3, ![16, 1, 1]⟩

abbrev nBuf : Space → Nat
  | .hbm => 13
  | .vmem => 10
  | .smem => 0
  | _ => 0

abbrev bufTy : (tb : Table) → Fin (tcTables nBuf tb) → BufTy
  | .hbm, ⟨0, _⟩ => ⟨S16x200x128, .fp8e4m3⟩
  | .hbm, ⟨1, _⟩ => ⟨S16x200, .f32⟩
  | .hbm, ⟨2, _⟩ => ⟨S16x200x64, .bf16⟩
  | .hbm, ⟨3, _⟩ => ⟨S16x16384x128, .fp8e4m3⟩
  | .hbm, ⟨4, _⟩ => ⟨S16, .f32⟩
  | .hbm, ⟨5, _⟩ => ⟨S16x16384x128, .fp8e4m3⟩
  | .hbm, ⟨6, _⟩ => ⟨S16, .f32⟩
  | .hbm, ⟨7, _⟩ => ⟨S16384x64, .bf16⟩
  | .hbm, ⟨8, _⟩ => ⟨S16x1, .f32⟩
  | .hbm, ⟨9, _⟩ => ⟨S16x1, .f32⟩
  | .hbm, ⟨10, _⟩ => ⟨S1x16384x64, .bf16⟩
  | .hbm, ⟨11, _⟩ => ⟨S16x200x128, .f32⟩
  | .hbm, ⟨12, _⟩ => ⟨S16x200x128, .f32⟩
  | .local _ .vmem, ⟨0, _⟩ => ⟨S16x200x128, .fp8e4m3⟩
  | .local _ .vmem, ⟨1, _⟩ => ⟨S16x200, .f32⟩
  | .local _ .vmem, ⟨2, _⟩ => ⟨S16x200x64, .bf16⟩
  | .local _ .vmem, ⟨3, _⟩ => ⟨S16x16384x128, .fp8e4m3⟩
  | .local _ .vmem, ⟨4, _⟩ => ⟨S16x1, .f32⟩
  | .local _ .vmem, ⟨5, _⟩ => ⟨S16x16384x128, .fp8e4m3⟩
  | .local _ .vmem, ⟨6, _⟩ => ⟨S16x1, .f32⟩
  | .local _ .vmem, ⟨7, _⟩ => ⟨S1x16384x64, .bf16⟩
  | .local _ .vmem, ⟨8, _⟩ => ⟨S16x200x128, .f32⟩
  | .local _ .vmem, ⟨9, _⟩ => ⟨S16x200x128, .f32⟩
  | _, _ => ⟨S16x200x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F] [Named F]

def κ : String → Option EReal := fun
  | "log2e" => some (((Real.log 2)⁻¹ : ℝ) : EReal)
  | "scale" => some (((Real.sqrt 192)⁻¹ : ℝ) : EReal)
  | _ => none

abbrev grid0 : Pipeline.Grid := .none

abbrev stage0_0 : Fin 1 → Memref sig .tc .vmem S16x200x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x200 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x200x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x16384x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x16384x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x16384x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x200x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x200x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== OutKernel.lean ====
abbrev S200x7168 : Shape := ⟨2, ![200, 7168]⟩
abbrev S16x200x128 : Shape := ⟨3, ![16, 200, 128]⟩
abbrev S16x200x512 : Shape := ⟨3, ![16, 200, 512]⟩
abbrev S512x4096 : Shape := ⟨2, ![512, 4096]⟩
abbrev S4x16x2 : Shape := ⟨3, ![4, 16, 2]⟩
abbrev S16x56 : Shape := ⟨2, ![16, 56]⟩
abbrev S2048x7168 : Shape := ⟨2, ![2048, 7168]⟩
abbrev S4x16x2x1 : Shape := ⟨4, ![4, 16, 2, 1]⟩
abbrev S4x16x2x128 : Shape := ⟨4, ![4, 16, 2, 128]⟩
abbrev S4x16x1x128 : Shape := ⟨4, ![4, 16, 1, 128]⟩
abbrev S4x16x128 : Shape := ⟨3, ![4, 16, 128]⟩
abbrev S16x56x128 : Shape := ⟨3, ![16, 56, 128]⟩
abbrev S16x7168 : Shape := ⟨2, ![16, 7168]⟩
abbrev S16x1x7168 : Shape := ⟨3, ![16, 1, 7168]⟩
abbrev S200x2048 : Shape := ⟨2, ![200, 2048]⟩
abbrev S200x16 : Shape := ⟨2, ![200, 16]⟩
abbrev S200x1024 : Shape := ⟨2, ![200, 1024]⟩
abbrev S16x1x1024 : Shape := ⟨3, ![16, 1, 1024]⟩
abbrev S2048x1024 : Shape := ⟨2, ![2048, 1024]⟩
abbrev S200x128 : Shape := ⟨2, ![200, 128]⟩
abbrev S128x128 : Shape := ⟨2, ![128, 128]⟩
abbrev S1x1x1x128 : Shape := ⟨4, ![1, 1, 1, 128]⟩
abbrev S1x128 : Shape := ⟨2, ![1, 128]⟩
abbrev S512x128 : Shape := ⟨2, ![512, 128]⟩
abbrev S1x200x512 : Shape := ⟨3, ![1, 200, 512]⟩
abbrev S200x512 : Shape := ⟨2, ![200, 512]⟩
abbrev S1x200x128 : Shape := ⟨3, ![1, 200, 128]⟩
abbrev S200 : Shape := ⟨1, ![200]⟩
abbrev S200x1 : Shape := ⟨2, ![200, 1]⟩
abbrev S128x1024 : Shape := ⟨2, ![128, 1024]⟩
abbrev S1x1x1024 : Shape := ⟨3, ![1, 1, 1024]⟩
abbrev S1x1024 : Shape := ⟨2, ![1, 1024]⟩

abbrev nBuf : Space → Nat
  | .hbm => 22
  | .vmem => 19
  | .smem => 0
  | _ => 0

abbrev bufTy : (tb : Table) → Fin (tcTables nBuf tb) → BufTy
  | .hbm, ⟨0, _⟩ => ⟨S200x7168, .bf16⟩
  | .hbm, ⟨1, _⟩ => ⟨S16x200x128, .f32⟩
  | .hbm, ⟨2, _⟩ => ⟨S16x200x128, .f32⟩
  | .hbm, ⟨3, _⟩ => ⟨S16x200x512, .bf16⟩
  | .hbm, ⟨4, _⟩ => ⟨S16x200x128, .f32⟩
  | .hbm, ⟨5, _⟩ => ⟨S512x4096, .fp8e4m3⟩
  | .hbm, ⟨6, _⟩ => ⟨S4x16x2, .f32⟩
  | .hbm, ⟨7, _⟩ => ⟨S16x56, .f32⟩
  | .hbm, ⟨8, _⟩ => ⟨S2048x7168, .fp8e4m3⟩
  | .hbm, ⟨9, _⟩ => ⟨S4x16x2x1, .f32⟩
  | .hbm, ⟨10, _⟩ => ⟨S4x16x2x128, .f32⟩
  | .hbm, ⟨11, _⟩ => ⟨S4x16x1x128, .f32⟩
  | .hbm, ⟨12, _⟩ => ⟨S4x16x128, .f32⟩
  | .hbm, ⟨13, _⟩ => ⟨S4x16x1x128, .f32⟩
  | .hbm, ⟨14, _⟩ => ⟨S16x56x128, .f32⟩
  | .hbm, ⟨15, _⟩ => ⟨S16x7168, .f32⟩
  | .hbm, ⟨16, _⟩ => ⟨S16x1x7168, .f32⟩
  | .hbm, ⟨17, _⟩ => ⟨S200x7168, .bf16⟩
  | .hbm, ⟨18, _⟩ => ⟨S16x200x128, .f32⟩
  | .hbm, ⟨19, _⟩ => ⟨S16x200x128, .f32⟩
  | .hbm, ⟨20, _⟩ => ⟨S200x2048, .fp8e4m3⟩
  | .hbm, ⟨21, _⟩ => ⟨S200x16, .f32⟩
  | .local _ .vmem, ⟨0, _⟩ => ⟨S200x1024, .bf16⟩
  | .local _ .vmem, ⟨1, _⟩ => ⟨S200x1024, .bf16⟩
  | .local _ .vmem, ⟨2, _⟩ => ⟨S16x200x128, .f32⟩
  | .local _ .vmem, ⟨3, _⟩ => ⟨S16x200x128, .f32⟩
  | .local _ .vmem, ⟨4, _⟩ => ⟨S16x200x512, .bf16⟩
  | .local _ .vmem, ⟨5, _⟩ => ⟨S16x200x128, .f32⟩
  | .local _ .vmem, ⟨6, _⟩ => ⟨S512x4096, .fp8e4m3⟩
  | .local _ .vmem, ⟨7, _⟩ => ⟨S4x16x1x128, .f32⟩
  | .local _ .vmem, ⟨8, _⟩ => ⟨S16x1x1024, .f32⟩
  | .local _ .vmem, ⟨9, _⟩ => ⟨S16x1x1024, .f32⟩
  | .local _ .vmem, ⟨10, _⟩ => ⟨S2048x1024, .fp8e4m3⟩
  | .local _ .vmem, ⟨11, _⟩ => ⟨S2048x1024, .fp8e4m3⟩
  | .local _ .vmem, ⟨12, _⟩ => ⟨S200x1024, .bf16⟩
  | .local _ .vmem, ⟨13, _⟩ => ⟨S200x1024, .bf16⟩
  | .local _ .vmem, ⟨14, _⟩ => ⟨S16x200x128, .f32⟩
  | .local _ .vmem, ⟨15, _⟩ => ⟨S16x200x128, .f32⟩
  | .local _ .vmem, ⟨16, _⟩ => ⟨S200x2048, .fp8e4m3⟩
  | .local _ .vmem, ⟨17, _⟩ => ⟨S200x16, .f32⟩
  | .local _ .vmem, ⟨18, _⟩ => ⟨S200x2048, .bf16⟩
  | _, _ => ⟨S200x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev main_v8_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem12_0 : DmaSem sig := 16
abbrev cc0_sem13_0 : DmaSem sig := 17

abbrev nD : Nat := 1
abbrev τ : Topo := Topo.v7x

variable {F : FTy → Type} [BitOps F]

abbrev grid0 : Pipeline.Grid := ⟨1, ![7], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S200x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x200x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x200x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x200x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x200x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x16x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x1024 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S200x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S16x200x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x200x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S200x2048 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S200x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== OutReference.lean ====
abbrev S200x7168 : Shape := ⟨2, ![200, 7168]⟩
abbrev S16x200x128 : Shape := ⟨3, ![16, 200, 128]⟩
abbrev S16x200x512 : Shape := ⟨3, ![16, 200, 512]⟩
abbrev S512x4096 : Shape := ⟨2, ![512, 4096]⟩
abbrev S4x16x2 : Shape := ⟨3, ![4, 16, 2]⟩
abbrev S16x56 : Shape := ⟨2, ![16, 56]⟩
abbrev S2048x7168 : Shape := ⟨2, ![2048, 7168]⟩
abbrev S4x1x1 : Shape := ⟨3, ![4, 1, 1]⟩
abbrev S4 : Shape := ⟨1, ![4]⟩
abbrev S4x128x128 : Shape := ⟨3, ![4, 128, 128]⟩
abbrev S512x128 : Shape := ⟨2, ![512, 128]⟩
abbrev S1x200x512 : Shape := ⟨3, ![1, 200, 512]⟩
abbrev S200x512 : Shape := ⟨2, ![200, 512]⟩
abbrev S200x128 : Shape := ⟨2, ![200, 128]⟩
abbrev S1x200x128 : Shape := ⟨3, ![1, 200, 128]⟩

abbrev nBuf : Space → Nat
  | .hbm => 11
  | .vmem => 8
  | .smem => 0
  | _ => 0

abbrev bufTy : (tb : Table) → Fin (tcTables nBuf tb) → BufTy
  | .hbm, ⟨0, _⟩ => ⟨S200x7168, .bf16⟩
  | .hbm, ⟨1, _⟩ => ⟨S16x200x128, .f32⟩
  | .hbm, ⟨2, _⟩ => ⟨S16x200x128, .f32⟩
  | .hbm, ⟨3, _⟩ => ⟨S16x200x512, .bf16⟩
  | .hbm, ⟨4, _⟩ => ⟨S16x200x128, .f32⟩
  | .hbm, ⟨5, _⟩ => ⟨S512x4096, .fp8e4m3⟩
  | .hbm, ⟨6, _⟩ => ⟨S4x16x2, .f32⟩
  | .hbm, ⟨7, _⟩ => ⟨S16x56, .f32⟩
  | .hbm, ⟨8, _⟩ => ⟨S2048x7168, .fp8e4m3⟩
  | .hbm, ⟨9, _⟩ => ⟨S16x200x128, .f32⟩
  | .hbm, ⟨10, _⟩ => ⟨S16x200x128, .f32⟩
  | .local _ .vmem, ⟨0, _⟩ => ⟨S16x200x128, .f32⟩
  | .local _ .vmem, ⟨1, _⟩ => ⟨S16x200x128, .f32⟩
  | .local _ .vmem, ⟨2, _⟩ => ⟨S16x200x512, .bf16⟩
  | .local _ .vmem, ⟨3, _⟩ => ⟨S16x200x128, .f32⟩
  | .local _ .vmem, ⟨4, _⟩ => ⟨S512x4096, .fp8e4m3⟩
  | .local _ .vmem, ⟨5, _⟩ => ⟨S4x16x2, .f32⟩
  | .local _ .vmem, ⟨6, _⟩ => ⟨S16x200x128, .f32⟩
  | .local _ .vmem, ⟨7, _⟩ => ⟨S16x200x128, .f32⟩
  | _, _ => ⟨S200x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S16x200x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x200x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x200x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x200x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x16x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x200x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x200x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.KernelRunA.lean ====
module

public import proofs.«01_k».proof.Proof.Gen.Kernel.Frame.Runs

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces that the first counted loop stores depend on what it finds in the running maximum, not on what
    the score buffer held before: it stores every score it is asked for and loads none back. -/
theorem t1_lists (𝒱 : Variants) (c : Dev nD) (bd : Option 𝒱.V) (i : grid0.Coords) (arg1 : Memref sig .tc .vmem S1x200x128 .fp8e4m3) (harg1 : arg1.IsWhole) (arg2 : Memref sig .tc .vmem S1x200x64 .bf16) (harg2 : arg2.IsWhole) (arg3 : Memref sig .tc .vmem S1x200x128 .f32) (harg3 : arg3.IsWhole) (arg4 : Memref sig .tc .vmem S64x16384 .bf16) (harg4 : arg4.IsWhole) (arg5 : Memref sig .tc .smem S16 .f32) (harg5 : arg5.IsWhole) (arg6 : Memref sig .tc .vmem S1x16384x128 .fp8e4m3) (harg6 : arg6.IsWhole) (arg7 : Memref sig .tc .vmem S1x16384x128 .fp8e4m3) (harg7 : arg7.IsWhole) (arg8 : Memref sig .tc .vmem S1x200x128 .f32) (harg8 : arg8.IsWhole) (arg9 : Memref sig .tc .vmem S1x200x128 .f32) (harg9 : arg9.IsWhole) (arg10 : Memref sig .tc .vmem S200x16384 .f32) (harg10 : arg10.IsWhole) (arg11 : Memref sig .tc .vmem S200x128 .f32) (harg11 : arg11.IsWhole) (arg12 : Memref sig .tc .vmem S200x128 .f32) (harg12 : arg12.IsWhole) (arg13 : Memref sig .tc .vmem S200x128 .f32) (harg13 : arg13.IsWhole) (arg14 : Memref sig .tc .vmem S200x128 .f32) (harg14 : arg14.IsWhole) (k0_h1 : k0_cond1 i = 1#1) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg6 : BufTy.Contents (Elt F) arg6.view.ty) (G_arg10 G : BufTy.Contents (Elt F) arg10.view.ty) (G_arg11 : BufTy.Contents (Elt F) arg11.view.ty) (n : ℕ) :
    pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg1 X_arg2 X_arg3 X_arg4 X_arg6 G_arg10 G_arg11 n = pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg1 X_arg2 X_arg3 X_arg4 X_arg6 G G_arg11 n := by
  induction n with
  | zero => rfl
  | succ n ih =>
    rw [pb_k0_t1.eq_2, pb_k0_t1.eq_2, ih]
    unfold pb_k0_t1Step
    split
    · refine Prod.ext ?_ ?_ <;> dsimp only [tripL_k0_t1] <;> unfold trip_k0_t1 <;> rfl
    · rfl

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 not taken, `scf.if` 3 not taken, `scf.if` 4 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (7, 8) at anything, handed back at some contents nothing names. -/
noncomputable def kernelRun0_A (c : Dev nD) (i : grid0.Coords) (arg1 : Memref sig .tc .vmem S1x200x128 .fp8e4m3) (harg1 : arg1.IsWhole) (arg2 : Memref sig .tc .vmem S1x200x64 .bf16) (harg2 : arg2.IsWhole) (arg3 : Memref sig .tc .vmem S1x200x128 .f32) (harg3 : arg3.IsWhole) (arg4 : Memref sig .tc .vmem S64x16384 .bf16) (harg4 : arg4.IsWhole) (arg5 : Memref sig .tc .smem S16 .f32) (harg5 : arg5.IsWhole) (arg6 : Memref sig .tc .vmem S1x16384x128 .fp8e4m3) (harg6 : arg6.IsWhole) (arg7 : Memref sig .tc .vmem S1x16384x128 .fp8e4m3) (harg7 : arg7.IsWhole) (arg8 : Memref sig .tc .vmem S1x200x128 .f32) (harg8 : arg8.IsWhole) (arg9 : Memref sig .tc .vmem S1x200x128 .f32) (harg9 : arg9.IsWhole) (arg10 : Memref sig .tc .vmem S200x16384 .f32) (harg10 : arg10.IsWhole) (arg11 : Memref sig .tc .vmem S200x128 .f32) (harg11 : arg11.IsWhole) (arg12 : Memref sig .tc .vmem S200x128 .f32) (harg12 : arg12.IsWhole) (arg13 : Memref sig .tc .vmem S200x128 .f32) (harg13 : arg13.IsWhole) (arg14 : Memref sig .tc .vmem S200x128 .f32) (harg14 : arg14.IsWhole) (hc0 : cond0_0 i) (hc1 : ¬cond0_1 i) (hc2 : ¬cond0_2 i) (hc3 : ¬cond0_3 i) (hc4 : cond0_4 i)
    (x0 : Vec F S1x200x128 .fp8e4m3) (x1 : Vec F S1x200x64 .bf16) (x2 : Vec F S1x200x128 .f32) (x3 : Vec F S64x16384 .bf16) (x4 : Vec F S16 .f32) (x5 : Vec F S1x16384x128 .fp8e4m3) (x6 : Vec F S1x16384x128 .fp8e4m3) :
    Σ' (LS0 : List (View.Piece (Elt F) S200x16384 .f32)), { LS2 : List (View.Piece (Elt F) S200x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ f, arg10.view.loc (c : Thread nD τ) ↦[arg10.view.set]{fullShare} arg10.view.writes (Elt F) f LS0) ∗ (∃ d, owns (c : Thread nD τ) arg11 fullShare d) ∗ (∃ f, arg12.view.loc (c : Thread nD τ) ↦[arg12.view.set]{fullShare} arg12.view.writes (Elt F) f LS2) ∗ (∃ d, owns (c : Thread nD τ) arg13 fullShare d) ∗ (∃ d, owns (c : Thread nD τ) arg14 fullShare d)) -∗ K ⟨⟩))
          ⊢ wp frame (wpE (defs₀ (F := F)) Variants.none c none) E (cc0_mla_prefix i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0_mla_prefix_eq_skeleton]; unfold cc0_mla_prefix_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1 | sl_exact hc2 | sl_exact hc3 | sl_exact hc4)
    sl_step
    iapply Hk
    sl_unfold_run_names
    rw [t1_lists (G_arg10 := fs0) (G := arg10.view.junk)]
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]
    · iexists _, _; isplitr; swap; · iexact H8
      ipureintro; rfl
    isplitl [HS0]; · iexists _; iexact HS0
    isplitl [HS1]
    · iexists _, _; isplitr; swap; · iexact HS1
      ipureintro; rfl
    isplitl [HS2]; · iexists _; iexact HS2
    isplitl [HS3]
    · iexists _, _; isplitr; swap; · iexact HS3
      ipureintro; rfl
    iexists _, _; isplitr; swap; · iexact HS4
    ipureintro; rfl

end Cert.Kernel.Hand

end
-- ==== Proof.KernelRunB.lean ====
module

public import proofs.«01_k».proof.Proof.KernelRunA

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken, `scf.if` 3 taken, `scf.if` 4 taken: points 1, 2, … 15: 15 of 17), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (7, 8) at anything, handed back at some contents nothing names. -/
noncomputable def kernelRun0_B (c : Dev nD) (i : grid0.Coords) (arg1 : Memref sig .tc .vmem S1x200x128 .fp8e4m3) (harg1 : arg1.IsWhole) (arg2 : Memref sig .tc .vmem S1x200x64 .bf16) (harg2 : arg2.IsWhole) (arg3 : Memref sig .tc .vmem S1x200x128 .f32) (harg3 : arg3.IsWhole) (arg4 : Memref sig .tc .vmem S64x16384 .bf16) (harg4 : arg4.IsWhole) (arg5 : Memref sig .tc .smem S16 .f32) (harg5 : arg5.IsWhole) (arg6 : Memref sig .tc .vmem S1x16384x128 .fp8e4m3) (harg6 : arg6.IsWhole) (arg7 : Memref sig .tc .vmem S1x16384x128 .fp8e4m3) (harg7 : arg7.IsWhole) (arg8 : Memref sig .tc .vmem S1x200x128 .f32) (harg8 : arg8.IsWhole) (arg9 : Memref sig .tc .vmem S1x200x128 .f32) (harg9 : arg9.IsWhole) (arg10 : Memref sig .tc .vmem S200x16384 .f32) (harg10 : arg10.IsWhole) (arg11 : Memref sig .tc .vmem S200x128 .f32) (harg11 : arg11.IsWhole) (arg12 : Memref sig .tc .vmem S200x128 .f32) (harg12 : arg12.IsWhole) (arg13 : Memref sig .tc .vmem S200x128 .f32) (harg13 : arg13.IsWhole) (arg14 : Memref sig .tc .vmem S200x128 .f32) (harg14 : arg14.IsWhole) (hc0 : ¬cond0_0 i) (hc1 : cond0_1 i) (hc2 : ¬cond0_2 i) (hc3 : cond0_3 i) (hc4 : cond0_4 i)
    (x0 : Vec F S1x200x128 .fp8e4m3) (x1 : Vec F S1x200x64 .bf16) (x2 : Vec F S1x200x128 .f32) (x3 : Vec F S64x16384 .bf16) (x4 : Vec F S16 .f32) (x5 : Vec F S1x16384x128 .fp8e4m3) (x6 : Vec F S1x16384x128 .fp8e4m3) (xs0 : Vec F S200x16384 .f32) (xs2 : Vec F S200x128 .f32) :
    Σ' (LS0 : List (View.Piece (Elt F) S200x16384 .f32)), { LS2 : List (View.Piece (Elt F) S200x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare xs0 ∗ (∃ d, owns (c : Thread nD τ) arg11 fullShare d) ∗ owns (c : Thread nD τ) arg12 fullShare xs2 ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (arg10.view.loc (c : Thread nD τ) ↦[arg10.view.set]{fullShare} arg10.view.writes (Elt F) (harg10.unread xs0) LS0) ∗ (∃ d, owns (c : Thread nD τ) arg11 fullShare d) ∗ (∃ f, arg12.view.loc (c : Thread nD τ) ↦[arg12.view.set]{fullShare} arg12.view.writes (Elt F) f LS2) ∗ (∃ d, owns (c : Thread nD τ) arg13 fullShare d) ∗ (∃ d, owns (c : Thread nD τ) arg14 fullShare d)) -∗ K ⟨⟩))
          ⊢ wp frame (wpE (defs₀ (F := F)) Variants.none c none) E (cc0_mla_prefix i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0_mla_prefix_eq_skeleton]; unfold cc0_mla_prefix_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, ⟨%ds1, %fs1, -, HS1⟩, ⟨%fs2, %hfs2, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg10.eq_unread hfs0; obtain rfl := harg12.eq_unread hfs2
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]
    · iexists _, _; isplitr; swap; · iexact H8
      ipureintro; rfl
    isplitl [HS0]; · iexact HS0
    isplitl [HS1]
    · iexists _, _; isplitr; swap; · iexact HS1
      ipureintro; rfl
    isplitl [HS2]; · iexists _; iexact HS2
    isplitl [HS3]
    · iexists _, _; isplitr; swap; · iexact HS3
      ipureintro; rfl
    iexists _, _; isplitr; swap; · iexact HS4
    ipureintro; rfl

end Cert.Kernel.Hand

end
-- ==== Proof.KernelRunC.lean ====
module

public import proofs.«01_k».proof.Proof.KernelRunB

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 not taken, `scf.if` 2 taken, `scf.if` 3 taken, `scf.if` 4 not taken: points 16), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (7, 8) at anything, handed back at some contents nothing names. -/
noncomputable def kernelRun0_C (c : Dev nD) (i : grid0.Coords) (arg1 : Memref sig .tc .vmem S1x200x128 .fp8e4m3) (harg1 : arg1.IsWhole) (arg2 : Memref sig .tc .vmem S1x200x64 .bf16) (harg2 : arg2.IsWhole) (arg3 : Memref sig .tc .vmem S1x200x128 .f32) (harg3 : arg3.IsWhole) (arg4 : Memref sig .tc .vmem S64x16384 .bf16) (harg4 : arg4.IsWhole) (arg5 : Memref sig .tc .smem S16 .f32) (harg5 : arg5.IsWhole) (arg6 : Memref sig .tc .vmem S1x16384x128 .fp8e4m3) (harg6 : arg6.IsWhole) (arg7 : Memref sig .tc .vmem S1x16384x128 .fp8e4m3) (harg7 : arg7.IsWhole) (arg8 : Memref sig .tc .vmem S1x200x128 .f32) (harg8 : arg8.IsWhole) (arg9 : Memref sig .tc .vmem S1x200x128 .f32) (harg9 : arg9.IsWhole) (arg10 : Memref sig .tc .vmem S200x16384 .f32) (harg10 : arg10.IsWhole) (arg11 : Memref sig .tc .vmem S200x128 .f32) (harg11 : arg11.IsWhole) (arg12 : Memref sig .tc .vmem S200x128 .f32) (harg12 : arg12.IsWhole) (arg13 : Memref sig .tc .vmem S200x128 .f32) (harg13 : arg13.IsWhole) (arg14 : Memref sig .tc .vmem S200x128 .f32) (harg14 : arg14.IsWhole) (hc0 : ¬cond0_0 i) (hc1 : ¬cond0_1 i) (hc2 : cond0_2 i) (hc3 : cond0_3 i) (hc4 : ¬cond0_4 i)
    (x0 : Vec F S1x200x128 .fp8e4m3) (x1 : Vec F S1x200x64 .bf16) (x2 : Vec F S1x200x128 .f32) (x3 : Vec F S64x16384 .bf16) (x4 : Vec F S16 .f32) (x5 : Vec F S1x16384x128 .fp8e4m3) (x6 : Vec F S1x16384x128 .fp8e4m3) (xs0 : Vec F S200x16384 .f32) (xs2 : Vec F S200x128 .f32) :
    Σ' (LS0 : List (View.Piece (Elt F) S200x16384 .f32)), { LS2 : List (View.Piece (Elt F) S200x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare xs0 ∗ (∃ d, owns (c : Thread nD τ) arg11 fullShare d) ∗ owns (c : Thread nD τ) arg12 fullShare xs2 ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare xs0 ∗ (∃ d, owns (c : Thread nD τ) arg11 fullShare d) ∗ owns (c : Thread nD τ) arg12 fullShare xs2 ∗ (∃ d, owns (c : Thread nD τ) arg13 fullShare d) ∗ (∃ d, owns (c : Thread nD τ) arg14 fullShare d)) -∗ K ⟨⟩))
          ⊢ wp frame (wpE (defs₀ (F := F)) Variants.none c none) E (cc0_mla_prefix i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨[], [], fun E K => ?run⟩
  case run =>
    simp only [cc0_mla_prefix_eq_skeleton]; unfold cc0_mla_prefix_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, ⟨%ds1, %fs1, -, HS1⟩, ⟨%fs2, %hfs2, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg10.eq_unread hfs0; obtain rfl := harg12.eq_unread hfs2
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]
    · iexists _, _; isplitr; swap; · iexact H8
      ipureintro; rfl
    isplitl [HS0]
    · iexists _; isplitr; · ipureintro; exact harg10.read_unread _
      iexact HS0
    isplitl [HS1]
    · iexists _, _; isplitr; swap; · iexact HS1
      ipureintro; rfl
    isplitl [HS2]
    · iexists _; isplitr; · ipureintro; exact harg12.read_unread _
      iexact HS2
    isplitl [HS3]
    · iexists _, _; isplitr; swap; · iexact HS3
      ipureintro; rfl
    iexists _, _; isplitr; swap; · iexact HS4
    ipureintro; rfl

end Cert.Kernel.Hand

end
-- ==== Proof.KernelFrame.lean ====
module

public import proofs.«01_k».proof.Proof.KernelRunC
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg10`, which the kernel carries between points, cover it: 128 pieces of `S200x128` tiling it (Lib/Ring.lean `Piece.tiledL`). -/
theorem scover0_A_0 (c : Dev nD) (i : grid0.Coords) (arg1 : Memref sig .tc .vmem S1x200x128 .fp8e4m3) (harg1 : arg1.IsWhole) (arg2 : Memref sig .tc .vmem S1x200x64 .bf16) (harg2 : arg2.IsWhole) (arg3 : Memref sig .tc .vmem S1x200x128 .f32) (harg3 : arg3.IsWhole) (arg4 : Memref sig .tc .vmem S64x16384 .bf16) (harg4 : arg4.IsWhole) (arg5 : Memref sig .tc .smem S16 .f32) (harg5 : arg5.IsWhole) (arg6 : Memref sig .tc .vmem S1x16384x128 .fp8e4m3) (harg6 : arg6.IsWhole) (arg7 : Memref sig .tc .vmem S1x16384x128 .fp8e4m3) (harg7 : arg7.IsWhole) (arg8 : Memref sig .tc .vmem S1x200x128 .f32) (harg8 : arg8.IsWhole) (arg9 : Memref sig .tc .vmem S1x200x128 .f32) (harg9 : arg9.IsWhole) (arg10 : Memref sig .tc .vmem S200x16384 .f32) (harg10 : arg10.IsWhole) (arg11 : Memref sig .tc .vmem S200x128 .f32) (harg11 : arg11.IsWhole) (arg12 : Memref sig .tc .vmem S200x128 .f32) (harg12 : arg12.IsWhole) (arg13 : Memref sig .tc .vmem S200x128 .f32) (harg13 : arg13.IsWhole) (arg14 : Memref sig .tc .vmem S200x128 .f32) (harg14 : arg14.IsWhole) (hc0 : cond0_0 i) (hc1 : ¬cond0_1 i) (hc2 : ¬cond0_2 i) (hc3 : ¬cond0_3 i) (hc4 : cond0_4 i)
    (x0 : Vec F S1x200x128 .fp8e4m3) (x1 : Vec F S1x200x64 .bf16) (x2 : Vec F S1x200x128 .f32) (x3 : Vec F S64x16384 .bf16) (x4 : Vec F S16 .f32) (x5 : Vec F S1x16384x128 .fp8e4m3) (x6 : Vec F S1x16384x128 .fp8e4m3) (y : S200x16384.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6).1 S200x128.size (by sl_kernel_rfl) y

/-- What case A leaves in scratch `arg10`: its pieces read back over junk. -/
def sout0_A_0 (c : Dev nD) (i : grid0.Coords) (arg1 : Memref sig .tc .vmem S1x200x128 .fp8e4m3) (harg1 : arg1.IsWhole) (arg2 : Memref sig .tc .vmem S1x200x64 .bf16) (harg2 : arg2.IsWhole) (arg3 : Memref sig .tc .vmem S1x200x128 .f32) (harg3 : arg3.IsWhole) (arg4 : Memref sig .tc .vmem S64x16384 .bf16) (harg4 : arg4.IsWhole) (arg5 : Memref sig .tc .smem S16 .f32) (harg5 : arg5.IsWhole) (arg6 : Memref sig .tc .vmem S1x16384x128 .fp8e4m3) (harg6 : arg6.IsWhole) (arg7 : Memref sig .tc .vmem S1x16384x128 .fp8e4m3) (harg7 : arg7.IsWhole) (arg8 : Memref sig .tc .vmem S1x200x128 .f32) (harg8 : arg8.IsWhole) (arg9 : Memref sig .tc .vmem S1x200x128 .f32) (harg9 : arg9.IsWhole) (arg10 : Memref sig .tc .vmem S200x16384 .f32) (harg10 : arg10.IsWhole) (arg11 : Memref sig .tc .vmem S200x128 .f32) (harg11 : arg11.IsWhole) (arg12 : Memref sig .tc .vmem S200x128 .f32) (harg12 : arg12.IsWhole) (arg13 : Memref sig .tc .vmem S200x128 .f32) (harg13 : arg13.IsWhole) (arg14 : Memref sig .tc .vmem S200x128 .f32) (harg14 : arg14.IsWhole) (hc0 : cond0_0 i) (hc1 : ¬cond0_1 i) (hc2 : ¬cond0_2 i) (hc3 : ¬cond0_3 i) (hc4 : cond0_4 i)
    (x0 : Vec F S1x200x128 .fp8e4m3) (x1 : Vec F S1x200x64 .bf16) (x2 : Vec F S1x200x128 .f32) (x3 : Vec F S64x16384 .bf16) (x4 : Vec F S16 .f32) (x5 : Vec F S1x16384x128 .fp8e4m3) (x6 : Vec F S1x16384x128 .fp8e4m3) : Vec F S200x16384 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6).1)

/-- Case A's pieces for scratch `arg12`, which the kernel carries between points, cover it: 1 piece of `S200x128` tiling it (Lib/Ring.lean `Piece.tiledL`). -/
theorem scover0_A_2 (c : Dev nD) (i : grid0.Coords) (arg1 : Memref sig .tc .vmem S1x200x128 .fp8e4m3) (harg1 : arg1.IsWhole) (arg2 : Memref sig .tc .vmem S1x200x64 .bf16) (harg2 : arg2.IsWhole) (arg3 : Memref sig .tc .vmem S1x200x128 .f32) (harg3 : arg3.IsWhole) (arg4 : Memref sig .tc .vmem S64x16384 .bf16) (harg4 : arg4.IsWhole) (arg5 : Memref sig .tc .smem S16 .f32) (harg5 : arg5.IsWhole) (arg6 : Memref sig .tc .vmem S1x16384x128 .fp8e4m3) (harg6 : arg6.IsWhole) (arg7 : Memref sig .tc .vmem S1x16384x128 .fp8e4m3) (harg7 : arg7.IsWhole) (arg8 : Memref sig .tc .vmem S1x200x128 .f32) (harg8 : arg8.IsWhole) (arg9 : Memref sig .tc .vmem S1x200x128 .f32) (harg9 : arg9.IsWhole) (arg10 : Memref sig .tc .vmem S200x16384 .f32) (harg10 : arg10.IsWhole) (arg11 : Memref sig .tc .vmem S200x128 .f32) (harg11 : arg11.IsWhole) (arg12 : Memref sig .tc .vmem S200x128 .f32) (harg12 : arg12.IsWhole) (arg13 : Memref sig .tc .vmem S200x128 .f32) (harg13 : arg13.IsWhole) (arg14 : Memref sig .tc .vmem S200x128 .f32) (harg14 : arg14.IsWhole) (hc0 : cond0_0 i) (hc1 : ¬cond0_1 i) (hc2 : ¬cond0_2 i) (hc3 : ¬cond0_3 i) (hc4 : cond0_4 i)
    (x0 : Vec F S1x200x128 .fp8e4m3) (x1 : Vec F S1x200x64 .bf16) (x2 : Vec F S1x200x128 .f32) (x3 : Vec F S64x16384 .bf16) (x4 : Vec F S16 .f32) (x5 : Vec F S1x16384x128 .fp8e4m3) (x6 : Vec F S1x16384x128 .fp8e4m3) (y : S200x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6).2.1 S200x128.size (by sl_kernel_rfl) y

/-- What case A leaves in scratch `arg12`: its pieces read back over junk. -/
def sout0_A_2 (c : Dev nD) (i : grid0.Coords) (arg1 : Memref sig .tc .vmem S1x200x128 .fp8e4m3) (harg1 : arg1.IsWhole) (arg2 : Memref sig .tc .vmem S1x200x64 .bf16) (harg2 : arg2.IsWhole) (arg3 : Memref sig .tc .vmem S1x200x128 .f32) (harg3 : arg3.IsWhole) (arg4 : Memref sig .tc .vmem S64x16384 .bf16) (harg4 : arg4.IsWhole) (arg5 : Memref sig .tc .smem S16 .f32) (harg5 : arg5.IsWhole) (arg6 : Memref sig .tc .vmem S1x16384x128 .fp8e4m3) (harg6 : arg6.IsWhole) (arg7 : Memref sig .tc .vmem S1x16384x128 .fp8e4m3) (harg7 : arg7.IsWhole) (arg8 : Memref sig .tc .vmem S1x200x128 .f32) (harg8 : arg8.IsWhole) (arg9 : Memref sig .tc .vmem S1x200x128 .f32) (harg9 : arg9.IsWhole) (arg10 : Memref sig .tc .vmem S200x16384 .f32) (harg10 : arg10.IsWhole) (arg11 : Memref sig .tc .vmem S200x128 .f32) (harg11 : arg11.IsWhole) (arg12 : Memref sig .tc .vmem S200x128 .f32) (harg12 : arg12.IsWhole) (arg13 : Memref sig .tc .vmem S200x128 .f32) (harg13 : arg13.IsWhole) (arg14 : Memref sig .tc .vmem S200x128 .f32) (harg14 : arg14.IsWhole) (hc0 : cond0_0 i) (hc1 : ¬cond0_1 i) (hc2 : ¬cond0_2 i) (hc3 : ¬cond0_3 i) (hc4 : cond0_4 i)
    (x0 : Vec F S1x200x128 .fp8e4m3) (x1 : Vec F S1x200x64 .bf16) (x2 : Vec F S1x200x128 .f32) (x3 : Vec F S64x16384 .bf16) (x4 : Vec F S16 .f32) (x5 : Vec F S1x16384x128 .fp8e4m3) (x6 : Vec F S1x16384x128 .fp8e4m3) : Vec F S200x128 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6).2.1)

/-- What case B leaves in scratch `arg10`: its pieces (stores, a counted loop's segment) read back over what the point before left there, which it read first. -/
def sout0_B_0 (c : Dev nD) (i : grid0.Coords) (arg1 : Memref sig .tc .vmem S1x200x128 .fp8e4m3) (harg1 : arg1.IsWhole) (arg2 : Memref sig .tc .vmem S1x200x64 .bf16) (harg2 : arg2.IsWhole) (arg3 : Memref sig .tc .vmem S1x200x128 .f32) (harg3 : arg3.IsWhole) (arg4 : Memref sig .tc .vmem S64x16384 .bf16) (harg4 : arg4.IsWhole) (arg5 : Memref sig .tc .smem S16 .f32) (harg5 : arg5.IsWhole) (arg6 : Memref sig .tc .vmem S1x16384x128 .fp8e4m3) (harg6 : arg6.IsWhole) (arg7 : Memref sig .tc .vmem S1x16384x128 .fp8e4m3) (harg7 : arg7.IsWhole) (arg8 : Memref sig .tc .vmem S1x200x128 .f32) (harg8 : arg8.IsWhole) (arg9 : Memref sig .tc .vmem S1x200x128 .f32) (harg9 : arg9.IsWhole) (arg10 : Memref sig .tc .vmem S200x16384 .f32) (harg10 : arg10.IsWhole) (arg11 : Memref sig .tc .vmem S200x128 .f32) (harg11 : arg11.IsWhole) (arg12 : Memref sig .tc .vmem S200x128 .f32) (harg12 : arg12.IsWhole) (arg13 : Memref sig .tc .vmem S200x128 .f32) (harg13 : arg13.IsWhole) (arg14 : Memref sig .tc .vmem S200x128 .f32) (harg14 : arg14.IsWhole) (hc0 : ¬cond0_0 i) (hc1 : cond0_1 i) (hc2 : ¬cond0_2 i) (hc3 : cond0_3 i) (hc4 : cond0_4 i)
    (x0 : Vec F S1x200x128 .fp8e4m3) (x1 : Vec F S1x200x64 .bf16) (x2 : Vec F S1x200x128 .f32) (x3 : Vec F S64x16384 .bf16) (x4 : Vec F S16 .f32) (x5 : Vec F S1x16384x128 .fp8e4m3) (x6 : Vec F S1x16384x128 .fp8e4m3) (xs0 : Vec F S200x16384 .f32) (xs2 : Vec F S200x128 .f32) : Vec F S200x16384 .f32 :=
  arg10.view.read (Elt F) (arg10.view.writes (Elt F) (harg10.unread xs0) (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xs0 xs2).1)

/-- Case B's pieces for scratch `arg12`, which the kernel carries between points, cover it: 1 piece of `S200x128` tiling it (Lib/Ring.lean `Piece.tiledL`). -/
theorem scover0_B_2 (c : Dev nD) (i : grid0.Coords) (arg1 : Memref sig .tc .vmem S1x200x128 .fp8e4m3) (harg1 : arg1.IsWhole) (arg2 : Memref sig .tc .vmem S1x200x64 .bf16) (harg2 : arg2.IsWhole) (arg3 : Memref sig .tc .vmem S1x200x128 .f32) (harg3 : arg3.IsWhole) (arg4 : Memref sig .tc .vmem S64x16384 .bf16) (harg4 : arg4.IsWhole) (arg5 : Memref sig .tc .smem S16 .f32) (harg5 : arg5.IsWhole) (arg6 : Memref sig .tc .vmem S1x16384x128 .fp8e4m3) (harg6 : arg6.IsWhole) (arg7 : Memref sig .tc .vmem S1x16384x128 .fp8e4m3) (harg7 : arg7.IsWhole) (arg8 : Memref sig .tc .vmem S1x200x128 .f32) (harg8 : arg8.IsWhole) (arg9 : Memref sig .tc .vmem S1x200x128 .f32) (harg9 : arg9.IsWhole) (arg10 : Memref sig .tc .vmem S200x16384 .f32) (harg10 : arg10.IsWhole) (arg11 : Memref sig .tc .vmem S200x128 .f32) (harg11 : arg11.IsWhole) (arg12 : Memref sig .tc .vmem S200x128 .f32) (harg12 : arg12.IsWhole) (arg13 : Memref sig .tc .vmem S200x128 .f32) (harg13 : arg13.IsWhole) (arg14 : Memref sig .tc .vmem S200x128 .f32) (harg14 : arg14.IsWhole) (hc0 : ¬cond0_0 i) (hc1 : cond0_1 i) (hc2 : ¬cond0_2 i) (hc3 : cond0_3 i) (hc4 : cond0_4 i)
    (x0 : Vec F S1x200x128 .fp8e4m3) (x1 : Vec F S1x200x64 .bf16) (x2 : Vec F S1x200x128 .f32) (x3 : Vec F S64x16384 .bf16) (x4 : Vec F S16 .f32) (x5 : Vec F S1x16384x128 .fp8e4m3) (x6 : Vec F S1x16384x128 .fp8e4m3) (xs0 : Vec F S200x16384 .f32) (xs2 : Vec F S200x128 .f32) (y : S200x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xs0 xs2).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xs0 xs2).2.1 S200x128.size (by sl_kernel_rfl) y

/-- What case B leaves in scratch `arg12`: its pieces read back over junk. -/
def sout0_B_2 (c : Dev nD) (i : grid0.Coords) (arg1 : Memref sig .tc .vmem S1x200x128 .fp8e4m3) (harg1 : arg1.IsWhole) (arg2 : Memref sig .tc .vmem S1x200x64 .bf16) (harg2 : arg2.IsWhole) (arg3 : Memref sig .tc .vmem S1x200x128 .f32) (harg3 : arg3.IsWhole) (arg4 : Memref sig .tc .vmem S64x16384 .bf16) (harg4 : arg4.IsWhole) (arg5 : Memref sig .tc .smem S16 .f32) (harg5 : arg5.IsWhole) (arg6 : Memref sig .tc .vmem S1x16384x128 .fp8e4m3) (harg6 : arg6.IsWhole) (arg7 : Memref sig .tc .vmem S1x16384x128 .fp8e4m3) (harg7 : arg7.IsWhole) (arg8 : Memref sig .tc .vmem S1x200x128 .f32) (harg8 : arg8.IsWhole) (arg9 : Memref sig .tc .vmem S1x200x128 .f32) (harg9 : arg9.IsWhole) (arg10 : Memref sig .tc .vmem S200x16384 .f32) (harg10 : arg10.IsWhole) (arg11 : Memref sig .tc .vmem S200x128 .f32) (harg11 : arg11.IsWhole) (arg12 : Memref sig .tc .vmem S200x128 .f32) (harg12 : arg12.IsWhole) (arg13 : Memref sig .tc .vmem S200x128 .f32) (harg13 : arg13.IsWhole) (arg14 : Memref sig .tc .vmem S200x128 .f32) (harg14 : arg14.IsWhole) (hc0 : ¬cond0_0 i) (hc1 : cond0_1 i) (hc2 : ¬cond0_2 i) (hc3 : cond0_3 i) (hc4 : cond0_4 i)
    (x0 : Vec F S1x200x128 .fp8e4m3) (x1 : Vec F S1x200x64 .bf16) (x2 : Vec F S1x200x128 .f32) (x3 : Vec F S64x16384 .bf16) (x4 : Vec F S16 .f32) (x5 : Vec F S1x16384x128 .fp8e4m3) (x6 : Vec F S1x16384x128 .fp8e4m3) (xs0 : Vec F S200x16384 .f32) (xs2 : Vec F S200x128 .f32) : Vec F S200x128 .f32 :=
  VS0_2.read (Elt F) (VS0_2.writes (Elt F) VS0_2.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xs0 xs2).2.1)

/-- Case C stores nothing into scratch `arg10`: it holds what the point before left. -/
def sout0_C_0 (c : Dev nD) (i : grid0.Coords) (arg1 : Memref sig .tc .vmem S1x200x128 .fp8e4m3) (harg1 : arg1.IsWhole) (arg2 : Memref sig .tc .vmem S1x200x64 .bf16) (harg2 : arg2.IsWhole) (arg3 : Memref sig .tc .vmem S1x200x128 .f32) (harg3 : arg3.IsWhole) (arg4 : Memref sig .tc .vmem S64x16384 .bf16) (harg4 : arg4.IsWhole) (arg5 : Memref sig .tc .smem S16 .f32) (harg5 : arg5.IsWhole) (arg6 : Memref sig .tc .vmem S1x16384x128 .fp8e4m3) (harg6 : arg6.IsWhole) (arg7 : Memref sig .tc .vmem S1x16384x128 .fp8e4m3) (harg7 : arg7.IsWhole) (arg8 : Memref sig .tc .vmem S1x200x128 .f32) (harg8 : arg8.IsWhole) (arg9 : Memref sig .tc .vmem S1x200x128 .f32) (harg9 : arg9.IsWhole) (arg10 : Memref sig .tc .vmem S200x16384 .f32) (harg10 : arg10.IsWhole) (arg11 : Memref sig .tc .vmem S200x128 .f32) (harg11 : arg11.IsWhole) (arg12 : Memref sig .tc .vmem S200x128 .f32) (harg12 : arg12.IsWhole) (arg13 : Memref sig .tc .vmem S200x128 .f32) (harg13 : arg13.IsWhole) (arg14 : Memref sig .tc .vmem S200x128 .f32) (harg14 : arg14.IsWhole) (hc0 : ¬cond0_0 i) (hc1 : ¬cond0_1 i) (hc2 : cond0_2 i) (hc3 : cond0_3 i) (hc4 : ¬cond0_4 i)
    (x0 : Vec F S1x200x128 .fp8e4m3) (x1 : Vec F S1x200x64 .bf16) (x2 : Vec F S1x200x128 .f32) (x3 : Vec F S64x16384 .bf16) (x4 : Vec F S16 .f32) (x5 : Vec F S1x16384x128 .fp8e4m3) (x6 : Vec F S1x16384x128 .fp8e4m3) (xs0 : Vec F S200x16384 .f32) (xs2 : Vec F S200x128 .f32) : Vec F S200x16384 .f32 := xs0

/-- Case C stores nothing into scratch `arg12`: it holds what the point before left. -/
def sout0_C_2 (c : Dev nD) (i : grid0.Coords) (arg1 : Memref sig .tc .vmem S1x200x128 .fp8e4m3) (harg1 : arg1.IsWhole) (arg2 : Memref sig .tc .vmem S1x200x64 .bf16) (harg2 : arg2.IsWhole) (arg3 : Memref sig .tc .vmem S1x200x128 .f32) (harg3 : arg3.IsWhole) (arg4 : Memref sig .tc .vmem S64x16384 .bf16) (harg4 : arg4.IsWhole) (arg5 : Memref sig .tc .smem S16 .f32) (harg5 : arg5.IsWhole) (arg6 : Memref sig .tc .vmem S1x16384x128 .fp8e4m3) (harg6 : arg6.IsWhole) (arg7 : Memref sig .tc .vmem S1x16384x128 .fp8e4m3) (harg7 : arg7.IsWhole) (arg8 : Memref sig .tc .vmem S1x200x128 .f32) (harg8 : arg8.IsWhole) (arg9 : Memref sig .tc .vmem S1x200x128 .f32) (harg9 : arg9.IsWhole) (arg10 : Memref sig .tc .vmem S200x16384 .f32) (harg10 : arg10.IsWhole) (arg11 : Memref sig .tc .vmem S200x128 .f32) (harg11 : arg11.IsWhole) (arg12 : Memref sig .tc .vmem S200x128 .f32) (harg12 : arg12.IsWhole) (arg13 : Memref sig .tc .vmem S200x128 .f32) (harg13 : arg13.IsWhole) (arg14 : Memref sig .tc .vmem S200x128 .f32) (harg14 : arg14.IsWhole) (hc0 : ¬cond0_0 i) (hc1 : ¬cond0_1 i) (hc2 : cond0_2 i) (hc3 : cond0_3 i) (hc4 : ¬cond0_4 i)
    (x0 : Vec F S1x200x128 .fp8e4m3) (x1 : Vec F S1x200x64 .bf16) (x2 : Vec F S1x200x128 .f32) (x3 : Vec F S64x16384 .bf16) (x4 : Vec F S16 .f32) (x5 : Vec F S1x16384x128 .fp8e4m3) (x6 : Vec F S1x16384x128 .fp8e4m3) (xs0 : Vec F S200x16384 .f32) (xs2 : Vec F S200x128 .f32) : Vec F S200x128 .f32 := xs2

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S200x16384 .f32 × Vec F S200x128 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) ((hcond0_4 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) ((hcond0_4 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 17 = 0 then
      if h1 : (1 ≤ (n + 1) % 17 ∧ (n + 1) % 17 ≤ 15) then
        False.elim (by have hN : n + 1 < 17 := lt_of_lt_of_eq hn (show cfg0.N = 17 from N_0); omega)
      else
        if h2 : (n + 1) % 17 = 16 then
          False.elim (by have hN : n + 1 < 17 := lt_of_lt_of_eq hn (show cfg0.N = 17 from N_0); omega)
        else
          if h3 : 1 ≤ (n + 1) then
            False.elim (by have hN : n + 1 < 17 := lt_of_lt_of_eq hn (show cfg0.N = 17 from N_0); omega)
          else
            if h4 : (n + 1) < 16 then
              (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
            else
              False.elim (by have hN : n + 1 < 17 := lt_of_lt_of_eq hn (show cfg0.N = 17 from N_0); omega)
    else
      if h1 : (1 ≤ (n + 1) % 17 ∧ (n + 1) % 17 ≤ 15) then
        if h2 : (n + 1) % 17 = 16 then
          False.elim (by have hN : n + 1 < 17 := lt_of_lt_of_eq hn (show cfg0.N = 17 from N_0); omega)
        else
          if h3 : 1 ≤ (n + 1) then
            if h4 : (n + 1) < 16 then
              (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2)
            else
              False.elim (by have hN : n + 1 < 17 := lt_of_lt_of_eq hn (show cfg0.N = 17 from N_0); omega)
          else
            False.elim (by have hN : n + 1 < 17 := lt_of_lt_of_eq hn (show cfg0.N = 17 from N_0); omega)
      else
        if h2 : (n + 1) % 17 = 16 then
          if h3 : 1 ≤ (n + 1) then
            if h4 : (n + 1) < 16 then
              False.elim (by have hN : n + 1 < 17 := lt_of_lt_of_eq hn (show cfg0.N = 17 from N_0); omega)
            else
              (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2)
          else
            False.elim (by have hN : n + 1 < 17 := lt_of_lt_of_eq hn (show cfg0.N = 17 from N_0); omega)
        else
          False.elim (by have hN : n + 1 < 17 := lt_of_lt_of_eq hn (show cfg0.N = 17 from N_0); omega)

/-- `outsAt0` at a point of case A: that case's contents. -/
theorem outsAt0_A (c : Dev nD) (t : Fin cfg0.N) (h0 : t.val % 17 = 0) (h1 : ¬(1 ≤ t.val % 17 ∧ t.val % 17 ≤ 15)) (h2 : ¬t.val % 17 = 16) (h3 : ¬1 ≤ t.val) (h4 : t.val < 16) :
    outsAt0 m c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (iblk m c 4 t) (iblk m c 5 t) (iblk m c 6 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans ((dif_neg h1).trans ((dif_neg h2).trans ((dif_neg h3).trans ((dif_pos h4).trans rfl))))

/-- `outsAt0` at a point of case B: that case's contents, over what the point before left. -/
theorem outsAt0_B (c : Dev nD) (t : Fin cfg0.N) (h0 : ¬t.val % 17 = 0) (h1 : (1 ≤ t.val % 17 ∧ t.val % 17 ≤ 15)) (h2 : ¬t.val % 17 = 16) (h3 : 1 ≤ t.val) (h4 : t.val < 16) :
    outsAt0 m c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) ((hcond0_3 t).mpr h3) ((hcond0_4 t).mpr h4) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) ((hcond0_3 t).mpr h3) ((hcond0_4 t).mpr h4) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_neg h2).trans ((dif_pos h3).trans ((dif_pos h4).trans rfl))))

/-- `outsAt0` at a point of case C: that case's contents, over what the point before left. -/
theorem outsAt0_C (c : Dev nD) (t : Fin cfg0.N) (h0 : ¬t.val % 17 = 0) (h1 : ¬(1 ≤ t.val % 17 ∧ t.val % 17 ≤ 15)) (h2 : t.val % 17 = 16) (h3 : 1 ≤ t.val) (h4 : ¬t.val < 16) :
    outsAt0 m c t.val t.isLt = (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) ((hcond0_3 t).mpr h3) (fun h => h4 ((hcond0_4 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) ((hcond0_3 t).mpr h3) (fun h => h4 ((hcond0_4 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_pos h2).trans ((dif_pos h3).trans ((dif_neg h4).trans rfl))))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).1) ∗ (∃ d, owns (c : Thread nD τ) scM0_1 fullShare d) ∗ owns (c : Thread nD τ) scM0_2 fullShare ((outsAt0 m c n hn).2) ∗ (∃ d, owns (c : Thread nD τ) scM0_3 fullShare d) ∗ (∃ d, owns (c : Thread nD τ) scM0_4 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).1) ∗ (∃ d, owns (c : Thread nD τ) scM0_1 fullShare d) ∗ owns (c : Thread nD τ) scM0_2 fullShare ((outsAt0 m c n hn).2) ∗ (∃ d, owns (c : Thread nD τ) scM0_3 fullShare d) ∗ (∃ d, owns (c : Thread nD τ) scM0_4 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ (∃ d, owns (c : Thread nD τ) scM0_1 fullShare d) ∗ owns (c : Thread nD τ) scM0_2 fullShare ((outsAt0 m c (n - 1) (by omega)).2) ∗ (∃ d, owns (c : Thread nD τ) scM0_3 fullShare d) ∗ (∃ d, owns (c : Thread nD τ) scM0_4 fullShare d)) ∗ (∃ r, prngReg c r)) := by
  cases n with
  | zero => exact absurd rfl hz
  | succ n => rfl

/-! ## The pipeline's proof data -/

/-- The output windows this certificate FORGETS (7, 8): nothing reads what the kernel leaves in them, so nothing
    of it is named (Lib/Pipeline/Dat.lean `Dat.toRForget`). -/
def forgets0 : Fin 9 → Bool := fun w => w.val == 7 || w.val == 8

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (ms0_7 t) fullShare d)
    ∗ (∃ d, owns (c : Thread nD τ) (ms0_8 t) fullShare d))

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 17 := lt_of_lt_of_eq t.isLt (show cfg0.N = 17 from N_0)
  by_cases h0 : t.val % 17 = 0
  · by_cases h1 : (1 ≤ t.val % 17 ∧ t.val % 17 ≤ 15)
    · exfalso; omega
    · by_cases h2 : t.val % 17 = 16
      · exfalso; omega
      · by_cases h3 : 1 ≤ t.val
        · exfalso; omega
        · by_cases h4 : t.val < 16
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            by_cases hz : t.val = 0
            · rw [PhiS_castSucc m c t, PhiS_zero m c _ _ hz, PhiA0_eq]
              rw [outsAt0_A m c t h0 h1 h2 h3 h4]
              unfold sout0_A_0 sout0_A_2; (try dsimp only)
              iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
              iapply ((kernelRun0_A c (grid0.coords t) _ _ _ _ _ _ _ _ _ _ _ _ _ _ _ _ _ _ _ _ _ _ _ _ _ _ _ _ ((hcond0_0 t).mpr h0) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (iblk m c 4 t) (iblk m c 5 t) (iblk m c 6 t)).2.2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexists _; iexact H7
              isplitl [H8]; · iexists _; iexact H8
              isplitl [HS0]; · iexact HS0
              isplitl [HS1]; · iexact HS1
              isplitl [HS2]; · iexact HS2
              isplitl [HS3]; · iexact HS3
              isplitl [HS4]; · iexact HS4
              iintro ⟨H0, H1, H2, H3, H4, H5, H6, H7, H8, ⟨%es0, HS0⟩, HS1, ⟨%es2, HS2⟩, HS3, HS4⟩
              isplitl [HS0 HS1 HS2 HS3 HS4 Hg]
              · isplitl [HS0 HS1 HS2 HS3 HS4]
                · isplitl [HS0]
                  · unfold owns; iexists _; isplitr
                    swap; · iexact HS0
                    ipureintro; exact View.read_writes_of_cover _ _ _ _ _ (scover0_A_0 c _ _ _ _ _ _ _ _ _ _ _ _ _ _ _ _ _ _ _ _ _ _ _ _ _ _ _ _ _ _ _ _ _ _ _ _ _ _ _ _ _)
                  isplitl [HS1]
                  · iexact HS1
                  isplitl [HS2]
                  · unfold owns; iexists _; isplitr
                    swap; · iexact HS2
                    ipureintro; exact View.read_writes_of_cover _ _ _ _ _ (scover0_A_2 c _ _ _ _ _ _ _ _ _ _ _ _ _ _ _ _ _ _ _ _ _ _ _ _ _ _ _ _ _ _ _ _ _ _ _ _ _ _ _ _ _)
                  isplitl [HS3]
                  · iexact HS3
                  iexact HS4
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              iexact H8
            · exfalso; have hN : t.val < 17 := lt_of_lt_of_eq t.isLt (show cfg0.N = 17 from N_0); omega
          · exfalso; omega
  · by_cases h1 : (1 ≤ t.val % 17 ∧ t.val % 17 ≤ 15)
    · by_cases h2 : t.val % 17 = 16
      · exfalso; omega
      · by_cases h3 : 1 ≤ t.val
        · by_cases h4 : t.val < 16
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            by_cases hz : t.val = 0
            · exfalso; have hN : t.val < 17 := lt_of_lt_of_eq t.isLt (show cfg0.N = 17 from N_0); omega
            · rw [PhiS_castSucc m c t, PhiS_pos m c _ _ hz]
              rw [outsAt0_B m c t h0 h1 h2 h3 h4]
              unfold sout0_B_0 sout0_B_2; (try dsimp only)
              iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
              iapply ((kernelRun0_B c (grid0.coords t) _ _ _ _ _ _ _ _ _ _ _ _ _ _ _ _ _ _ _ _ _ _ _ _ _ _ _ _ (fun h => h0 ((hcond0_0 t).mp h)) ((hcond0_1 t).mpr h1) (fun h => h2 ((hcond0_2 t).mp h)) ((hcond0_3 t).mpr h3) ((hcond0_4 t).mpr h4) (iblk m c 0 t) (iblk m c 1 t) (iblk m c 2 t) (iblk m c 3 t) (iblk m c 4 t) (iblk m c 5 t) (iblk m c 6 t) _ _).2.2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexists _; iexact H7
              isplitl [H8]; · iexists _; iexact H8
              isplitl [HS0]; · iexact HS0
              isplitl [HS1]; · iexact HS1
              isplitl [HS2]; · iexact HS2
              isplitl [HS3]; · iexact HS3
              isplitl [HS4]; · iexact HS4
              iintro ⟨H0, H1, H2, H3, H4, H5, H6, H7, H8, HS0, HS1, ⟨%es2, HS2⟩, HS3, HS4⟩
              isplitl [HS0 HS1 HS2 HS3 HS4 Hg]
              · isplitl [HS0 HS1 HS2 HS3 HS4]
                · isplitl [HS0]
                  · unfold owns; iexists _; isplitr
                    swap; · iexact HS0
                    ipureintro; rfl
                  isplitl [HS1]
                  · iexact HS1
                  isplitl [HS2]
                  · unfold owns; iexists _; isplitr
                    swap; · iexact HS2
                    ipureintro; exact View.read_writes_of_cover _ _ _ _ _ (scover0_B_2 c _ _ _ _ _ _ _ _ _ _ _ _ _ _ _ _ _ _ _ _ _ _ _ _ _ _ _ _ _ _ _ _ _ _ _ _ _ _ _ _ _ _ _)
                  isplitl [HS3]
                  · iexact HS3
                  iexact HS4
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              iexact H8
          · exfalso; omega
        · exfalso; omega
    · by_cases h2 : t.val % 17 = 16
      · by_cases h3 : 1 ≤ t.val
        · by_cases h4 : t.val < 16
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            by_cases hz : t.val = 0
            · exfalso; have hN : t.val < 17 := lt_of_lt_of_eq t.isLt (show cfg0.N = 17 from N_0); omega
            · rw [PhiS_castSucc m c t, PhiS_pos m c _ _ hz]
              rw [outsAt0_C m c t h0 h1 h2 h3 h4]
              unfold sout0_C_0 sout0_C_2; (try dsimp only)
              iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
              iapply ((kernelRun0_C c (grid0.coords t) _ _ _ _ _ _ _ _ _ _ _ _ _ _ _ _ _ _ _ _ _ _ _ _ _ _ _ _ (fun h => h0 ((hcond0_0 t).mp h)) (fun h => h1 ((hcond0_1 t).mp h)) ((hcond0_2 t).mpr h2) ((hcond0_3 t).mpr h3) (fun h => h4 ((hcond0_4 t).mp h)) (iblk m c 0 t) (iblk m c 1 t) (iblk m c 2 t) (iblk m c 3 t) (iblk m c 4 t) (iblk m c 5 t) (iblk m c 6 t) _ _).2.2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexists _; iexact H7
              isplitl [H8]; · iexists _; iexact H8
              isplitl [HS0]; · iexact HS0
              isplitl [HS1]; · iexact HS1
              isplitl [HS2]; · iexact HS2
              isplitl [HS3]; · iexact HS3
              isplitl [HS4]; · iexact HS4
              iintro ⟨H0, H1, H2, H3, H4, H5, H6, H7, H8, HS0, HS1, HS2, HS3, HS4⟩
              isplitl [HS0 HS1 HS2 HS3 HS4 Hg]
              · isplitl [HS0 HS1 HS2 HS3 HS4]
                · isplitl [HS0]
                  · iexact HS0
                  isplitl [HS1]
                  · iexact HS1
                  isplitl [HS2]
                  · iexact HS2
                  isplitl [HS3]
                  · iexact HS3
                  iexact HS4
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              iexact H8
        · exfalso; omega
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexists _; iexact HS0
    isplitl [HS1]
    · iexact HS1
    isplitl [HS2]
    · iexists _; iexact HS2
    isplitl [HS3]
    · iexact HS3
    iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 17 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 7, 8) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((congrFun (((dats m 0 c).toRForget forgets0).ArrAt_in 0 rfl cfg0.N) _).mp ((h c).1 0)).trans ((A_eq m c 0).trans (V_main_arg0 m c)),
      ((h c).2 main_arg1 (Pipeline.mem_restRefs_of main_arg1 (by decide) (by decide))).trans (V_main_arg1 m c),
      ((congrFun (((dats m 0 c).toRForget forgets0).ArrAt_in 1 rfl cfg0.N) _).mp ((h c).1 1)).trans ((A_eq m c 1).trans (V_main_arg2 m c)),
      ((congrFun (((dats m 0 c).toRForget forgets0).ArrAt_in 5 rfl cfg0.N) _).mp ((h c).1 5)).trans ((A_eq m c 5).trans (V_main_arg3 m c)),
      ((h c).2 main_arg4 (Pipeline.mem_restRefs_of main_arg4 (by decide) (by decide))).trans (V_main_arg4 m c),
      ((congrFun (((dats m 0 c).toRForget forgets0).ArrAt_in 6 rfl cfg0.N) _).mp ((h c).1 6)).trans ((A_eq m c 6).trans (V_main_arg5 m c)),
      ((congrFun (((dats m 0 c).toRForget forgets0).ArrAt_in 4 rfl cfg0.N) _).mp ((h c).1 4)).trans ((A_eq m c 4).trans (V_main_arg6 m c)),
      ((h c).2 main_arg7 (Pipeline.mem_restRefs_of main_arg7 (by decide) (by decide))).trans (V_main_arg7 m c)⟩) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel.Hand

end
-- ==== Proof.KernelIdealRunA.lean ====
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The pieces that the first counted loop stores depend on what it finds in the running maximum, not on what
    the score buffer held before: it stores every score it is asked for and loads none back. -/
theorem t1_lists (𝒱 : Variants) (c : Dev nD) (bd : Option 𝒱.V) (i : grid0.Coords) (arg1 : Memref sig .tc .vmem S1x200x128 .fp8e4m3) (harg1 : arg1.IsWhole) (arg2 : Memref sig .tc .vmem S1x200x64 .bf16) (harg2 : arg2.IsWhole) (arg3 : Memref sig .tc .vmem S1x200x128 .f32) (harg3 : arg3.IsWhole) (arg4 : Memref sig .tc .vmem S64x16384 .bf16) (harg4 : arg4.IsWhole) (arg5 : Memref sig .tc .smem S16 .f32) (harg5 : arg5.IsWhole) (arg6 : Memref sig .tc .vmem S1x16384x128 .fp8e4m3) (harg6 : arg6.IsWhole) (arg7 : Memref sig .tc .vmem S1x16384x128 .fp8e4m3) (harg7 : arg7.IsWhole) (arg8 : Memref sig .tc .vmem S1x200x128 .f32) (harg8 : arg8.IsWhole) (arg9 : Memref sig .tc .vmem S1x200x128 .f32) (harg9 : arg9.IsWhole) (arg10 : Memref sig .tc .vmem S200x16384 .f32) (harg10 : arg10.IsWhole) (arg11 : Memref sig .tc .vmem S200x128 .f32) (harg11 : arg11.IsWhole) (arg12 : Memref sig .tc .vmem S200x128 .f32) (harg12 : arg12.IsWhole) (arg13 : Memref sig .tc .vmem S200x128 .f32) (harg13 : arg13.IsWhole) (arg14 : Memref sig .tc .vmem S200x128 .f32) (harg14 : arg14.IsWhole) (k0_h1 : k0_cond1 i = 1#1) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg6 : BufTy.Contents (Elt F) arg6.view.ty) (G_arg10 G : BufTy.Contents (Elt F) arg10.view.ty) (G_arg11 : BufTy.Contents (Elt F) arg11.view.ty) (n : ℕ) :
    pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg1 X_arg2 X_arg3 X_arg4 X_arg6 G_arg10 G_arg11 n = pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 X_arg1 X_arg2 X_arg3 X_arg4 X_arg6 G G_arg11 n := by
  induction n with
  | zero => rfl
  | succ n ih =>
    rw [pb_k0_t1.eq_2, pb_k0_t1.eq_2, ih]
    unfold pb_k0_t1Step
    split
    · refine Prod.ext ?_ ?_ <;> dsimp only [tripL_k0_t1] <;> unfold trip_k0_t1 <;> rfl
    · rfl

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 not taken, `scf.if` 3 not taken, `scf.if` 4 taken: points 0), WITH the
    proof that on whole staging memrefs — the inputs' at their contents, the outputs it leaves idle (7, 8: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1x200x128 .fp8e4m3) (harg1 : arg1.IsWhole) (arg2 : Memref sig .tc .vmem S1x200x64 .bf16) (harg2 : arg2.IsWhole) (arg3 : Memref sig .tc .vmem S1x200x128 .f32) (harg3 : arg3.IsWhole) (arg4 : Memref sig .tc .vmem S64x16384 .bf16) (harg4 : arg4.IsWhole) (arg5 : Memref sig .tc .smem S16 .f32) (harg5 : arg5.IsWhole) (arg6 : Memref sig .tc .vmem S1x16384x128 .fp8e4m3) (harg6 : arg6.IsWhole) (arg7 : Memref sig .tc .vmem S1x16384x128 .fp8e4m3) (harg7 : arg7.IsWhole) (arg8 : Memref sig .tc .vmem S1x200x128 .f32) (harg8 : arg8.IsWhole) (arg9 : Memref sig .tc .vmem S1x200x128 .f32) (harg9 : arg9.IsWhole) (arg10 : Memref sig .tc .vmem S200x16384 .f32) (harg10 : arg10.IsWhole) (arg11 : Memref sig .tc .vmem S200x128 .f32) (harg11 : arg11.IsWhole) (arg12 : Memref sig .tc .vmem S200x128 .f32) (harg12 : arg12.IsWhole) (arg13 : Memref sig .tc .vmem S200x128 .f32) (harg13 : arg13.IsWhole) (arg14 : Memref sig .tc .vmem S200x128 .f32) (harg14 : arg14.IsWhole) (hc0 : cond0_0 i) (hc1 : ¬cond0_1 i) (hc2 : ¬cond0_2 i) (hc3 : ¬cond0_3 i) (hc4 : cond0_4 i)
    (x0 : Vec F S1x200x128 .fp8e4m3) (x1 : Vec F S1x200x64 .bf16) (x2 : Vec F S1x200x128 .f32) (x3 : Vec F S64x16384 .bf16) (x4 : Vec F S16 .f32) (x5 : Vec F S1x16384x128 .fp8e4m3) (x6 : Vec F S1x16384x128 .fp8e4m3) :
    Σ' (L7 : List (View.Piece (Elt F) S1x200x128 .f32)), Σ' (L8 : List (View.Piece (Elt F) S1x200x128 .f32)), Σ' (LS0 : List (View.Piece (Elt F) S200x16384 .f32)), { LS2 : List (View.Piece (Elt F) S200x128 .f32) //
      ∀ (xi7 : Vec F S1x200x128 .f32) (xi8 : Vec F S1x200x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xi8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ d, owns (c : Thread nD τ) arg11 fullShare d) ∗ (∃ f, arg12.view.loc (c : Thread nD τ) ↦[arg12.view.set]{fullShare} arg12.view.writes (Elt F) f LS2) ∗ (∃ d, owns (c : Thread nD τ) arg13 fullShare d) ∗ (∃ d, owns (c : Thread nD τ) arg14 fullShare d)) -∗ K ⟨⟩))
          ⊢ wp frame (wpE (defs₀ (F := F)) Variants.none c none) E (cc0_mla_prefix i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨[], [], ?_, ?_, fun xi7 xi8 E K => ?run⟩
  case run =>
    simp only [cc0_mla_prefix_eq_skeleton]; unfold cc0_mla_prefix_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0 | sl_exact hc1 | sl_exact hc2 | sl_exact hc3 | sl_exact hc4)
    sl_step
    iapply Hk
    sl_unfold_run_names
    rw [t1_lists (G_arg10 := fs0) (G := arg10.view.junk)]
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    isplitl [HS1]
    · iexists _, _; isplitr; swap; · iexact HS1
      ipureintro; rfl
    isplitl [HS2]; · iexists _; iexact HS2
    isplitl [HS3]
    · iexists _, _; isplitr; swap; · iexact HS3
      ipureintro; rfl
    iexists _, _; isplitr; swap; · iexact HS4
    ipureintro; rfl

end Cert.KernelIdeal.Hand

end
-- ==== Proof.KernelIdealRunB.lean ====
module

public import proofs.«01_k».proof.Proof.KernelIdealRunA

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken, `scf.if` 3 taken, `scf.if` 4 taken: points 1, 2, … 15: 15 of 17), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1x200x128 .fp8e4m3) (harg1 : arg1.IsWhole) (arg2 : Memref sig .tc .vmem S1x200x64 .bf16) (harg2 : arg2.IsWhole) (arg3 : Memref sig .tc .vmem S1x200x128 .f32) (harg3 : arg3.IsWhole) (arg4 : Memref sig .tc .vmem S64x16384 .bf16) (harg4 : arg4.IsWhole) (arg5 : Memref sig .tc .smem S16 .f32) (harg5 : arg5.IsWhole) (arg6 : Memref sig .tc .vmem S1x16384x128 .fp8e4m3) (harg6 : arg6.IsWhole) (arg7 : Memref sig .tc .vmem S1x16384x128 .fp8e4m3) (harg7 : arg7.IsWhole) (arg8 : Memref sig .tc .vmem S1x200x128 .f32) (harg8 : arg8.IsWhole) (arg9 : Memref sig .tc .vmem S1x200x128 .f32) (harg9 : arg9.IsWhole) (arg10 : Memref sig .tc .vmem S200x16384 .f32) (harg10 : arg10.IsWhole) (arg11 : Memref sig .tc .vmem S200x128 .f32) (harg11 : arg11.IsWhole) (arg12 : Memref sig .tc .vmem S200x128 .f32) (harg12 : arg12.IsWhole) (arg13 : Memref sig .tc .vmem S200x128 .f32) (harg13 : arg13.IsWhole) (arg14 : Memref sig .tc .vmem S200x128 .f32) (harg14 : arg14.IsWhole) (hc0 : ¬cond0_0 i) (hc1 : cond0_1 i) (hc2 : ¬cond0_2 i) (hc3 : cond0_3 i) (hc4 : cond0_4 i)
    (x0 : Vec F S1x200x128 .fp8e4m3) (x1 : Vec F S1x200x64 .bf16) (x2 : Vec F S1x200x128 .f32) (x3 : Vec F S64x16384 .bf16) (x4 : Vec F S16 .f32) (x5 : Vec F S1x16384x128 .fp8e4m3) (x6 : Vec F S1x16384x128 .fp8e4m3) (xs0 : Vec F S200x16384 .f32) (xs2 : Vec F S200x128 .f32) :
    Σ' (L7 : List (View.Piece (Elt F) S1x200x128 .f32)), Σ' (L8 : List (View.Piece (Elt F) S1x200x128 .f32)), Σ' (LS0 : List (View.Piece (Elt F) S200x16384 .f32)), { LS2 : List (View.Piece (Elt F) S200x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare xs0 ∗ (∃ d, owns (c : Thread nD τ) arg11 fullShare d) ∗ owns (c : Thread nD τ) arg12 fullShare xs2 ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (arg10.view.loc (c : Thread nD τ) ↦[arg10.view.set]{fullShare} arg10.view.writes (Elt F) (harg10.unread xs0) LS0) ∗ (∃ d, owns (c : Thread nD τ) arg11 fullShare d) ∗ (∃ f, arg12.view.loc (c : Thread nD τ) ↦[arg12.view.set]{fullShare} arg12.view.writes (Elt F) f LS2) ∗ (∃ d, owns (c : Thread nD τ) arg13 fullShare d) ∗ (∃ d, owns (c : Thread nD τ) arg14 fullShare d)) -∗ K ⟨⟩))
          ⊢ wp frame (wpE (defs₀ (F := F)) Variants.none c none) E (cc0_mla_prefix i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0_mla_prefix_eq_skeleton]; unfold cc0_mla_prefix_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, ⟨%ds1, %fs1, -, HS1⟩, ⟨%fs2, %hfs2, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg10.eq_unread hfs0; obtain rfl := harg12.eq_unread hfs2
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [HS0]; · iexact HS0
    isplitl [HS1]
    · iexists _, _; isplitr; swap; · iexact HS1
      ipureintro; rfl
    isplitl [HS2]; · iexists _; iexact HS2
    isplitl [HS3]
    · iexists _, _; isplitr; swap; · iexact HS3
      ipureintro; rfl
    iexists _, _; isplitr; swap; · iexact HS4
    ipureintro; rfl

end Cert.KernelIdeal.Hand

end
-- ==== Proof.KernelIdealRunC.lean ====
module

public import proofs.«01_k».proof.Proof.KernelIdealRunB

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 not taken, `scf.if` 2 taken, `scf.if` 3 taken, `scf.if` 4 not taken: points 16), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S1x200x128 .fp8e4m3) (harg1 : arg1.IsWhole) (arg2 : Memref sig .tc .vmem S1x200x64 .bf16) (harg2 : arg2.IsWhole) (arg3 : Memref sig .tc .vmem S1x200x128 .f32) (harg3 : arg3.IsWhole) (arg4 : Memref sig .tc .vmem S64x16384 .bf16) (harg4 : arg4.IsWhole) (arg5 : Memref sig .tc .smem S16 .f32) (harg5 : arg5.IsWhole) (arg6 : Memref sig .tc .vmem S1x16384x128 .fp8e4m3) (harg6 : arg6.IsWhole) (arg7 : Memref sig .tc .vmem S1x16384x128 .fp8e4m3) (harg7 : arg7.IsWhole) (arg8 : Memref sig .tc .vmem S1x200x128 .f32) (harg8 : arg8.IsWhole) (arg9 : Memref sig .tc .vmem S1x200x128 .f32) (harg9 : arg9.IsWhole) (arg10 : Memref sig .tc .vmem S200x16384 .f32) (harg10 : arg10.IsWhole) (arg11 : Memref sig .tc .vmem S200x128 .f32) (harg11 : arg11.IsWhole) (arg12 : Memref sig .tc .vmem S200x128 .f32) (harg12 : arg12.IsWhole) (arg13 : Memref sig .tc .vmem S200x128 .f32) (harg13 : arg13.IsWhole) (arg14 : Memref sig .tc .vmem S200x128 .f32) (harg14 : arg14.IsWhole) (hc0 : ¬cond0_0 i) (hc1 : ¬cond0_1 i) (hc2 : cond0_2 i) (hc3 : cond0_3 i) (hc4 : ¬cond0_4 i)
    (x0 : Vec F S1x200x128 .fp8e4m3) (x1 : Vec F S1x200x64 .bf16) (x2 : Vec F S1x200x128 .f32) (x3 : Vec F S64x16384 .bf16) (x4 : Vec F S16 .f32) (x5 : Vec F S1x16384x128 .fp8e4m3) (x6 : Vec F S1x16384x128 .fp8e4m3) (xs0 : Vec F S200x16384 .f32) (xs2 : Vec F S200x128 .f32) :
    Σ' (L7 : List (View.Piece (Elt F) S1x200x128 .f32)), Σ' (L8 : List (View.Piece (Elt F) S1x200x128 .f32)), Σ' (LS0 : List (View.Piece (Elt F) S200x16384 .f32)), { LS2 : List (View.Piece (Elt F) S200x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare xs0 ∗ (∃ d, owns (c : Thread nD τ) arg11 fullShare d) ∗ owns (c : Thread nD τ) arg12 fullShare xs2 ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ owns (c : Thread nD τ) arg10 fullShare xs0 ∗ (∃ d, owns (c : Thread nD τ) arg11 fullShare d) ∗ owns (c : Thread nD τ) arg12 fullShare xs2 ∗ (∃ d, owns (c : Thread nD τ) arg13 fullShare d) ∗ (∃ d, owns (c : Thread nD τ) arg14 fullShare d)) -∗ K ⟨⟩))
          ⊢ wp frame (wpE (defs₀ (F := F)) Variants.none c none) E (cc0_mla_prefix i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, [], [], fun E K => ?run⟩
  case run =>
    simp only [cc0_mla_prefix_eq_skeleton]; unfold cc0_mla_prefix_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, ⟨%ds1, %fs1, -, HS1⟩, ⟨%fs2, %hfs2, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg10.eq_unread hfs0; obtain rfl := harg12.eq_unread hfs2
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [HS0]
    · iexists _; isplitr; · ipureintro; exact harg10.read_unread _
      iexact HS0
    isplitl [HS1]
    · iexists _, _; isplitr; swap; · iexact HS1
      ipureintro; rfl
    isplitl [HS2]
    · iexists _; isplitr; · ipureintro; exact harg12.read_unread _
      iexact HS2
    isplitl [HS3]
    · iexists _, _; isplitr; swap; · iexact HS3
      ipureintro; rfl
    iexists _, _; isplitr; swap; · iexact HS4
    ipureintro; rfl

end Cert.KernelIdeal.Hand

end
-- ==== Proof.KernelIdealFrame.lean ====
module

public import proofs.«01_k».proof.Proof.KernelIdealRunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A stores nothing into output 7 (the window is idle at its points and not written back there):
    no pieces — a placeholder (junk read back) that nothing consults, since at these points the window is neither
    written back nor read at the next point (Lib/Pipeline.lean "Idle points"). -/
def out0_A_7 (c : Dev nD) (i : grid0.Coords) (arg1 : Memref sig .tc .vmem S1x200x128 .fp8e4m3) (harg1 : arg1.IsWhole) (arg2 : Memref sig .tc .vmem S1x200x64 .bf16) (harg2 : arg2.IsWhole) (arg3 : Memref sig .tc .vmem S1x200x128 .f32) (harg3 : arg3.IsWhole) (arg4 : Memref sig .tc .vmem S64x16384 .bf16) (harg4 : arg4.IsWhole) (arg5 : Memref sig .tc .smem S16 .f32) (harg5 : arg5.IsWhole) (arg6 : Memref sig .tc .vmem S1x16384x128 .fp8e4m3) (harg6 : arg6.IsWhole) (arg7 : Memref sig .tc .vmem S1x16384x128 .fp8e4m3) (harg7 : arg7.IsWhole) (arg8 : Memref sig .tc .vmem S1x200x128 .f32) (harg8 : arg8.IsWhole) (arg9 : Memref sig .tc .vmem S1x200x128 .f32) (harg9 : arg9.IsWhole) (arg10 : Memref sig .tc .vmem S200x16384 .f32) (harg10 : arg10.IsWhole) (arg11 : Memref sig .tc .vmem S200x128 .f32) (harg11 : arg11.IsWhole) (arg12 : Memref sig .tc .vmem S200x128 .f32) (harg12 : arg12.IsWhole) (arg13 : Memref sig .tc .vmem S200x128 .f32) (harg13 : arg13.IsWhole) (arg14 : Memref sig .tc .vmem S200x128 .f32) (harg14 : arg14.IsWhole) (hc0 : cond0_0 i) (hc1 : ¬cond0_1 i) (hc2 : ¬cond0_2 i) (hc3 : ¬cond0_3 i) (hc4 : cond0_4 i)
    (x0 : Vec F S1x200x128 .fp8e4m3) (x1 : Vec F S1x200x64 .bf16) (x2 : Vec F S1x200x128 .f32) (x3 : Vec F S64x16384 .bf16) (x4 : Vec F S16 .f32) (x5 : Vec F S1x16384x128 .fp8e4m3) (x6 : Vec F S1x16384x128 .fp8e4m3) : Vec F S1x200x128 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6).1)

/-- Case A stores nothing into output 8 (the window is idle at its points and not written back there):
    no pieces — a placeholder (junk read back) that nothing consults, since at these points the window is neither
    written back nor read at the next point (Lib/Pipeline.lean "Idle points"). -/
def out0_A_8 (c : Dev nD) (i : grid0.Coords) (arg1 : Memref sig .tc .vmem S1x200x128 .fp8e4m3) (harg1 : arg1.IsWhole) (arg2 : Memref sig .tc .vmem S1x200x64 .bf16) (harg2 : arg2.IsWhole) (arg3 : Memref sig .tc .vmem S1x200x128 .f32) (harg3 : arg3.IsWhole) (arg4 : Memref sig .tc .vmem S64x16384 .bf16) (harg4 : arg4.IsWhole) (arg5 : Memref sig .tc .smem S16 .f32) (harg5 : arg5.IsWhole) (arg6 : Memref sig .tc .vmem S1x16384x128 .fp8e4m3) (harg6 : arg6.IsWhole) (arg7 : Memref sig .tc .vmem S1x16384x128 .fp8e4m3) (harg7 : arg7.IsWhole) (arg8 : Memref sig .tc .vmem S1x200x128 .f32) (harg8 : arg8.IsWhole) (arg9 : Memref sig .tc .vmem S1x200x128 .f32) (harg9 : arg9.IsWhole) (arg10 : Memref sig .tc .vmem S200x16384 .f32) (harg10 : arg10.IsWhole) (arg11 : Memref sig .tc .vmem S200x128 .f32) (harg11 : arg11.IsWhole) (arg12 : Memref sig .tc .vmem S200x128 .f32) (harg12 : arg12.IsWhole) (arg13 : Memref sig .tc .vmem S200x128 .f32) (harg13 : arg13.IsWhole) (arg14 : Memref sig .tc .vmem S200x128 .f32) (harg14 : arg14.IsWhole) (hc0 : cond0_0 i) (hc1 : ¬cond0_1 i) (hc2 : ¬cond0_2 i) (hc3 : ¬cond0_3 i) (hc4 : cond0_4 i)
    (x0 : Vec F S1x200x128 .fp8e4m3) (x1 : Vec F S1x200x64 .bf16) (x2 : Vec F S1x200x128 .f32) (x3 : Vec F S64x16384 .bf16) (x4 : Vec F S16 .f32) (x5 : Vec F S1x16384x128 .fp8e4m3) (x6 : Vec F S1x16384x128 .fp8e4m3) : Vec F S1x200x128 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6).2.1)

/-- Case A's pieces for scratch `arg10`, which the kernel carries between points, cover it: 128 pieces of `S200x128` tiling it (Lib/Ring.lean `Piece.tiledL`). -/
theorem scover0_A_0 (c : Dev nD) (i : grid0.Coords) (arg1 : Memref sig .tc .vmem S1x200x128 .fp8e4m3) (harg1 : arg1.IsWhole) (arg2 : Memref sig .tc .vmem S1x200x64 .bf16) (harg2 : arg2.IsWhole) (arg3 : Memref sig .tc .vmem S1x200x128 .f32) (harg3 : arg3.IsWhole) (arg4 : Memref sig .tc .vmem S64x16384 .bf16) (harg4 : arg4.IsWhole) (arg5 : Memref sig .tc .smem S16 .f32) (harg5 : arg5.IsWhole) (arg6 : Memref sig .tc .vmem S1x16384x128 .fp8e4m3) (harg6 : arg6.IsWhole) (arg7 : Memref sig .tc .vmem S1x16384x128 .fp8e4m3) (harg7 : arg7.IsWhole) (arg8 : Memref sig .tc .vmem S1x200x128 .f32) (harg8 : arg8.IsWhole) (arg9 : Memref sig .tc .vmem S1x200x128 .f32) (harg9 : arg9.IsWhole) (arg10 : Memref sig .tc .vmem S200x16384 .f32) (harg10 : arg10.IsWhole) (arg11 : Memref sig .tc .vmem S200x128 .f32) (harg11 : arg11.IsWhole) (arg12 : Memref sig .tc .vmem S200x128 .f32) (harg12 : arg12.IsWhole) (arg13 : Memref sig .tc .vmem S200x128 .f32) (harg13 : arg13.IsWhole) (arg14 : Memref sig .tc .vmem S200x128 .f32) (harg14 : arg14.IsWhole) (hc0 : cond0_0 i) (hc1 : ¬cond0_1 i) (hc2 : ¬cond0_2 i) (hc3 : ¬cond0_3 i) (hc4 : cond0_4 i)
    (x0 : Vec F S1x200x128 .fp8e4m3) (x1 : Vec F S1x200x64 .bf16) (x2 : Vec F S1x200x128 .f32) (x3 : Vec F S64x16384 .bf16) (x4 : Vec F S16 .f32) (x5 : Vec F S1x16384x128 .fp8e4m3) (x6 : Vec F S1x16384x128 .fp8e4m3) (y : S200x16384.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6).2.2.1 S200x128.size (by sl_kernel_rfl) y

/-- What case A leaves in scratch `arg10`: its pieces read back over junk. -/
def sout0_A_0 (c : Dev nD) (i : grid0.Coords) (arg1 : Memref sig .tc .vmem S1x200x128 .fp8e4m3) (harg1 : arg1.IsWhole) (arg2 : Memref sig .tc .vmem S1x200x64 .bf16) (harg2 : arg2.IsWhole) (arg3 : Memref sig .tc .vmem S1x200x128 .f32) (harg3 : arg3.IsWhole) (arg4 : Memref sig .tc .vmem S64x16384 .bf16) (harg4 : arg4.IsWhole) (arg5 : Memref sig .tc .smem S16 .f32) (harg5 : arg5.IsWhole) (arg6 : Memref sig .tc .vmem S1x16384x128 .fp8e4m3) (harg6 : arg6.IsWhole) (arg7 : Memref sig .tc .vmem S1x16384x128 .fp8e4m3) (harg7 : arg7.IsWhole) (arg8 : Memref sig .tc .vmem S1x200x128 .f32) (harg8 : arg8.IsWhole) (arg9 : Memref sig .tc .vmem S1x200x128 .f32) (harg9 : arg9.IsWhole) (arg10 : Memref sig .tc .vmem S200x16384 .f32) (harg10 : arg10.IsWhole) (arg11 : Memref sig .tc .vmem S200x128 .f32) (harg11 : arg11.IsWhole) (arg12 : Memref sig .tc .vmem S200x128 .f32) (harg12 : arg12.IsWhole) (arg13 : Memref sig .tc .vmem S200x128 .f32) (harg13 : arg13.IsWhole) (arg14 : Memref sig .tc .vmem S200x128 .f32) (harg14 : arg14.IsWhole) (hc0 : cond0_0 i) (hc1 : ¬cond0_1 i) (hc2 : ¬cond0_2 i) (hc3 : ¬cond0_3 i) (hc4 : cond0_4 i)
    (x0 : Vec F S1x200x128 .fp8e4m3) (x1 : Vec F S1x200x64 .bf16) (x2 : Vec F S1x200x128 .f32) (x3 : Vec F S64x16384 .bf16) (x4 : Vec F S16 .f32) (x5 : Vec F S1x16384x128 .fp8e4m3) (x6 : Vec F S1x16384x128 .fp8e4m3) : Vec F S200x16384 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6).2.2.1)

/-- Case A's pieces for scratch `arg12`, which the kernel carries between points, cover it: 1 piece of `S200x128` tiling it (Lib/Ring.lean `Piece.tiledL`). -/
theorem scover0_A_2 (c : Dev nD) (i : grid0.Coords) (arg1 : Memref sig .tc .vmem S1x200x128 .fp8e4m3) (harg1 : arg1.IsWhole) (arg2 : Memref sig .tc .vmem S1x200x64 .bf16) (harg2 : arg2.IsWhole) (arg3 : Memref sig .tc .vmem S1x200x128 .f32) (harg3 : arg3.IsWhole) (arg4 : Memref sig .tc .vmem S64x16384 .bf16) (harg4 : arg4.IsWhole) (arg5 : Memref sig .tc .smem S16 .f32) (harg5 : arg5.IsWhole) (arg6 : Memref sig .tc .vmem S1x16384x128 .fp8e4m3) (harg6 : arg6.IsWhole) (arg7 : Memref sig .tc .vmem S1x16384x128 .fp8e4m3) (harg7 : arg7.IsWhole) (arg8 : Memref sig .tc .vmem S1x200x128 .f32) (harg8 : arg8.IsWhole) (arg9 : Memref sig .tc .vmem S1x200x128 .f32) (harg9 : arg9.IsWhole) (arg10 : Memref sig .tc .vmem S200x16384 .f32) (harg10 : arg10.IsWhole) (arg11 : Memref sig .tc .vmem S200x128 .f32) (harg11 : arg11.IsWhole) (arg12 : Memref sig .tc .vmem S200x128 .f32) (harg12 : arg12.IsWhole) (arg13 : Memref sig .tc .vmem S200x128 .f32) (harg13 : arg13.IsWhole) (arg14 : Memref sig .tc .vmem S200x128 .f32) (harg14 : arg14.IsWhole) (hc0 : cond0_0 i) (hc1 : ¬cond0_1 i) (hc2 : ¬cond0_2 i) (hc3 : ¬cond0_3 i) (hc4 : cond0_4 i)
    (x0 : Vec F S1x200x128 .fp8e4m3) (x1 : Vec F S1x200x64 .bf16) (x2 : Vec F S1x200x128 .f32) (x3 : Vec F S64x16384 .bf16) (x4 : Vec F S16 .f32) (x5 : Vec F S1x16384x128 .fp8e4m3) (x6 : Vec F S1x16384x128 .fp8e4m3) (y : S200x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6).2.2.2.1 S200x128.size (by sl_kernel_rfl) y

/-- What case A leaves in scratch `arg12`: its pieces read back over junk. -/
def sout0_A_2 (c : Dev nD) (i : grid0.Coords) (arg1 : Memref sig .tc .vmem S1x200x128 .fp8e4m3) (harg1 : arg1.IsWhole) (arg2 : Memref sig .tc .vmem S1x200x64 .bf16) (harg2 : arg2.IsWhole) (arg3 : Memref sig .tc .vmem S1x200x128 .f32) (harg3 : arg3.IsWhole) (arg4 : Memref sig .tc .vmem S64x16384 .bf16) (harg4 : arg4.IsWhole) (arg5 : Memref sig .tc .smem S16 .f32) (harg5 : arg5.IsWhole) (arg6 : Memref sig .tc .vmem S1x16384x128 .fp8e4m3) (harg6 : arg6.IsWhole) (arg7 : Memref sig .tc .vmem S1x16384x128 .fp8e4m3) (harg7 : arg7.IsWhole) (arg8 : Memref sig .tc .vmem S1x200x128 .f32) (harg8 : arg8.IsWhole) (arg9 : Memref sig .tc .vmem S1x200x128 .f32) (harg9 : arg9.IsWhole) (arg10 : Memref sig .tc .vmem S200x16384 .f32) (harg10 : arg10.IsWhole) (arg11 : Memref sig .tc .vmem S200x128 .f32) (harg11 : arg11.IsWhole) (arg12 : Memref sig .tc .vmem S200x128 .f32) (harg12 : arg12.IsWhole) (arg13 : Memref sig .tc .vmem S200x128 .f32) (harg13 : arg13.IsWhole) (arg14 : Memref sig .tc .vmem S200x128 .f32) (harg14 : arg14.IsWhole) (hc0 : cond0_0 i) (hc1 : ¬cond0_1 i) (hc2 : ¬cond0_2 i) (hc3 : ¬cond0_3 i) (hc4 : cond0_4 i)
    (x0 : Vec F S1x200x128 .fp8e4m3) (x1 : Vec F S1x200x64 .bf16) (x2 : Vec F S1x200x128 .f32) (x3 : Vec F S64x16384 .bf16) (x4 : Vec F S16 .f32) (x5 : Vec F S1x16384x128 .fp8e4m3) (x6 : Vec F S1x16384x128 .fp8e4m3) : Vec F S200x128 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6).2.2.2.1)

/-- Case B's pieces for output 7 tile its block (1 store of `S1x200x128`, checked by the kernel's evaluation: Lib/Ring.lean `Piece.tiledL`, linear in the pieces, through a loop's `@[irreducible]` trip theorem too), so they cover it. -/
theorem cover0_B_7 (c : Dev nD) (i : grid0.Coords) (arg1 : Memref sig .tc .vmem S1x200x128 .fp8e4m3) (harg1 : arg1.IsWhole) (arg2 : Memref sig .tc .vmem S1x200x64 .bf16) (harg2 : arg2.IsWhole) (arg3 : Memref sig .tc .vmem S1x200x128 .f32) (harg3 : arg3.IsWhole) (arg4 : Memref sig .tc .vmem S64x16384 .bf16) (harg4 : arg4.IsWhole) (arg5 : Memref sig .tc .smem S16 .f32) (harg5 : arg5.IsWhole) (arg6 : Memref sig .tc .vmem S1x16384x128 .fp8e4m3) (harg6 : arg6.IsWhole) (arg7 : Memref sig .tc .vmem S1x16384x128 .fp8e4m3) (harg7 : arg7.IsWhole) (arg8 : Memref sig .tc .vmem S1x200x128 .f32) (harg8 : arg8.IsWhole) (arg9 : Memref sig .tc .vmem S1x200x128 .f32) (harg9 : arg9.IsWhole) (arg10 : Memref sig .tc .vmem S200x16384 .f32) (harg10 : arg10.IsWhole) (arg11 : Memref sig .tc .vmem S200x128 .f32) (harg11 : arg11.IsWhole) (arg12 : Memref sig .tc .vmem S200x128 .f32) (harg12 : arg12.IsWhole) (arg13 : Memref sig .tc .vmem S200x128 .f32) (harg13 : arg13.IsWhole) (arg14 : Memref sig .tc .vmem S200x128 .f32) (harg14 : arg14.IsWhole) (hc0 : ¬cond0_0 i) (hc1 : cond0_1 i) (hc2 : ¬cond0_2 i) (hc3 : cond0_3 i) (hc4 : cond0_4 i)
    (x0 : Vec F S1x200x128 .fp8e4m3) (x1 : Vec F S1x200x64 .bf16) (x2 : Vec F S1x200x128 .f32) (x3 : Vec F S64x16384 .bf16) (x4 : Vec F S16 .f32) (x5 : Vec F S1x16384x128 .fp8e4m3) (x6 : Vec F S1x16384x128 .fp8e4m3) (xs0 : Vec F S200x16384 .f32) (xs2 : Vec F S200x128 .f32) (y : S1x200x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xs0 xs2).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xs0 xs2).1 S1x200x128.size (by sl_kernel_rfl) y

/-- What case B leaves in output 7's staging buffer: its pieces read back over junk. -/
def out0_B_7 (c : Dev nD) (i : grid0.Coords) (arg1 : Memref sig .tc .vmem S1x200x128 .fp8e4m3) (harg1 : arg1.IsWhole) (arg2 : Memref sig .tc .vmem S1x200x64 .bf16) (harg2 : arg2.IsWhole) (arg3 : Memref sig .tc .vmem S1x200x128 .f32) (harg3 : arg3.IsWhole) (arg4 : Memref sig .tc .vmem S64x16384 .bf16) (harg4 : arg4.IsWhole) (arg5 : Memref sig .tc .smem S16 .f32) (harg5 : arg5.IsWhole) (arg6 : Memref sig .tc .vmem S1x16384x128 .fp8e4m3) (harg6 : arg6.IsWhole) (arg7 : Memref sig .tc .vmem S1x16384x128 .fp8e4m3) (harg7 : arg7.IsWhole) (arg8 : Memref sig .tc .vmem S1x200x128 .f32) (harg8 : arg8.IsWhole) (arg9 : Memref sig .tc .vmem S1x200x128 .f32) (harg9 : arg9.IsWhole) (arg10 : Memref sig .tc .vmem S200x16384 .f32) (harg10 : arg10.IsWhole) (arg11 : Memref sig .tc .vmem S200x128 .f32) (harg11 : arg11.IsWhole) (arg12 : Memref sig .tc .vmem S200x128 .f32) (harg12 : arg12.IsWhole) (arg13 : Memref sig .tc .vmem S200x128 .f32) (harg13 : arg13.IsWhole) (arg14 : Memref sig .tc .vmem S200x128 .f32) (harg14 : arg14.IsWhole) (hc0 : ¬cond0_0 i) (hc1 : cond0_1 i) (hc2 : ¬cond0_2 i) (hc3 : cond0_3 i) (hc4 : cond0_4 i)
    (x0 : Vec F S1x200x128 .fp8e4m3) (x1 : Vec F S1x200x64 .bf16) (x2 : Vec F S1x200x128 .f32) (x3 : Vec F S64x16384 .bf16) (x4 : Vec F S16 .f32) (x5 : Vec F S1x16384x128 .fp8e4m3) (x6 : Vec F S1x16384x128 .fp8e4m3) (xs0 : Vec F S200x16384 .f32) (xs2 : Vec F S200x128 .f32) : Vec F S1x200x128 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xs0 xs2).1)

/-- Case B's pieces for output 8 tile its block (1 store of `S1x200x128`, checked by the kernel's evaluation: Lib/Ring.lean `Piece.tiledL`, linear in the pieces, through a loop's `@[irreducible]` trip theorem too), so they cover it. -/
theorem cover0_B_8 (c : Dev nD) (i : grid0.Coords) (arg1 : Memref sig .tc .vmem S1x200x128 .fp8e4m3) (harg1 : arg1.IsWhole) (arg2 : Memref sig .tc .vmem S1x200x64 .bf16) (harg2 : arg2.IsWhole) (arg3 : Memref sig .tc .vmem S1x200x128 .f32) (harg3 : arg3.IsWhole) (arg4 : Memref sig .tc .vmem S64x16384 .bf16) (harg4 : arg4.IsWhole) (arg5 : Memref sig .tc .smem S16 .f32) (harg5 : arg5.IsWhole) (arg6 : Memref sig .tc .vmem S1x16384x128 .fp8e4m3) (harg6 : arg6.IsWhole) (arg7 : Memref sig .tc .vmem S1x16384x128 .fp8e4m3) (harg7 : arg7.IsWhole) (arg8 : Memref sig .tc .vmem S1x200x128 .f32) (harg8 : arg8.IsWhole) (arg9 : Memref sig .tc .vmem S1x200x128 .f32) (harg9 : arg9.IsWhole) (arg10 : Memref sig .tc .vmem S200x16384 .f32) (harg10 : arg10.IsWhole) (arg11 : Memref sig .tc .vmem S200x128 .f32) (harg11 : arg11.IsWhole) (arg12 : Memref sig .tc .vmem S200x128 .f32) (harg12 : arg12.IsWhole) (arg13 : Memref sig .tc .vmem S200x128 .f32) (harg13 : arg13.IsWhole) (arg14 : Memref sig .tc .vmem S200x128 .f32) (harg14 : arg14.IsWhole) (hc0 : ¬cond0_0 i) (hc1 : cond0_1 i) (hc2 : ¬cond0_2 i) (hc3 : cond0_3 i) (hc4 : cond0_4 i)
    (x0 : Vec F S1x200x128 .fp8e4m3) (x1 : Vec F S1x200x64 .bf16) (x2 : Vec F S1x200x128 .f32) (x3 : Vec F S64x16384 .bf16) (x4 : Vec F S16 .f32) (x5 : Vec F S1x16384x128 .fp8e4m3) (x6 : Vec F S1x16384x128 .fp8e4m3) (xs0 : Vec F S200x16384 .f32) (xs2 : Vec F S200x128 .f32) (y : S1x200x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xs0 xs2).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xs0 xs2).2.1 S1x200x128.size (by sl_kernel_rfl) y

/-- What case B leaves in output 8's staging buffer: its pieces read back over junk. -/
def out0_B_8 (c : Dev nD) (i : grid0.Coords) (arg1 : Memref sig .tc .vmem S1x200x128 .fp8e4m3) (harg1 : arg1.IsWhole) (arg2 : Memref sig .tc .vmem S1x200x64 .bf16) (harg2 : arg2.IsWhole) (arg3 : Memref sig .tc .vmem S1x200x128 .f32) (harg3 : arg3.IsWhole) (arg4 : Memref sig .tc .vmem S64x16384 .bf16) (harg4 : arg4.IsWhole) (arg5 : Memref sig .tc .smem S16 .f32) (harg5 : arg5.IsWhole) (arg6 : Memref sig .tc .vmem S1x16384x128 .fp8e4m3) (harg6 : arg6.IsWhole) (arg7 : Memref sig .tc .vmem S1x16384x128 .fp8e4m3) (harg7 : arg7.IsWhole) (arg8 : Memref sig .tc .vmem S1x200x128 .f32) (harg8 : arg8.IsWhole) (arg9 : Memref sig .tc .vmem S1x200x128 .f32) (harg9 : arg9.IsWhole) (arg10 : Memref sig .tc .vmem S200x16384 .f32) (harg10 : arg10.IsWhole) (arg11 : Memref sig .tc .vmem S200x128 .f32) (harg11 : arg11.IsWhole) (arg12 : Memref sig .tc .vmem S200x128 .f32) (harg12 : arg12.IsWhole) (arg13 : Memref sig .tc .vmem S200x128 .f32) (harg13 : arg13.IsWhole) (arg14 : Memref sig .tc .vmem S200x128 .f32) (harg14 : arg14.IsWhole) (hc0 : ¬cond0_0 i) (hc1 : cond0_1 i) (hc2 : ¬cond0_2 i) (hc3 : cond0_3 i) (hc4 : cond0_4 i)
    (x0 : Vec F S1x200x128 .fp8e4m3) (x1 : Vec F S1x200x64 .bf16) (x2 : Vec F S1x200x128 .f32) (x3 : Vec F S64x16384 .bf16) (x4 : Vec F S16 .f32) (x5 : Vec F S1x16384x128 .fp8e4m3) (x6 : Vec F S1x16384x128 .fp8e4m3) (xs0 : Vec F S200x16384 .f32) (xs2 : Vec F S200x128 .f32) : Vec F S1x200x128 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xs0 xs2).2.1)

/-- What case B leaves in scratch `arg10`: its pieces (stores, a counted loop's segment) read back over what the point before left there, which it read first. -/
def sout0_B_0 (c : Dev nD) (i : grid0.Coords) (arg1 : Memref sig .tc .vmem S1x200x128 .fp8e4m3) (harg1 : arg1.IsWhole) (arg2 : Memref sig .tc .vmem S1x200x64 .bf16) (harg2 : arg2.IsWhole) (arg3 : Memref sig .tc .vmem S1x200x128 .f32) (harg3 : arg3.IsWhole) (arg4 : Memref sig .tc .vmem S64x16384 .bf16) (harg4 : arg4.IsWhole) (arg5 : Memref sig .tc .smem S16 .f32) (harg5 : arg5.IsWhole) (arg6 : Memref sig .tc .vmem S1x16384x128 .fp8e4m3) (harg6 : arg6.IsWhole) (arg7 : Memref sig .tc .vmem S1x16384x128 .fp8e4m3) (harg7 : arg7.IsWhole) (arg8 : Memref sig .tc .vmem S1x200x128 .f32) (harg8 : arg8.IsWhole) (arg9 : Memref sig .tc .vmem S1x200x128 .f32) (harg9 : arg9.IsWhole) (arg10 : Memref sig .tc .vmem S200x16384 .f32) (harg10 : arg10.IsWhole) (arg11 : Memref sig .tc .vmem S200x128 .f32) (harg11 : arg11.IsWhole) (arg12 : Memref sig .tc .vmem S200x128 .f32) (harg12 : arg12.IsWhole) (arg13 : Memref sig .tc .vmem S200x128 .f32) (harg13 : arg13.IsWhole) (arg14 : Memref sig .tc .vmem S200x128 .f32) (harg14 : arg14.IsWhole) (hc0 : ¬cond0_0 i) (hc1 : cond0_1 i) (hc2 : ¬cond0_2 i) (hc3 : cond0_3 i) (hc4 : cond0_4 i)
    (x0 : Vec F S1x200x128 .fp8e4m3) (x1 : Vec F S1x200x64 .bf16) (x2 : Vec F S1x200x128 .f32) (x3 : Vec F S64x16384 .bf16) (x4 : Vec F S16 .f32) (x5 : Vec F S1x16384x128 .fp8e4m3) (x6 : Vec F S1x16384x128 .fp8e4m3) (xs0 : Vec F S200x16384 .f32) (xs2 : Vec F S200x128 .f32) : Vec F S200x16384 .f32 :=
  arg10.view.read (Elt F) (arg10.view.writes (Elt F) (harg10.unread xs0) (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xs0 xs2).2.2.1)

/-- Case B's pieces for scratch `arg12`, which the kernel carries between points, cover it: 1 piece of `S200x128` tiling it (Lib/Ring.lean `Piece.tiledL`). -/
theorem scover0_B_2 (c : Dev nD) (i : grid0.Coords) (arg1 : Memref sig .tc .vmem S1x200x128 .fp8e4m3) (harg1 : arg1.IsWhole) (arg2 : Memref sig .tc .vmem S1x200x64 .bf16) (harg2 : arg2.IsWhole) (arg3 : Memref sig .tc .vmem S1x200x128 .f32) (harg3 : arg3.IsWhole) (arg4 : Memref sig .tc .vmem S64x16384 .bf16) (harg4 : arg4.IsWhole) (arg5 : Memref sig .tc .smem S16 .f32) (harg5 : arg5.IsWhole) (arg6 : Memref sig .tc .vmem S1x16384x128 .fp8e4m3) (harg6 : arg6.IsWhole) (arg7 : Memref sig .tc .vmem S1x16384x128 .fp8e4m3) (harg7 : arg7.IsWhole) (arg8 : Memref sig .tc .vmem S1x200x128 .f32) (harg8 : arg8.IsWhole) (arg9 : Memref sig .tc .vmem S1x200x128 .f32) (harg9 : arg9.IsWhole) (arg10 : Memref sig .tc .vmem S200x16384 .f32) (harg10 : arg10.IsWhole) (arg11 : Memref sig .tc .vmem S200x128 .f32) (harg11 : arg11.IsWhole) (arg12 : Memref sig .tc .vmem S200x128 .f32) (harg12 : arg12.IsWhole) (arg13 : Memref sig .tc .vmem S200x128 .f32) (harg13 : arg13.IsWhole) (arg14 : Memref sig .tc .vmem S200x128 .f32) (harg14 : arg14.IsWhole) (hc0 : ¬cond0_0 i) (hc1 : cond0_1 i) (hc2 : ¬cond0_2 i) (hc3 : cond0_3 i) (hc4 : cond0_4 i)
    (x0 : Vec F S1x200x128 .fp8e4m3) (x1 : Vec F S1x200x64 .bf16) (x2 : Vec F S1x200x128 .f32) (x3 : Vec F S64x16384 .bf16) (x4 : Vec F S16 .f32) (x5 : Vec F S1x16384x128 .fp8e4m3) (x6 : Vec F S1x16384x128 .fp8e4m3) (xs0 : Vec F S200x16384 .f32) (xs2 : Vec F S200x128 .f32) (y : S200x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xs0 xs2).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xs0 xs2).2.2.2.1 S200x128.size (by sl_kernel_rfl) y

/-- What case B leaves in scratch `arg12`: its pieces read back over junk. -/
def sout0_B_2 (c : Dev nD) (i : grid0.Coords) (arg1 : Memref sig .tc .vmem S1x200x128 .fp8e4m3) (harg1 : arg1.IsWhole) (arg2 : Memref sig .tc .vmem S1x200x64 .bf16) (harg2 : arg2.IsWhole) (arg3 : Memref sig .tc .vmem S1x200x128 .f32) (harg3 : arg3.IsWhole) (arg4 : Memref sig .tc .vmem S64x16384 .bf16) (harg4 : arg4.IsWhole) (arg5 : Memref sig .tc .smem S16 .f32) (harg5 : arg5.IsWhole) (arg6 : Memref sig .tc .vmem S1x16384x128 .fp8e4m3) (harg6 : arg6.IsWhole) (arg7 : Memref sig .tc .vmem S1x16384x128 .fp8e4m3) (harg7 : arg7.IsWhole) (arg8 : Memref sig .tc .vmem S1x200x128 .f32) (harg8 : arg8.IsWhole) (arg9 : Memref sig .tc .vmem S1x200x128 .f32) (harg9 : arg9.IsWhole) (arg10 : Memref sig .tc .vmem S200x16384 .f32) (harg10 : arg10.IsWhole) (arg11 : Memref sig .tc .vmem S200x128 .f32) (harg11 : arg11.IsWhole) (arg12 : Memref sig .tc .vmem S200x128 .f32) (harg12 : arg12.IsWhole) (arg13 : Memref sig .tc .vmem S200x128 .f32) (harg13 : arg13.IsWhole) (arg14 : Memref sig .tc .vmem S200x128 .f32) (harg14 : arg14.IsWhole) (hc0 : ¬cond0_0 i) (hc1 : cond0_1 i) (hc2 : ¬cond0_2 i) (hc3 : cond0_3 i) (hc4 : cond0_4 i)
    (x0 : Vec F S1x200x128 .fp8e4m3) (x1 : Vec F S1x200x64 .bf16) (x2 : Vec F S1x200x128 .f32) (x3 : Vec F S64x16384 .bf16) (x4 : Vec F S16 .f32) (x5 : Vec F S1x16384x128 .fp8e4m3) (x6 : Vec F S1x16384x128 .fp8e4m3) (xs0 : Vec F S200x16384 .f32) (xs2 : Vec F S200x128 .f32) : Vec F S200x128 .f32 :=
  VS0_2.read (Elt F) (VS0_2.writes (Elt F) VS0_2.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xs0 xs2).2.2.2.1)

/-- Case C's pieces for output 7 tile its block (1 store of `S1x200x128`, checked by the kernel's evaluation: Lib/Ring.lean `Piece.tiledL`, linear in the pieces, through a loop's `@[irreducible]` trip theorem too), so they cover it. -/
theorem cover0_C_7 (c : Dev nD) (i : grid0.Coords) (arg1 : Memref sig .tc .vmem S1x200x128 .fp8e4m3) (harg1 : arg1.IsWhole) (arg2 : Memref sig .tc .vmem S1x200x64 .bf16) (harg2 : arg2.IsWhole) (arg3 : Memref sig .tc .vmem S1x200x128 .f32) (harg3 : arg3.IsWhole) (arg4 : Memref sig .tc .vmem S64x16384 .bf16) (harg4 : arg4.IsWhole) (arg5 : Memref sig .tc .smem S16 .f32) (harg5 : arg5.IsWhole) (arg6 : Memref sig .tc .vmem S1x16384x128 .fp8e4m3) (harg6 : arg6.IsWhole) (arg7 : Memref sig .tc .vmem S1x16384x128 .fp8e4m3) (harg7 : arg7.IsWhole) (arg8 : Memref sig .tc .vmem S1x200x128 .f32) (harg8 : arg8.IsWhole) (arg9 : Memref sig .tc .vmem S1x200x128 .f32) (harg9 : arg9.IsWhole) (arg10 : Memref sig .tc .vmem S200x16384 .f32) (harg10 : arg10.IsWhole) (arg11 : Memref sig .tc .vmem S200x128 .f32) (harg11 : arg11.IsWhole) (arg12 : Memref sig .tc .vmem S200x128 .f32) (harg12 : arg12.IsWhole) (arg13 : Memref sig .tc .vmem S200x128 .f32) (harg13 : arg13.IsWhole) (arg14 : Memref sig .tc .vmem S200x128 .f32) (harg14 : arg14.IsWhole) (hc0 : ¬cond0_0 i) (hc1 : ¬cond0_1 i) (hc2 : cond0_2 i) (hc3 : cond0_3 i) (hc4 : ¬cond0_4 i)
    (x0 : Vec F S1x200x128 .fp8e4m3) (x1 : Vec F S1x200x64 .bf16) (x2 : Vec F S1x200x128 .f32) (x3 : Vec F S64x16384 .bf16) (x4 : Vec F S16 .f32) (x5 : Vec F S1x16384x128 .fp8e4m3) (x6 : Vec F S1x16384x128 .fp8e4m3) (xs0 : Vec F S200x16384 .f32) (xs2 : Vec F S200x128 .f32) (y : S1x200x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xs0 xs2).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xs0 xs2).1 S1x200x128.size (by sl_kernel_rfl) y

/-- What case C leaves in output 7's staging buffer: its pieces read back over junk. -/
def out0_C_7 (c : Dev nD) (i : grid0.Coords) (arg1 : Memref sig .tc .vmem S1x200x128 .fp8e4m3) (harg1 : arg1.IsWhole) (arg2 : Memref sig .tc .vmem S1x200x64 .bf16) (harg2 : arg2.IsWhole) (arg3 : Memref sig .tc .vmem S1x200x128 .f32) (harg3 : arg3.IsWhole) (arg4 : Memref sig .tc .vmem S64x16384 .bf16) (harg4 : arg4.IsWhole) (arg5 : Memref sig .tc .smem S16 .f32) (harg5 : arg5.IsWhole) (arg6 : Memref sig .tc .vmem S1x16384x128 .fp8e4m3) (harg6 : arg6.IsWhole) (arg7 : Memref sig .tc .vmem S1x16384x128 .fp8e4m3) (harg7 : arg7.IsWhole) (arg8 : Memref sig .tc .vmem S1x200x128 .f32) (harg8 : arg8.IsWhole) (arg9 : Memref sig .tc .vmem S1x200x128 .f32) (harg9 : arg9.IsWhole) (arg10 : Memref sig .tc .vmem S200x16384 .f32) (harg10 : arg10.IsWhole) (arg11 : Memref sig .tc .vmem S200x128 .f32) (harg11 : arg11.IsWhole) (arg12 : Memref sig .tc .vmem S200x128 .f32) (harg12 : arg12.IsWhole) (arg13 : Memref sig .tc .vmem S200x128 .f32) (harg13 : arg13.IsWhole) (arg14 : Memref sig .tc .vmem S200x128 .f32) (harg14 : arg14.IsWhole) (hc0 : ¬cond0_0 i) (hc1 : ¬cond0_1 i) (hc2 : cond0_2 i) (hc3 : cond0_3 i) (hc4 : ¬cond0_4 i)
    (x0 : Vec F S1x200x128 .fp8e4m3) (x1 : Vec F S1x200x64 .bf16) (x2 : Vec F S1x200x128 .f32) (x3 : Vec F S64x16384 .bf16) (x4 : Vec F S16 .f32) (x5 : Vec F S1x16384x128 .fp8e4m3) (x6 : Vec F S1x16384x128 .fp8e4m3) (xs0 : Vec F S200x16384 .f32) (xs2 : Vec F S200x128 .f32) : Vec F S1x200x128 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xs0 xs2).1)

/-- Case C's pieces for output 8 tile its block (1 store of `S1x200x128`, checked by the kernel's evaluation: Lib/Ring.lean `Piece.tiledL`, linear in the pieces, through a loop's `@[irreducible]` trip theorem too), so they cover it. -/
theorem cover0_C_8 (c : Dev nD) (i : grid0.Coords) (arg1 : Memref sig .tc .vmem S1x200x128 .fp8e4m3) (harg1 : arg1.IsWhole) (arg2 : Memref sig .tc .vmem S1x200x64 .bf16) (harg2 : arg2.IsWhole) (arg3 : Memref sig .tc .vmem S1x200x128 .f32) (harg3 : arg3.IsWhole) (arg4 : Memref sig .tc .vmem S64x16384 .bf16) (harg4 : arg4.IsWhole) (arg5 : Memref sig .tc .smem S16 .f32) (harg5 : arg5.IsWhole) (arg6 : Memref sig .tc .vmem S1x16384x128 .fp8e4m3) (harg6 : arg6.IsWhole) (arg7 : Memref sig .tc .vmem S1x16384x128 .fp8e4m3) (harg7 : arg7.IsWhole) (arg8 : Memref sig .tc .vmem S1x200x128 .f32) (harg8 : arg8.IsWhole) (arg9 : Memref sig .tc .vmem S1x200x128 .f32) (harg9 : arg9.IsWhole) (arg10 : Memref sig .tc .vmem S200x16384 .f32) (harg10 : arg10.IsWhole) (arg11 : Memref sig .tc .vmem S200x128 .f32) (harg11 : arg11.IsWhole) (arg12 : Memref sig .tc .vmem S200x128 .f32) (harg12 : arg12.IsWhole) (arg13 : Memref sig .tc .vmem S200x128 .f32) (harg13 : arg13.IsWhole) (arg14 : Memref sig .tc .vmem S200x128 .f32) (harg14 : arg14.IsWhole) (hc0 : ¬cond0_0 i) (hc1 : ¬cond0_1 i) (hc2 : cond0_2 i) (hc3 : cond0_3 i) (hc4 : ¬cond0_4 i)
    (x0 : Vec F S1x200x128 .fp8e4m3) (x1 : Vec F S1x200x64 .bf16) (x2 : Vec F S1x200x128 .f32) (x3 : Vec F S64x16384 .bf16) (x4 : Vec F S16 .f32) (x5 : Vec F S1x16384x128 .fp8e4m3) (x6 : Vec F S1x16384x128 .fp8e4m3) (xs0 : Vec F S200x16384 .f32) (xs2 : Vec F S200x128 .f32) (y : S1x200x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xs0 xs2).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xs0 xs2).2.1 S1x200x128.size (by sl_kernel_rfl) y

/-- What case C leaves in output 8's staging buffer: its pieces read back over junk. -/
def out0_C_8 (c : Dev nD) (i : grid0.Coords) (arg1 : Memref sig .tc .vmem S1x200x128 .fp8e4m3) (harg1 : arg1.IsWhole) (arg2 : Memref sig .tc .vmem S1x200x64 .bf16) (harg2 : arg2.IsWhole) (arg3 : Memref sig .tc .vmem S1x200x128 .f32) (harg3 : arg3.IsWhole) (arg4 : Memref sig .tc .vmem S64x16384 .bf16) (harg4 : arg4.IsWhole) (arg5 : Memref sig .tc .smem S16 .f32) (harg5 : arg5.IsWhole) (arg6 : Memref sig .tc .vmem S1x16384x128 .fp8e4m3) (harg6 : arg6.IsWhole) (arg7 : Memref sig .tc .vmem S1x16384x128 .fp8e4m3) (harg7 : arg7.IsWhole) (arg8 : Memref sig .tc .vmem S1x200x128 .f32) (harg8 : arg8.IsWhole) (arg9 : Memref sig .tc .vmem S1x200x128 .f32) (harg9 : arg9.IsWhole) (arg10 : Memref sig .tc .vmem S200x16384 .f32) (harg10 : arg10.IsWhole) (arg11 : Memref sig .tc .vmem S200x128 .f32) (harg11 : arg11.IsWhole) (arg12 : Memref sig .tc .vmem S200x128 .f32) (harg12 : arg12.IsWhole) (arg13 : Memref sig .tc .vmem S200x128 .f32) (harg13 : arg13.IsWhole) (arg14 : Memref sig .tc .vmem S200x128 .f32) (harg14 : arg14.IsWhole) (hc0 : ¬cond0_0 i) (hc1 : ¬cond0_1 i) (hc2 : cond0_2 i) (hc3 : cond0_3 i) (hc4 : ¬cond0_4 i)
    (x0 : Vec F S1x200x128 .fp8e4m3) (x1 : Vec F S1x200x64 .bf16) (x2 : Vec F S1x200x128 .f32) (x3 : Vec F S64x16384 .bf16) (x4 : Vec F S16 .f32) (x5 : Vec F S1x16384x128 .fp8e4m3) (x6 : Vec F S1x16384x128 .fp8e4m3) (xs0 : Vec F S200x16384 .f32) (xs2 : Vec F S200x128 .f32) : Vec F S1x200x128 .f32 :=
  VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 x6 xs0 xs2).2.1)

/-- Case C stores nothing into scratch `arg10`: it holds what the point before left. -/
def sout0_C_0 (c : Dev nD) (i : grid0.Coords) (arg1 : Memref sig .tc .vmem S1x200x128 .fp8e4m3) (harg1 : arg1.IsWhole) (arg2 : Memref sig .tc .vmem S1x200x64 .bf16) (harg2 : arg2.IsWhole) (arg3 : Memref sig .tc .vmem S1x200x128 .f32) (harg3 : arg3.IsWhole) (arg4 : Memref sig .tc .vmem S64x16384 .bf16) (harg4 : arg4.IsWhole) (arg5 : Memref sig .tc .smem S16 .f32) (harg5 : arg5.IsWhole) (arg6 : Memref sig .tc .vmem S1x16384x128 .fp8e4m3) (harg6 : arg6.IsWhole) (arg7 : Memref sig .tc .vmem S1x16384x128 .fp8e4m3) (harg7 : arg7.IsWhole) (arg8 : Memref sig .tc .vmem S1x200x128 .f32) (harg8 : arg8.IsWhole) (arg9 : Memref sig .tc .vmem S1x200x128 .f32) (harg9 : arg9.IsWhole) (arg10 : Memref sig .tc .vmem S200x16384 .f32) (harg10 : arg10.IsWhole) (arg11 : Memref sig .tc .vmem S200x128 .f32) (harg11 : arg11.IsWhole) (arg12 : Memref sig .tc .vmem S200x128 .f32) (harg12 : arg12.IsWhole) (arg13 : Memref sig .tc .vmem S200x128 .f32) (harg13 : arg13.IsWhole) (arg14 : Memref sig .tc .vmem S200x128 .f32) (harg14 : arg14.IsWhole) (hc0 : ¬cond0_0 i) (hc1 : ¬cond0_1 i) (hc2 : cond0_2 i) (hc3 : cond0_3 i) (hc4 : ¬cond0_4 i)
    (x0 : Vec F S1x200x128 .fp8e4m3) (x1 : Vec F S1x200x64 .bf16) (x2 : Vec F S1x200x128 .f32) (x3 : Vec F S64x16384 .bf16) (x4 : Vec F S16 .f32) (x5 : Vec F S1x16384x128 .fp8e4m3) (x6 : Vec F S1x16384x128 .fp8e4m3) (xs0 : Vec F S200x16384 .f32) (xs2 : Vec F S200x128 .f32) : Vec F S200x16384 .f32 := xs0

/-- Case C stores nothing into scratch `arg12`: it holds what the point before left. -/
def sout0_C_2 (c : Dev nD) (i : grid0.Coords) (arg1 : Memref sig .tc .vmem S1x200x128 .fp8e4m3) (harg1 : arg1.IsWhole) (arg2 : Memref sig .tc .vmem S1x200x64 .bf16) (harg2 : arg2.IsWhole) (arg3 : Memref sig .tc .vmem S1x200x128 .f32) (harg3 : arg3.IsWhole) (arg4 : Memref sig .tc .vmem S64x16384 .bf16) (harg4 : arg4.IsWhole) (arg5 : Memref sig .tc .smem S16 .f32) (harg5 : arg5.IsWhole) (arg6 : Memref sig .tc .vmem S1x16384x128 .fp8e4m3) (harg6 : arg6.IsWhole) (arg7 : Memref sig .tc .vmem S1x16384x128 .fp8e4m3) (harg7 : arg7.IsWhole) (arg8 : Memref sig .tc .vmem S1x200x128 .f32) (harg8 : arg8.IsWhole) (arg9 : Memref sig .tc .vmem S1x200x128 .f32) (harg9 : arg9.IsWhole) (arg10 : Memref sig .tc .vmem S200x16384 .f32) (harg10 : arg10.IsWhole) (arg11 : Memref sig .tc .vmem S200x128 .f32) (harg11 : arg11.IsWhole) (arg12 : Memref sig .tc .vmem S200x128 .f32) (harg12 : arg12.IsWhole) (arg13 : Memref sig .tc .vmem S200x128 .f32) (harg13 : arg13.IsWhole) (arg14 : Memref sig .tc .vmem S200x128 .f32) (harg14 : arg14.IsWhole) (hc0 : ¬cond0_0 i) (hc1 : ¬cond0_1 i) (hc2 : cond0_2 i) (hc3 : cond0_3 i) (hc4 : ¬cond0_4 i)
    (x0 : Vec F S1x200x128 .fp8e4m3) (x1 : Vec F S1x200x64 .bf16) (x2 : Vec F S1x200x128 .f32) (x3 : Vec F S64x16384 .bf16) (x4 : Vec F S16 .f32) (x5 : Vec F S1x16384x128 .fp8e4m3) (x6 : Vec F S1x16384x128 .fp8e4m3) (xs0 : Vec F S200x16384 .f32) (xs2 : Vec F S200x128 .f32) : Vec F S200x128 .f32 := xs2

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x200x128 .f32 × Vec F S1x200x128 .f32 × Vec F S200x16384 .f32 × Vec F S200x128 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) ((hcond0_4 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) ((hcond0_4 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) ((hcond0_4 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) ((hcond0_4 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 17 = 0 then
      if h1 : (1 ≤ (n + 1) % 17 ∧ (n + 1) % 17 ≤ 15) then
        False.elim (by have hN : n + 1 < 17 := lt_of_lt_of_eq hn (show cfg0.N = 17 from N_0); omega)
      else
        if h2 : (n + 1) % 17 = 16 then
          False.elim (by have hN : n + 1 < 17 := lt_of_lt_of_eq hn (show cfg0.N = 17 from N_0); omega)
        else
          if h3 : 1 ≤ (n + 1) then
            False.elim (by have hN : n + 1 < 17 := lt_of_lt_of_eq hn (show cfg0.N = 17 from N_0); omega)
          else
            if h4 : (n + 1) < 16 then
              (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
            else
              False.elim (by have hN : n + 1 < 17 := lt_of_lt_of_eq hn (show cfg0.N = 17 from N_0); omega)
    else
      if h1 : (1 ≤ (n + 1) % 17 ∧ (n + 1) % 17 ≤ 15) then
        if h2 : (n + 1) % 17 = 16 then
          False.elim (by have hN : n + 1 < 17 := lt_of_lt_of_eq hn (show cfg0.N = 17 from N_0); omega)
        else
          if h3 : 1 ≤ (n + 1) then
            if h4 : (n + 1) < 16 then
              (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.1 (outsAt0 c n (Nat.lt_of_succ_lt hn)).2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.1 (outsAt0 c n (Nat.lt_of_succ_lt hn)).2.2.2)
            else
              False.elim (by have hN : n + 1 < 17 := lt_of_lt_of_eq hn (show cfg0.N = 17 from N_0); omega)
          else
            False.elim (by have hN : n + 1 < 17 := lt_of_lt_of_eq hn (show cfg0.N = 17 from N_0); omega)
      else
        if h2 : (n + 1) % 17 = 16 then
          if h3 : 1 ≤ (n + 1) then
            if h4 : (n + 1) < 16 then
              False.elim (by have hN : n + 1 < 17 := lt_of_lt_of_eq hn (show cfg0.N = 17 from N_0); omega)
            else
              (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.1 (outsAt0 c n (Nat.lt_of_succ_lt hn)).2.2.2, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.1 (outsAt0 c n (Nat.lt_of_succ_lt hn)).2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.1 (outsAt0 c n (Nat.lt_of_succ_lt hn)).2.2.2)
          else
            False.elim (by have hN : n + 1 < 17 := lt_of_lt_of_eq hn (show cfg0.N = 17 from N_0); omega)
        else
          False.elim (by have hN : n + 1 < 17 := lt_of_lt_of_eq hn (show cfg0.N = 17 from N_0); omega)

/-- `outsAt0` at a point of case A: that case's contents. -/
theorem outsAt0_A (c : Dev nD) (t : Fin cfg0.N) (h0 : t.val % 17 = 0) (h1 : ¬(1 ≤ t.val % 17 ∧ t.val % 17 ≤ 15)) (h2 : ¬t.val % 17 = 16) (h3 : ¬1 ≤ t.val) (h4 : t.val < 16) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (iblk m c 4 t) (iblk m c 5 t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (iblk m c 4 t) (iblk m c 5 t) (iblk m c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (iblk m c 4 t) (iblk m c 5 t) (iblk m c 6 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans ((dif_neg h1).trans ((dif_neg h2).trans ((dif_neg h3).trans ((dif_pos h4).trans rfl))))

/-- `outsAt0` at a point of case B: that case's contents, over what the point before left. -/
theorem outsAt0_B (c : Dev nD) (t : Fin cfg0.N) (h0 : ¬t.val % 17 = 0) (h1 : (1 ≤ t.val % 17 ∧ t.val % 17 ≤ 15)) (h2 : ¬t.val % 17 = 16) (h3 : 1 ≤ t.val) (h4 : t.val < 16) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) ((hcond0_3 t).mpr h3) ((hcond0_4 t).mpr h4) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) ((hcond0_3 t).mpr h3) ((hcond0_4 t).mpr h4) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) ((hcond0_3 t).mpr h3) ((hcond0_4 t).mpr h4) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) ((hcond0_3 t).mpr h3) ((hcond0_4 t).mpr h4) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans ((dif_neg h2).trans ((dif_pos h3).trans ((dif_pos h4).trans rfl))))

/-- `outsAt0` at a point of case C: that case's contents, over what the point before left. -/
theorem outsAt0_C (c : Dev nD) (t : Fin cfg0.N) (h0 : ¬t.val % 17 = 0) (h1 : ¬(1 ≤ t.val % 17 ∧ t.val % 17 ≤ 15)) (h2 : t.val % 17 = 16) (h3 : 1 ≤ t.val) (h4 : ¬t.val < 16) :
    outsAt0 m c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) ((hcond0_3 t).mpr h3) (fun h => h4 ((hcond0_4 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) ((hcond0_3 t).mpr h3) (fun h => h4 ((hcond0_4 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) ((hcond0_3 t).mpr h3) (fun h => h4 ((hcond0_4 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) ((hcond0_3 t).mpr h3) (fun h => h4 ((hcond0_4 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans ((dif_pos h2).trans ((dif_pos h3).trans ((dif_neg h4).trans rfl))))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ (∃ d, owns (c : Thread nD τ) scM0_1 fullShare d) ∗ owns (c : Thread nD τ) scM0_2 fullShare ((outsAt0 m c n hn).2.2.2) ∗ (∃ d, owns (c : Thread nD τ) scM0_3 fullShare d) ∗ (∃ d, owns (c : Thread nD τ) scM0_4 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.1) ∗ (∃ d, owns (c : Thread nD τ) scM0_1 fullShare d) ∗ owns (c : Thread nD τ) scM0_2 fullShare ((outsAt0 m c n hn).2.2.2) ∗ (∃ d, owns (c : Thread nD τ) scM0_3 fullShare d) ∗ (∃ d, owns (c : Thread nD τ) scM0_4 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ (∃ d, owns (c : Thread nD τ) scM0_1 fullShare d) ∗ owns (c : Thread nD τ) scM0_2 fullShare ((outsAt0 m c (n - 1) (by omega)).2.2.2) ∗ (∃ d, owns (c : Thread nD τ) scM0_3 fullShare d) ∗ (∃ d, owns (c : Thread nD τ) scM0_4 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 17 := lt_of_lt_of_eq t.isLt (show cfg0.N = 17 from N_0)
  by_cases h0 : t.val % 17 = 0
  · by_cases h1 : (1 ≤ t.val % 17 ∧ t.val % 17 ≤ 15)
    · exfalso; omega
    · by_cases h2 : t.val % 17 = 16
      · exfalso; omega
      · by_cases h3 : 1 ≤ t.val
        · exfalso; omega
        · by_cases h4 : t.val < 16
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            rw [Dat.leavesExact_idle (dats m 0 c) 7 t (idleAt0_7_A t ((hcond0_0 t).mpr h0) (fun h => h1 ((hcond0_1 t).mp h)) (fun h => h2 ((hcond0_2 t).mp h)) (fun h => h3 ((hcond0_3 t).mp h)) ((hcond0_4 t).mpr h4)) (noFlush0_7_A t ((hcond0_0 t).mpr h0) (fun h => h1 ((hcond0_1 t).mp h)) (fun h => h2 ((hcond0_2 t).mp h)) (fun h => h3 ((hcond0_3 t).mp h)) ((hcond0_4 t).mpr h4))]
            rw [Dat.leavesExact_idle (dats m 0 c) 8 t (idleAt0_8_A t ((hcond0_0 t).mpr h0) (fun h => h1 ((hcond0_1 t).mp h)) (fun h => h2 ((hcond0_2 t).mp h)) (fun h => h3 ((hcond0_3 t).mp h)) ((hcond0_4 t).mpr h4)) (noFlush0_8_A t ((hcond0_0 t).mpr h0) (fun h => h1 ((hcond0_1 t).mp h)) (fun h => h2 ((hcond0_2 t).mp h)) (fun h => h3 ((hcond0_3 t).mp h)) ((hcond0_4 t).mpr h4))]
            by_cases hz : t.val = 0
            · rw [PhiS_castSucc m c t, PhiS_zero m c _ _ hz, PhiA0_eq]
              rw [outsAt0_A m c t h0 h1 h2 h3 h4]
              unfold sout0_A_0 sout0_A_2; (try dsimp only)
              iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
              iapply ((kernelRun0_A c (grid0.coords t) _ _ _ _ _ _ _ _ _ _ _ _ _ _ _ _ _ _ _ _ _ _ _ _ _ _ _ _ ((hcond0_0 t).mpr h0) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (iblk m c 4 t) (iblk m c 5 t) (iblk m c 6 t)).2.2.2.2 _ _ Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [HS0]; · iexact HS0
              isplitl [HS1]; · iexact HS1
              isplitl [HS2]; · iexact HS2
              isplitl [HS3]; · iexact HS3
              isplitl [HS4]; · iexact HS4
              iintro ⟨H0, H1, H2, H3, H4, H5, H6, H7, H8, ⟨%es0, HS0⟩, HS1, ⟨%es2, HS2⟩, HS3, HS4⟩
              isplitl [HS0 HS1 HS2 HS3 HS4 Hg]
              · isplitl [HS0 HS1 HS2 HS3 HS4]
                · isplitl [HS0]
                  · unfold owns; iexists _; isplitr
                    swap; · iexact HS0
                    ipureintro; exact View.read_writes_of_cover _ _ _ _ _ (scover0_A_0 c _ _ _ _ _ _ _ _ _ _ _ _ _ _ _ _ _ _ _ _ _ _ _ _ _ _ _ _ _ _ _ _ _ _ _ _ _ _ _ _ _)
                  isplitl [HS1]
                  · iexact HS1
                  isplitl [HS2]
                  · unfold owns; iexists _; isplitr
                    swap; · iexact HS2
                    ipureintro; exact View.read_writes_of_cover _ _ _ _ _ (scover0_A_2 c _ _ _ _ _ _ _ _ _ _ _ _ _ _ _ _ _ _ _ _ _ _ _ _ _ _ _ _ _ _ _ _ _ _ _ _ _ _ _ _ _)
                  isplitl [HS3]
                  · iexact HS3
                  iexact HS4
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexists _; iexact H7
              iexists _; iexact H8
            · exfalso; have hN : t.val < 17 := lt_of_lt_of_eq t.isLt (show cfg0.N = 17 from N_0); omega
          · exfalso; omega
  · by_cases h1 : (1 ≤ t.val % 17 ∧ t.val % 17 ≤ 15)
    · by_cases h2 : t.val % 17 = 16
      · exfalso; omega
      · by_cases h3 : 1 ≤ t.val
        · by_cases h4 : t.val < 16
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            rw [show (dats m 0 c).leavesExact 7 t = owns (c : Thread nD τ) (ms0_7 t) fullShare ((dats m 0 c).after 7 t) from by
      unfold Dat.leavesExact; rw [liveAt0_7_B t (fun h => h0 ((hcond0_0 t).mp h)) ((hcond0_1 t).mpr h1) (fun h => h2 ((hcond0_2 t).mp h)) ((hcond0_3 t).mpr h3) ((hcond0_4 t).mpr h4)], after0_7]
            rw [show (dats m 0 c).leavesExact 8 t = owns (c : Thread nD τ) (ms0_8 t) fullShare ((dats m 0 c).after 8 t) from by
      unfold Dat.leavesExact; rw [liveAt0_8_B t (fun h => h0 ((hcond0_0 t).mp h)) ((hcond0_1 t).mpr h1) (fun h => h2 ((hcond0_2 t).mp h)) ((hcond0_3 t).mpr h3) ((hcond0_4 t).mpr h4)], after0_8]
            by_cases hz : t.val = 0
            · exfalso; have hN : t.val < 17 := lt_of_lt_of_eq t.isLt (show cfg0.N = 17 from N_0); omega
            · rw [PhiS_castSucc m c t, PhiS_pos m c _ _ hz]
              rw [outsAt0_B m c t h0 h1 h2 h3 h4]
              unfold out0_B_7 out0_B_8 sout0_B_0 sout0_B_2; (try dsimp only)
              iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
              iapply ((kernelRun0_B c (grid0.coords t) _ _ _ _ _ _ _ _ _ _ _ _ _ _ _ _ _ _ _ _ _ _ _ _ _ _ _ _ (fun h => h0 ((hcond0_0 t).mp h)) ((hcond0_1 t).mpr h1) (fun h => h2 ((hcond0_2 t).mp h)) ((hcond0_3 t).mpr h3) ((hcond0_4 t).mpr h4) (iblk m c 0 t) (iblk m c 1 t) (iblk m c 2 t) (iblk m c 3 t) (iblk m c 4 t) (iblk m c 5 t) (iblk m c 6 t) _ _).2.2.2.2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexists _; iexact H7
              isplitl [H8]; · iexists _; iexact H8
              isplitl [HS0]; · iexact HS0
              isplitl [HS1]; · iexact HS1
              isplitl [HS2]; · iexact HS2
              isplitl [HS3]; · iexact HS3
              isplitl [HS4]; · iexact HS4
              iintro ⟨H0, H1, H2, H3, H4, H5, H6, ⟨%e7, H7⟩, ⟨%e8, H8⟩, HS0, HS1, ⟨%es2, HS2⟩, HS3, HS4⟩
              isplitl [HS0 HS1 HS2 HS3 HS4 Hg]
              · isplitl [HS0 HS1 HS2 HS3 HS4]
                · isplitl [HS0]
                  · unfold owns; iexists _; isplitr
                    swap; · iexact HS0
                    ipureintro; rfl
                  isplitl [HS1]
                  · iexact HS1
                  isplitl [HS2]
                  · unfold owns; iexists _; isplitr
                    swap; · iexact HS2
                    ipureintro; exact View.read_writes_of_cover _ _ _ _ _ (scover0_B_2 c _ _ _ _ _ _ _ _ _ _ _ _ _ _ _ _ _ _ _ _ _ _ _ _ _ _ _ _ _ _ _ _ _ _ _ _ _ _ _ _ _ _ _)
                  isplitl [HS3]
                  · iexact HS3
                  iexact HS4
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]
              · unfold owns; iexists _; isplitr
                swap; · iexact H7
                ipureintro; exact View.read_writes_of_cover _ _ _ _ _ (cover0_B_7 c _ _ _ _ _ _ _ _ _ _ _ _ _ _ _ _ _ _ _ _ _ _ _ _ _ _ _ _ _ _ _ _ _ _ _ _ _ _ _ _ _ _ _)
              unfold owns; iexists _; isplitr
              swap; · iexact H8
              ipureintro; exact View.read_writes_of_cover _ _ _ _ _ (cover0_B_8 c _ _ _ _ _ _ _ _ _ _ _ _ _ _ _ _ _ _ _ _ _ _ _ _ _ _ _ _ _ _ _ _ _ _ _ _ _ _ _ _ _ _ _)
          · exfalso; omega
        · exfalso; omega
    · by_cases h2 : t.val % 17 = 16
      · by_cases h3 : 1 ≤ t.val
        · by_cases h4 : t.val < 16
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            rw [show (dats m 0 c).leavesExact 7 t = owns (c : Thread nD τ) (ms0_7 t) fullShare ((dats m 0 c).after 7 t) from by
      unfold Dat.leavesExact; rw [liveAt0_7_C t (fun h => h0 ((hcond0_0 t).mp h)) (fun h => h1 ((hcond0_1 t).mp h)) ((hcond0_2 t).mpr h2) ((hcond0_3 t).mpr h3) (fun h => h4 ((hcond0_4 t).mp h))], after0_7]
            rw [show (dats m 0 c).leavesExact 8 t = owns (c : Thread nD τ) (ms0_8 t) fullShare ((dats m 0 c).after 8 t) from by
      unfold Dat.leavesExact; rw [liveAt0_8_C t (fun h => h0 ((hcond0_0 t).mp h)) (fun h => h1 ((hcond0_1 t).mp h)) ((hcond0_2 t).mpr h2) ((hcond0_3 t).mpr h3) (fun h => h4 ((hcond0_4 t).mp h))], after0_8]
            by_cases hz : t.val = 0
            · exfalso; have hN : t.val < 17 := lt_of_lt_of_eq t.isLt (show cfg0.N = 17 from N_0); omega
            · rw [PhiS_castSucc m c t, PhiS_pos m c _ _ hz]
              rw [outsAt0_C m c t h0 h1 h2 h3 h4]
              unfold out0_C_7 out0_C_8 sout0_C_0 sout0_C_2; (try dsimp only)
              iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
              iapply ((kernelRun0_C c (grid0.coords t) _ _ _ _ _ _ _ _ _ _ _ _ _ _ _ _ _ _ _ _ _ _ _ _ _ _ _ _ (fun h => h0 ((hcond0_0 t).mp h)) (fun h => h1 ((hcond0_1 t).mp h)) ((hcond0_2 t).mpr h2) ((hcond0_3 t).mpr h3) (fun h => h4 ((hcond0_4 t).mp h)) (iblk m c 0 t) (iblk m c 1 t) (iblk m c 2 t) (iblk m c 3 t) (iblk m c 4 t) (iblk m c 5 t) (iblk m c 6 t) _ _).2.2.2.2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexists _; iexact H7
              isplitl [H8]; · iexists _; iexact H8
              isplitl [HS0]; · iexact HS0
              isplitl [HS1]; · iexact HS1
              isplitl [HS2]; · iexact HS2
              isplitl [HS3]; · iexact HS3
              isplitl [HS4]; · iexact HS4
              iintro ⟨H0, H1, H2, H3, H4, H5, H6, ⟨%e7, H7⟩, ⟨%e8, H8⟩, HS0, HS1, HS2, HS3, HS4⟩
              isplitl [HS0 HS1 HS2 HS3 HS4 Hg]
              · isplitl [HS0 HS1 HS2 HS3 HS4]
                · isplitl [HS0]
                  · iexact HS0
                  isplitl [HS1]
                  · iexact HS1
                  isplitl [HS2]
                  · iexact HS2
                  isplitl [HS3]
                  · iexact HS3
                  iexact HS4
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]
              · unfold owns; iexists _; isplitr
                swap; · iexact H7
                ipureintro; exact View.read_writes_of_cover _ _ _ _ _ (cover0_C_7 c _ _ _ _ _ _ _ _ _ _ _ _ _ _ _ _ _ _ _ _ _ _ _ _ _ _ _ _ _ _ _ _ _ _ _ _ _ _ _ _ _ _ _)
              unfold owns; iexists _; isplitr
              swap; · iexact H8
              ipureintro; exact View.read_writes_of_cover _ _ _ _ _ (cover0_C_8 c _ _ _ _ _ _ _ _ _ _ _ _ _ _ _ _ _ _ _ _ _ _ _ _ _ _ _ _ _ _ _ _ _ _ _ _ _ _ _ _ _ _ _)
        · exfalso; omega
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexists _; iexact HS0
    isplitl [HS1]
    · iexact HS1
    isplitl [HS2]
    · iexists _; iexact HS2
    isplitl [HS3]
    · iexact HS3
    iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 17 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Hand

end
-- ==== Proof.Reads.lean ====
module

public import proofs.«01_k».proof.Proof.Gen.KernelIdeal.Frame.Runs
public import Idealize.ShloMosaic.Lib.Pipeline.ValueKit
public import Idealize.ShloMosaic.Lib.Pointwise

@[expose] public section

set_option maxRecDepth 16384
set_option maxHeartbeats 4000000

noncomputable section

/-! What the kernel's blocks hold at a grid point, in terms of the arguments. -/

namespace Cert.Mla

open Cert.KernelIdeal Cert.KernelIdeal.Gen Idealize.ShloMosaic Idealize.ShloMosaic.TcCoe Idealize.ShloMosaic.Tactic

/-- The head whose scores point `t` forms (the last point repeats the last head). -/
def cur (t : Fin cfg0.N) : Fin 16 := ⟨min t.val 15, by omega⟩

/-- The head whose results point `t` writes: the one before. -/
def prev (t : Fin cfg0.N) : Fin 16 := ⟨t.val - 1, by have := Nat.lt_of_lt_of_eq t.isLt N_0; omega⟩

/-- Where each window's block stands at each point. -/
theorem places : ∀ t : Fin cfg0.N, win0_0.index t = ![min t.val 15, 0, 0] ∧ win0_1.index t = ![min t.val 15, 0, 0]
    ∧ win0_2.index t = ![min t.val 15, 0, 0] ∧ win0_3.index t = ![0, 0] ∧ win0_4.index t = ![0]
    ∧ win0_5.index t = ![min t.val 15, 0, 0] ∧ win0_6.index t = ![t.val - 1, 0, 0]
    ∧ win0_7.index t = ![t.val - 1, 0, 0] ∧ win0_8.index t = ![t.val - 1, 0, 0] := by decide +kernel

/-- From the second point on, the list of scales is looked up at the point's number less one. -/
theorem look : ∀ t : Fin cfg0.N, 1 ≤ t.val → k0_off9 (grid0.coords t) = ![(prev t).val] := by decide +kernel

variable (m : (ℓ : Loc nD τ sig) → Buf (Elt Ideal) ℓ) (c : Dev nD) (t : Fin cfg0.N)

/-- The block of query codes. -/
theorem blk0 (b : Fin 200) (d : Fin 128) :
    (iblk m c 0 t : Vec Ideal S1x200x128 .fp8e4m3) (ix3 0 b d) = m ((c : Thread nD τ).loc main_arg0) (ix3 (cur t) b d) := by
  blk_ext! [iblk, V, places t, cur]

/-- The block of rotated query parts. -/
theorem blk1 (b : Fin 200) (d : Fin 64) :
    (iblk m c 1 t : Vec Ideal S1x200x64 .bf16) (ix3 0 b d) = m ((c : Thread nD τ).loc main_arg2) (ix3 (cur t) b d) := by
  blk_ext! [iblk, V, places t, cur]

/-- The block of row scales: the query scale times the head's key scale, on every lane. -/
theorem blk2 (b : Fin 200) (u : Fin 128) :
    (iblk m c 2 t : Vec Ideal S1x200x128 .f32) (ix3 0 b u)
      = @HMul.hMul EReal EReal EReal _ (m ((c : Thread nD τ).loc main_arg1) (ix2 (cur t) b))
          (m ((c : Thread nD τ).loc main_arg4) (ix1 (cur t))) := by
  unfold iblk
  entry_read
  blk_simp [places t]
  have e : (win0_2.blk t).view.emb (ix3 0 b u) = ix3 (cur t) b u := by blk_ext [places t, cur]
  rw [e]
  pointwise

/-- The rotated key parts, transposed. -/
theorem blk3 (r : Fin 64) (l : Fin 16384) :
    (iblk m c 3 t : Vec Ideal S64x16384 .bf16) (ix2 r l) = m ((c : Thread nD τ).loc main_arg7) (ix2 l r) := by
  blk_ext! [iblk, V, places t]

/-- The value scales. -/
theorem blk4 (k : Fin 16) :
    (iblk m c 4 t : Vec Ideal S16 .f32) (ix1 k) = m ((c : Thread nD τ).loc main_arg6) (ix1 k) := by
  blk_ext! [iblk, V, places t]

/-- The block of key codes. -/
theorem blk5 (l : Fin 16384) (d : Fin 128) :
    (iblk m c 5 t : Vec Ideal S1x16384x128 .fp8e4m3) (ix3 0 l d) = m ((c : Thread nD τ).loc main_arg3) (ix3 (cur t) l d) := by
  blk_ext! [iblk, V, places t, cur]

/-- The block of value codes, of the head before. -/
theorem blk6 (l : Fin 16384) (d : Fin 128) :
    (iblk m c 6 t : Vec Ideal S1x16384x128 .fp8e4m3) (ix3 0 l d) = m ((c : Thread nD τ).loc main_arg5) (ix3 (prev t) l d) := by
  blk_ext! [iblk, V, places t, prev]

end Cert.Mla

end
-- ==== Proof.Blocks.lean ====
module

public import proofs.«01_k».proof.Proof.Gen.KernelIdeal.Loops
public import Idealize.ShloMosaic.Lib.WritesUnit
public import Idealize.ShloMosaic.Lib.Pipeline.Value
public import Idealize.ShloMosaic.Lib.Pointwise

@[expose] public section

set_option maxRecDepth 16384

noncomputable section

/-! What one trip of the kernel's counted loops stores, in plain mathematics: the attention scores of a block of keys, and
    the reading of four neighbouring blocks of columns. -/

namespace Cert.Mla

open Cert.KernelIdeal Idealize.ShloMosaic Idealize.ShloMosaic.TcCoe

/-- The score of query row `b` against key `l`: the product of the codes times the row's scale, plus the rotated part. The
    scale is held once per lane; lane `l % 128` is the one the kernel reads. -/
def sc (q : Vec Ideal S1x200x128 .fp8e4m3) (qp : Vec Ideal S1x200x64 .bf16) (rs : Vec Ideal S1x200x128 .f32)
    (kr : Vec Ideal S64x16384 .bf16) (ks : Vec Ideal S1x16384x128 .fp8e4m3) (b : Fin 200) (l : Fin 16384) : EReal :=
  (∑ d : Fin 128, q (ix3 0 b d) * ks (ix3 0 l d)) * rs (ix3 0 b ⟨l.val % 128, Nat.mod_lt _ (by decide)⟩)
    + ∑ r : Fin 64, qp (ix3 0 b r) * kr (ix2 r l)

/-- The score as the kernel's block spells it: the places in the key arrays are those of key `l`. -/
theorem sc_piece (q : Vec Ideal S1x200x128 .fp8e4m3) (qp : Vec Ideal S1x200x64 .bf16) (rs : Vec Ideal S1x200x128 .f32)
    (kr : Vec Ideal S64x16384 .bf16) (ks : Vec Ideal S1x16384x128 .fp8e4m3) (b : Fin 200) (l : Fin 16384)
    (p0 : Fin 128 → Fin 1) (p1 : Fin 128 → Fin 16384) (p2 : Fin 128 → Fin 128) (p3 : Fin 64 → Fin 64)
    (p4 : Fin 64 → Fin 16384) (u : Fin 128) (h1 : ∀ x, (p1 x).val = l.val) (h2 : ∀ x, (p2 x).val = x.val)
    (h3 : ∀ x, (p3 x).val = x.val) (h4 : ∀ x, (p4 x).val = l.val) (hu : u.val = l.val % 128) :
    (∑ x : Fin 128, q (ix3 0 b x) * ks (ix3 (p0 x) (p1 x) (p2 x))) * rs (ix3 0 b u)
      + ∑ x : Fin 64, qp (ix3 0 b x) * kr (ix2 (p3 x) (p4 x))
      = sc q qp rs kr ks b l := by
  unfold sc
  have e0 : ∀ x, p0 x = 0 := fun x => Subsingleton.elim _ _
  have e1 : ∀ x, p1 x = l := fun x => Fin.ext (h1 x)
  have e2 : ∀ x, p2 x = x := fun x => Fin.ext (h2 x)
  have e3 : ∀ x, p3 x = x := fun x => Fin.ext (h3 x)
  have e4 : ∀ x, p4 x = l := fun x => Fin.ext (h4 x)
  have e5 : u = ⟨l.val % 128, Nat.mod_lt _ (by decide)⟩ := Fin.ext hu
  rw [e5]
  simp only [e0, e1, e2, e3, e4]

theorem off3_1 {o : Fin 3 → ℕ} {n : ℕ} (h : o = ![0, n, 0]) (c l : ℕ) (hl : l = n + c) : o 1 + c = l := by
  subst h hl; rfl
theorem off3_2 {o : Fin 3 → ℕ} {n : ℕ} (h : o = ![0, n, 0]) (c : ℕ) : o 2 + c = c := by subst h; exact Nat.zero_add _
theorem off2_0 {o : Fin 2 → ℕ} {n : ℕ} (h : o = ![0, n]) (c : ℕ) : o 0 + c = c := by subst h; exact Nat.zero_add _
theorem off2_1 {o : Fin 2 → ℕ} {n : ℕ} (h : o = ![0, n]) (c l : ℕ) (hl : l = n + c) : o 1 + c = l := by
  subst h hl; rfl

/-- The key of lane `u` in the `q`th quarter of the `k`th 512 keys. -/
def key4 (k : ℕ) (hk : k < 32) (q : Fin 4) (u : Fin 128) : Fin 16384 := ⟨512 * k + 128 * q.val + u.val, by omega⟩

/-! Where a key lies: its quarter and lane among the 512 keys from `n` on. -/

theorem place0 {n l : ℕ} (h : n ≤ l) (a : l - n < 128) : l = n + (l - n) % 128 := by omega
theorem place1 {n l : ℕ} (h : n ≤ l) (a : ¬ l - n < 128) (b : l - n < 256) : l = n + (128 + (l - n) % 128) := by omega
theorem place2 {n l : ℕ} (h : n ≤ l) (a : ¬ l - n < 256) (b : l - n < 384) : l = n + (256 + (l - n) % 128) := by omega
theorem place3 {n l : ℕ} (h : l < n + 512) (a : ¬ l - n < 384) : l = n + (384 + (l - n) % 128) := by omega
theorem lane_of {n l : ℕ} (h : 512 * n ≤ l) : (l - 512 * n) % 128 = l % 128 := by omega
theorem key4_val (k : ℕ) (hk : k < 32) (q : Fin 4) (u : Fin 128) (c : ℕ) (hc : c = 128 * q.val + u.val) :
    (key4 k hk q u).val = 512 * k + c := by subst hc; exact Nat.add_assoc _ _ _
theorem key4_lane (k : ℕ) (hk : k < 32) (q : Fin 4) (u : Fin 128) : u.val = (key4 k hk q u).val % 128 := by
  have := u.isLt; simp only [key4]; omega

/-- The `x`th key of the `k`th 512 keys. -/
def key (k : ℕ) (hk : k < 32) (x : Fin 512) : Fin 16384 := ⟨512 * k + x.val, by omega⟩

/-- The kernel's weight of key `l` for query row `b`: two to the scaled score less the row's shift. -/
def wt (s : Vec Ideal S200x16384 .f32) (mm : Vec Ideal S200x128 .f32) (b : Fin 200) (l : Fin 16384) : EReal :=
  FloatOps.exp2 (F := Ideal) (φ := .f32) (s (ix2 b l) * Named.named (F := Ideal) (φ := .f32) Cert.KernelIdeal.κ "scale_log2e" 1037384597#32
    - mm (ix2 b ⟨l.val % 128, Nat.mod_lt _ (by decide)⟩))

/-- The weight as the kernel's block spells it. -/
theorem wt_piece (s : Vec Ideal S200x16384 .f32) (mm : Vec Ideal S200x128 .f32) (b : Fin 200) (l : Fin 16384)
    (i : Fin 200) (j : Fin 16384) (u : Fin 128) (hi : i.val = b.val) (hj : j.val = l.val) (hu : u.val = l.val % 128) :
    FloatOps.exp2 (F := Ideal) (φ := .f32) (s (ix2 i j) * Named.named (F := Ideal) (φ := .f32) Cert.KernelIdeal.κ "scale_log2e" 1037384597#32
      - mm (ix2 b u)) = wt s mm b l := by
  have e1 : i = b := Fin.ext hi
  have e2 : j = l := Fin.ext hj
  have e3 : u = ⟨l.val % 128, Nat.mod_lt _ (by decide)⟩ := Fin.ext hu
  rw [e1, e2, e3]
  rfl

/-- An entry of a key or value array at a place spelled another way. -/
theorem at3 (w : Vec Ideal S1x16384x128 .fp8e4m3) (p0 : Fin 1) (p1 : Fin 16384) (p2 : Fin 128) (l : Fin 16384) (u : Fin 128)
    (h1 : p1.val = l.val) (h2 : p2.val = u.val) : w (ix3 p0 p1 p2) = w (ix3 0 l u) := by
  have e0 : p0 = 0 := Subsingleton.elim _ _
  have e1 : p1 = l := Fin.ext h1
  have e2 : p2 = u := Fin.ext h2
  rw [e0, e1, e2]

theorem spot0 (k x : ℕ) : 512 * k + x = 512 * k + x := rfl
theorem spot1 (k x : ℕ) (a : ¬ x < 128) : 512 * k + x = 512 * k + 128 + (x - 128) := by omega
theorem spot2 (k x : ℕ) (a : ¬ x < 128) (a' : ¬ x - 128 < 128) : 512 * k + x = 512 * k + 256 + (x - 128 - 128) := by omega
theorem spot3 (k x : ℕ) (a : ¬ x < 128) (a' : ¬ x - 128 < 128) (a'' : ¬ x - 128 - 128 < 128) :
    512 * k + x = 512 * k + 384 + (x - 128 - 128 - 128) := by omega
theorem slot0 (k x : ℕ) (a : x < 128) : x = (512 * k + x) % 128 := by omega
theorem slot1 (k x : ℕ) (a : ¬ x < 128) (b : x - 128 < 128) : x - 128 = (512 * k + x) % 128 := by omega
theorem slot2 (k x : ℕ) (a : ¬ x < 128) (a' : ¬ x - 128 < 128) (b : x - 128 - 128 < 128) :
    x - 128 - 128 = (512 * k + x) % 128 := by omega
theorem slot3 (k x : ℕ) (h : x < 512) (a : ¬ x < 128) (a' : ¬ x - 128 < 128) (a'' : ¬ x - 128 - 128 < 128) :
    x - 128 - 128 - 128 = (512 * k + x) % 128 := by omega

/-- The block among four that holds column `x` of 512. -/
def pick {F : FTy → Type} (w0 w1 w2 w3 : Vec F S200x128 .f32) (x : ℕ) : Vec F S200x128 .f32 :=
  if x < 128 then w0 else if x < 256 then w1 else if x < 384 then w2 else w3

/-- Four blocks of 128 columns stored side by side from column `n` on, read back: column `l` of the 512 is in the block
    `(l - n) / 128`, at its lane; any other column holds what was there before. -/
theorem read_four {sg : RefSig} {κ : Kind} {sp : Space} {F : FTy → Type} (v : View sg κ sp S200x16384 .f32)
    (g : v.ty.Contents (Elt F)) (o0 o1 o2 o3 : Fin 2 → ℕ)
    (i0 : ∀ a, o0 a + S200x128.size a ≤ S200x16384.size a) (i1 : ∀ a, o1 a + S200x128.size a ≤ S200x16384.size a)
    (i2 : ∀ a, o2 a + S200x128.size a ≤ S200x16384.size a) (i3 : ∀ a, o3 a + S200x128.size a ≤ S200x16384.size a)
    (w0 w1 w2 w3 : Vec F S200x128 .f32) (n : ℕ) (h0 : o0 = ![0, n]) (h1 : o1 = ![0, n + 128])
    (h2 : o2 = ![0, n + 256]) (h3 : o3 = ![0, n + 384]) (b : Fin 200) (l : Fin 16384) :
    v.read (Elt F) (v.writes (Elt F) g [⟨Rect.unit o3 S200x128.size i3, w3⟩, ⟨Rect.unit o2 S200x128.size i2, w2⟩,
      ⟨Rect.unit o1 S200x128.size i1, w1⟩, ⟨Rect.unit o0 S200x128.size i0, w0⟩]) (ix2 b l)
      = if n ≤ l.val ∧ l.val < n + 512 then
          pick w0 w1 w2 w3 (l.val - n) (ix2 b ⟨(l.val - n) % 128, Nat.mod_lt _ (by decide)⟩)
        else v.read (Elt F) g (ix2 b l) := by
  have miss : ∀ (o : Fin 2 → ℕ) (i : ∀ a, o a + S200x128.size a ≤ S200x16384.size a) (w : Vec F S200x128 .f32)
      (L : List (View.Piece (Elt F) S200x16384 .f32)) (c : ℕ), o = ![0, c] → (l.val < c ∨ c + 128 ≤ l.val) →
      v.read (Elt F) (v.writes (Elt F) g (⟨Rect.unit o S200x128.size i, w⟩ :: L)) (ix2 b l)
        = v.read (Elt F) (v.writes (Elt F) g L) (ix2 b l) := fun o i w L c ho hc =>
    View.read_writes_cons_unit_of_not_mem v g i w L (ix2 b l) ho (1 : Fin 2) hc
  have hit : ∀ (o : Fin 2 → ℕ) (i : ∀ a, o a + S200x128.size a ≤ S200x16384.size a) (w : Vec F S200x128 .f32)
      (L : List (View.Piece (Elt F) S200x16384 .f32)) (c : ℕ) (u : Fin 128), o = ![0, c] → l.val = c + u.val →
      v.read (Elt F) (v.writes (Elt F) g (⟨Rect.unit o S200x128.size i, w⟩ :: L)) (ix2 b l)
        = w (ix2 b u) := fun o i w L c u ho hc =>
    View.read_writes_cons_unit_of_mem v g i w L (ix2 b l) (ix2 b u) ho
      (Fin.forall_fin_two.mpr ⟨(Nat.zero_add _).symm, hc⟩)
  unfold pick
  split_ifs with hl a0 a1 a2
  · rw [miss o3 i3 _ _ _ h3 (by omega), miss o2 i2 _ _ _ h2 (by omega), miss o1 i1 _ _ _ h1 (by omega)]
    exact hit o0 i0 _ _ _ ⟨(l.val - n) % 128, Nat.mod_lt _ (by decide)⟩ h0 (by show l.val = n + (l.val - n) % 128; omega)
  · rw [miss o3 i3 _ _ _ h3 (by omega), miss o2 i2 _ _ _ h2 (by omega)]
    exact hit o1 i1 _ _ _ ⟨(l.val - n) % 128, Nat.mod_lt _ (by decide)⟩ h1
      (by show l.val = n + 128 + (l.val - n) % 128; omega)
  · rw [miss o3 i3 _ _ _ h3 (by omega)]
    exact hit o2 i2 _ _ _ ⟨(l.val - n) % 128, Nat.mod_lt _ (by decide)⟩ h2
      (by show l.val = n + 256 + (l.val - n) % 128; omega)
  · exact hit o3 i3 _ _ _ ⟨(l.val - n) % 128, Nat.mod_lt _ (by decide)⟩ h3
      (by show l.val = n + 384 + (l.val - n) % 128; omega)
  · rw [miss o3 i3 _ _ _ h3 (by omega), miss o2 i2 _ _ _ h2 (by omega), miss o1 i1 _ _ _ h1 (by omega),
      miss o0 i0 _ _ _ h0 (by omega)]
    rfl

/-- A block of 128 columns stored over the whole of a buffer of that shape, read back. -/
theorem read_whole {sg : RefSig} {κ : Kind} {sp : Space} {F : FTy → Type} (v : View sg κ sp S200x128 .f32)
    (g : v.ty.Contents (Elt F)) (i0 : ∀ a, (![0, 0] : Fin 2 → ℕ) a + S200x128.size a ≤ S200x128.size a)
    (w : Vec F S200x128 .f32) (L : List (View.Piece (Elt F) S200x128 .f32)) (b : Fin 200) (u : Fin 128) :
    v.read (Elt F) (v.writes (Elt F) g (⟨Rect.unit ![0, 0] S200x128.size i0, w⟩ :: L)) (ix2 b u) = w (ix2 b u) :=
  View.read_writes_cons_unit_of_mem v g i0 w L (ix2 b u) (ix2 b u) rfl
    (Fin.forall_fin_two.mpr ⟨(Nat.zero_add _).symm, (Nat.zero_add _).symm⟩)

end Cert.Mla

end
-- ==== Proof.Keys.lean ====
module

public import proofs.«01_k».proof.Proof.Blocks

@[expose] public section

set_option maxRecDepth 16384

noncomputable section

/-! Going through 16384 keys in 32 steps of 512: what a step-by-step rule for a set array, a maximum or a sum comes to. -/

namespace Cert.Mla

open Cert.KernelIdeal Idealize.ShloMosaic

/-- An array set 512 entries at a step. -/
theorem steps_set (A : ℕ → Fin 16384 → EReal) (f : Fin 16384 → EReal)
    (h : ∀ k, k < 32 → ∀ l, A (k + 1) l = if 512 * k ≤ l.val ∧ l.val < 512 * k + 512 then f l else A k l) :
    ∀ n, n ≤ 32 → ∀ l, A n l = if l.val < 512 * n then f l else A 0 l := by
  intro n
  induction n with
  | zero => intro _ l; rw [if_neg (by omega)]
  | succ n ih =>
    intro hn l
    rw [h n (by omega) l, ih (by omega) l]
    by_cases h1 : 512 * n ≤ l.val ∧ l.val < 512 * n + 512
    · rw [if_pos h1, if_pos (by omega)]
    · rw [if_neg h1]
      by_cases h2 : l.val < 512 * n
      · rw [if_pos h2, if_pos (by omega)]
      · rw [if_neg h2, if_neg (by omega)]

/-- The running maximum of a lane, by what bounds it. -/
theorem steps_max (M : ℕ → EReal) (f : Fin 16384 → EReal) (u : Fin 128)
    (h : ∀ k (hk : k < 32), M (k + 1) = max (max (max (max (M k) (f (key4 k hk 0 u))) (f (key4 k hk 1 u))) (f (key4 k hk 2 u)))
      (f (key4 k hk 3 u))) :
    ∀ n, n ≤ 32 → ∀ z, M n ≤ z ↔ M 0 ≤ z ∧ ∀ l : Fin 16384, l.val < 512 * n → l.val % 128 = u.val → f l ≤ z := by
  intro n
  induction n with
  | zero => intro _ z; exact ⟨fun h0 => ⟨h0, fun l hl => absurd hl (by omega)⟩, fun h0 => h0.1⟩
  | succ n ih =>
    intro hn z
    rw [h n (by omega), max_le_iff, max_le_iff, max_le_iff, max_le_iff, ih (by omega) z]
    have hu := u.isLt
    constructor
    · rintro ⟨⟨⟨⟨⟨h0, hl⟩, k0⟩, k1⟩, k2⟩, k3⟩
      refine ⟨h0, fun l hl' hu' => ?_⟩
      by_cases h1 : l.val < 512 * n
      · exact hl l h1 hu'
      · have hc : l = key4 n (by omega) 0 u ∨ l = key4 n (by omega) 1 u ∨ l = key4 n (by omega) 2 u
            ∨ l = key4 n (by omega) 3 u := by
          have : l.val = 512 * n + 128 * 0 + u.val ∨ l.val = 512 * n + 128 * 1 + u.val ∨ l.val = 512 * n + 128 * 2 + u.val
            ∨ l.val = 512 * n + 128 * 3 + u.val := by omega
          rcases this with e | e | e | e
          · exact Or.inl (Fin.ext e)
          · exact Or.inr (Or.inl (Fin.ext e))
          · exact Or.inr (Or.inr (Or.inl (Fin.ext e)))
          · exact Or.inr (Or.inr (Or.inr (Fin.ext e)))
        rcases hc with e | e | e | e <;> rw [e] <;> assumption
    · rintro ⟨h0, hl⟩
      have hk : ∀ q : Fin 4, f (key4 n (by omega) q u) ≤ z := fun q =>
        hl _ (by have := q.isLt; simp only [key4]; omega) (key4_lane n (by omega) q u).symm
      exact ⟨⟨⟨⟨⟨h0, fun l hl' => hl l (by omega)⟩, hk 0⟩, hk 1⟩, hk 2⟩, hk 3⟩

/-- A sum of one term per step. -/
theorem steps_add (D : ℕ → EReal) (g : (k : ℕ) → k < 32 → EReal) (h : ∀ k (hk : k < 32), D (k + 1) = D k + g k hk) :
    D 32 = D 0 + ∑ j : Fin 32, g j.val j.isLt := by
  have key : ∀ n (hn : n ≤ 32), D n = D 0 + ∑ j : Fin n, g j.val (lt_of_lt_of_le j.isLt hn) := by
    intro n
    induction n with
    | zero => intro _; simp
    | succ n ih =>
      intro hn
      rw [h n (by omega), ih (by omega), Fin.sum_univ_castSucc, add_assoc]
      rfl
  exact key 32 le_rfl

/-- All keys, 512 at a time. -/
theorem sum_keys (f : Fin 16384 → EReal) : ∑ j : Fin 32, ∑ x : Fin 512, f (key j.val j.isLt x) = ∑ l, f l := by
  rw [← Fintype.sum_prod_type' (fun (j : Fin 32) (x : Fin 512) => f (key j.val j.isLt x))]
  refine Fintype.sum_equiv (finProdFinEquiv (m := 32) (n := 512)) _ _ fun p => congrArg f (Fin.ext ?_)
  show 512 * p.1.val + p.2.val = p.2.val + 512 * p.1.val
  exact Nat.add_comm _ _

/-- 512 keys, lane by lane. -/
theorem sum_lanes (j : ℕ) (hj : j < 32) (f : Fin 16384 → EReal) :
    ∑ u : Fin 128, ∑ q : Fin 4, f (key4 j hj q u) = ∑ x : Fin 512, f (key j hj x) := by
  rw [Finset.sum_comm, ← Fintype.sum_prod_type' (fun (q : Fin 4) (u : Fin 128) => f (key4 j hj q u))]
  refine Fintype.sum_equiv (finProdFinEquiv (m := 4) (n := 128)) _ _ fun p => congrArg f (Fin.ext ?_)
  show 512 * j + 128 * p.1.val + p.2.val = 512 * j + (p.2.val + 128 * p.1.val)
  omega

/-- All keys, lane by lane. -/
theorem sum_all (f : Fin 16384 → EReal) :
    ∑ u : Fin 128, ∑ j : Fin 32, ∑ q : Fin 4, f (key4 j.val j.isLt q u) = ∑ l, f l := by
  rw [Finset.sum_comm, ← sum_keys f]
  exact Finset.sum_congr rfl fun j _ => sum_lanes j.val j.isLt f

/-- A weight depends on the scores through its own key's alone. -/
theorem wt_congr {s s' : Vec Ideal S200x16384 .f32} {mm : Vec Ideal S200x128 .f32} {b : Fin 200} {l : Fin 16384}
    (h : s (ix2 b l) = s' (ix2 b l)) : wt s mm b l = wt s' mm b l := by
  unfold wt
  rw [h]

end Cert.Mla

end
-- ==== Proof.Ends.lean ====
module

public import proofs.«01_k».proof.Proof.Blocks
public import proofs.«01_k».proof.Proof.Keys
public import Idealize.ShloMosaic.Lib.WritesUnit
public import Idealize.ShloMosaic.Lib.Pipeline.Value
public import Idealize.ShloMosaic.Lib.Pointwise

@[expose] public section

set_option maxRecDepth 16384
set_option maxHeartbeats 4000000

noncomputable section

/-! What the kernel forms from the finished accumulators, read at an index: the shift of the exponents that a row's
maximum gives, and the two results of a query head from the row's weights. -/

namespace Cert.Mla

open Cert.KernelIdeal Cert.KernelIdeal.Gen Idealize.ShloMosaic Idealize.ShloMosaic.TcCoe Idealize.ShloMosaic.Tactic

/-- The largest score of row `b`. -/
def rowmax (s : Vec Ideal S200x16384 .f32) (b : Fin 200) : EReal :=
  Finset.univ.fold max ⊥ fun l : Fin 16384 => s (ix2 b l)

/-- The shift of row `b`'s exponents: the largest scaled score rounded up, less the base two logarithm of 448. -/
def shift (s : Vec Ideal S200x16384 .f32) (b : Fin 200) : EReal :=
  Ideal.liftRound Int.ceil (rowmax s b * Named.named (F := Ideal) (φ := .f32) κ "scale_log2e" 1037384597#32)
    - Named.named (F := Ideal) (φ := .f32) κ "log2_p_scale" 1091365613#32

/-- The attention output at row `b` and lane `d`: the weighted sum of the values times their scale and the inverse of the
weights' scale, over the sum of the weights times that inverse. -/
def cellO (s : Vec Ideal S200x16384 .f32) (mm : Vec Ideal S200x128 .f32) (v : Vec Ideal S1x16384x128 .fp8e4m3)
    (vs : EReal) (b : Fin 200) (d : Fin 128) : EReal :=
  Ideal.div ((∑ l : Fin 16384, wt s mm b l * v (ix3 0 l d))
      * (vs * Named.named (F := Ideal) (φ := .f32) κ "inv_p_scale" 991054117#32))
    ((∑ l : Fin 16384, wt s mm b l) * Named.named (F := Ideal) (φ := .f32) κ "inv_p_scale" 991054117#32)

/-- The logarithm of the sum of exponentials of row `b`, as lane `u` holds it. -/
def cellL (s : Vec Ideal S200x16384 .f32) (mm : Vec Ideal S200x128 .f32) (b : Fin 200) (u : Fin 128) : EReal :=
  (mm (ix2 b u) + Named.named (F := Ideal) (φ := .f32) κ "log2_p_scale" 1091365613#32
      + Ideal.log ((∑ l : Fin 16384, wt s mm b l) * Named.named (F := Ideal) (φ := .f32) κ "inv_p_scale" 991054117#32)
        * Named.named (F := Ideal) (φ := .f32) κ "log2e" 1069066811#32)
    * Ideal.ofBits .f32 1060205080#32

/-- The word for minus infinity is the least extended real. -/
theorem ofBits_bot : Ideal.ofBits FTy.f32 4286578688#32 = ⊥ := by simp [Ideal.ofBits, Ideal.ieee]

/-- The maxima's initial store holds minus infinity (first point). -/
theorem pay1_at (b : Fin 200) (u : Fin 128) : k0_pay1 (F := Ideal) (ix2 b u) = ⊥ := by
  unfold_payloads
  pointwise
  exact ofBits_bot

/-- The maxima's initial store holds minus infinity (middle points). -/
theorem pay8_at (b : Fin 200) (u : Fin 128) : k0_pay8 (F := Ideal) (ix2 b u) = ⊥ := by
  unfold_payloads
  pointwise
  exact ofBits_bot

/-- The weight sums' initial store holds zero (middle points). -/
theorem pay9_at (b : Fin 200) (u : Fin 128) : k0_pay9 (F := Ideal) (ix2 b u) = 0 := by
  unfold_payloads
  pointwise

/-- The weighted values' initial store holds zero (middle points). -/
theorem pay10_at (b : Fin 200) (u : Fin 128) : k0_pay10 (F := Ideal) (ix2 b u) = 0 := by
  unfold_payloads
  pointwise

/-- The weight sums' initial store holds zero (last point). -/
theorem pay14_at (b : Fin 200) (u : Fin 128) : k0_pay14 (F := Ideal) (ix2 b u) = 0 := by
  unfold_payloads
  pointwise

/-- The weighted values' initial store holds zero (last point). -/
theorem pay15_at (b : Fin 200) (u : Fin 128) : k0_pay15 (F := Ideal) (ix2 b u) = 0 := by
  unfold_payloads
  pointwise

/-- The stored shift is formed from the largest of the 128 lane maxima. -/
theorem pay22_at (w : Vec Ideal S200x128 .f32) (b : Fin 200) (u : Fin 128) :
    k0_pay22 (F := Ideal) w (ix2 b u)
      = Ideal.liftRound Int.ceil (Finset.univ.fold max ⊥ (fun x : Fin 128 => w (ix2 b x))
            * Named.named (F := Ideal) (φ := .f32) κ "scale_log2e" 1037384597#32)
          - Named.named (F := Ideal) (φ := .f32) κ "log2_p_scale" 1091365613#32 := by
  unfold_payloads
  pointwise
  rw [← ofBits_bot]

/-- The attention output read at an index. -/
theorem pay20_at (w v : Vec Ideal S200x128 .f32) (x : EReal) (b : Fin 200) (u : Fin 128) :
    k0_pay20 (F := Ideal) w v x (ix3 0 b u)
      = Ideal.div (v (ix2 b u) * (x * Named.named (F := Ideal) (φ := .f32) κ "inv_p_scale" 991054117#32))
          ((∑ x, w (ix2 b x)) * Named.named (F := Ideal) (φ := .f32) κ "inv_p_scale" 991054117#32) := by
  unfold_payloads
  pointwise

/-- The logarithm of the sum of exponentials read at an index. -/
theorem pay21_at (w v : Vec Ideal S200x128 .f32) (b : Fin 200) (u : Fin 128) :
    k0_pay21 (F := Ideal) w v (ix3 0 b u)
      = (v (ix2 b u) + Named.named (F := Ideal) (φ := .f32) κ "log2_p_scale" 1091365613#32
          + Ideal.log ((∑ x, w (ix2 b x)) * Named.named (F := Ideal) (φ := .f32) κ "inv_p_scale" 991054117#32)
            * Named.named (F := Ideal) (φ := .f32) κ "log2e" 1069066811#32) * Ideal.ofBits .f32 1060205080#32 := by
  unfold_payloads
  pointwise

/-- A fold of `max` from minus infinity is at most `z` exactly when every term is. -/
theorem fold_le {n : ℕ} (f : Fin n → EReal) (z : EReal) : Finset.univ.fold max ⊥ f ≤ z ↔ ∀ l, f l ≤ z := by
  rw [Finset.fold_max_le]
  exact ⟨fun h l => h.2 l (Finset.mem_univ l), fun h => ⟨bot_le, fun l _ => h l⟩⟩

/-- When lane `u` holds the largest score of the keys in lane `u`, the stored shift is the row's. -/
theorem shift_of_lanes (s : Vec Ideal S200x16384 .f32) (w : Vec Ideal S200x128 .f32) (b : Fin 200) (u : Fin 128)
    (h : ∀ u : Fin 128, ∀ z, w (ix2 b u) ≤ z ↔ ∀ l : Fin 16384, l.val % 128 = u.val → s (ix2 b l) ≤ z) :
    k0_pay22 (F := Ideal) w (ix2 b u) = shift s b := by
  rw [pay22_at]
  have e : Finset.univ.fold max ⊥ (fun x : Fin 128 => w (ix2 b x)) = rowmax s b := by
    refine eq_of_forall_ge_iff fun z => (fold_le _ z).trans (Iff.trans ?_ (fold_le _ z).symm)
    exact ⟨fun g l => (h ⟨l.val % 128, Nat.mod_lt _ (by decide)⟩ z).mp (g _) l rfl, fun g u => (h u z).mpr fun l _ => g l⟩
  rw [e]
  rfl

/-- The lane sums, with the sums of a row's lanes as the loop leaves them, give the row's sum of weights. -/
theorem out_of_sums (s : Vec Ideal S200x16384 .f32) (mm : Vec Ideal S200x128 .f32) (v : Vec Ideal S1x16384x128 .fp8e4m3)
    (x : EReal) (w o : Vec Ideal S200x128 .f32) (b : Fin 200) (d : Fin 128)
    (hw : ∀ u : Fin 128, w (ix2 b u) = ∑ j : Fin 32, ∑ q : Fin 4, wt s mm b (key4 j.val j.isLt q u))
    (ho : o (ix2 b d) = ∑ j : Fin 32, ∑ y : Fin 512, wt s mm b (key j.val j.isLt y) * v (ix3 0 (key j.val j.isLt y) d)) :
    k0_pay20 (F := Ideal) w o x (ix3 0 b d) = cellO s mm v x b d := by
  rw [pay20_at, ho, sum_keys fun l => wt s mm b l * v (ix3 0 l d), Finset.sum_congr rfl fun u _ => hw u,
    sum_all fun l => wt s mm b l]
  rfl

/-- The same for the logarithm of the sum of exponentials. -/
theorem lse_of_sums (s : Vec Ideal S200x16384 .f32) (mm : Vec Ideal S200x128 .f32)
    (w : Vec Ideal S200x128 .f32) (b : Fin 200) (d : Fin 128)
    (hw : ∀ u : Fin 128, w (ix2 b u) = ∑ j : Fin 32, ∑ q : Fin 4, wt s mm b (key4 j.val j.isLt q u)) :
    k0_pay21 (F := Ideal) w mm (ix3 0 b d) = cellL s mm b d := by
  rw [pay21_at, Finset.sum_congr rfl fun u _ => hw u, sum_all fun l => wt s mm b l]
  rfl

end Cert.Mla

end
-- ==== Proof.Spec.lean ====
module

public import proofs.«01_k».proof.Proof.Ends
public import Idealize.ShloMosaic.Lib.Pointwise

@[expose] public section

set_option maxRecDepth 16384

noncomputable section

/-! The two results as functions of the arguments. -/

namespace Cert.Mla

open Cert.KernelIdeal Idealize.ShloMosaic Idealize.ShloMosaic.TcCoe

section Spec

variable (a0 : Vec Ideal S16x200x128 .fp8e4m3) (a1 : Vec Ideal S16x200 .f32) (a2 : Vec Ideal S16x200x64 .bf16)
  (a3 : Vec Ideal S16x16384x128 .fp8e4m3) (a4 : Vec Ideal S16 .f32) (a5 : Vec Ideal S16x16384x128 .fp8e4m3)
  (a6 : Vec Ideal S16 .f32) (a7 : Vec Ideal S16384x64 .bf16)

/-- The score of head `h`, query row `b` and key `l`. -/
def score (h : Fin 16) (b : Fin 200) (l : Fin 16384) : EReal :=
  (∑ d : Fin 128, a0 (ix3 h b d) * a3 (ix3 h l d)) * (@HMul.hMul EReal EReal EReal _ (a1 (ix2 h b)) (a4 (ix1 h)))
    + ∑ r : Fin 64, a2 (ix3 h b r) * a7 (ix2 l r)

/-- The scores of head `h`. -/
def scores (h : Fin 16) : Vec Ideal S200x16384 .f32 := fun i => score a0 a1 a2 a3 a4 a7 h (i 0) (i 1)

/-- The shifts of head `h`'s rows, the same on every lane. -/
def shifts (h : Fin 16) : Vec Ideal S200x128 .f32 := fun i => shift (scores a0 a1 a2 a3 a4 a7 h) (i 0)

/-- Head `h`'s value codes. -/
def vals (h : Fin 16) : Vec Ideal S1x16384x128 .fp8e4m3 := fun i => a5 (ix3 h (i 1) (i 2))

/-- The attention output of every head. -/
def outs : Vec Ideal S16x200x128 .f32 := fun i =>
  cellO (scores a0 a1 a2 a3 a4 a7 (i 0)) (shifts a0 a1 a2 a3 a4 a7 (i 0)) (vals a5 (i 0)) (a6 (ix1 (i 0))) (i 1) (i 2)

/-- The logarithm of the sum of exponentials of every head, on every lane. -/
def lses : Vec Ideal S16x200x128 .f32 := fun i =>
  cellL (scores a0 a1 a2 a3 a4 a7 (i 0)) (shifts a0 a1 a2 a3 a4 a7 (i 0)) (i 1) (i 2)

end Spec

end Cert.Mla

end
-- ==== Proof.Trip1.lean ====
module

public import proofs.«01_k».proof.Proof.Blocks
public import proofs.«01_k».proof.Proof.Gen.KernelIdeal.Loops
public import Idealize.ShloMosaic.Lib.WritesUnit
public import Idealize.ShloMosaic.Lib.Pipeline.Value
public import Idealize.ShloMosaic.Lib.Pointwise

@[expose] public section

set_option maxRecDepth 16384
set_option maxHeartbeats 4000000

noncomputable section

/-! What one trip of the first loop stores: the scores of 512 keys, and the running row maximum of each lane. -/

namespace Cert.Mla

open Cert.KernelIdeal Cert.KernelIdeal.Gen Idealize.ShloMosaic Idealize.ShloMosaic.TcCoe Idealize.ShloMosaic.Tactic

variable
  (𝒱 : Variants) (c : Dev nD) (bd : Option 𝒱.V) (i : grid0.Coords) (arg1 : Memref sig .tc .vmem S1x200x128 .fp8e4m3)
  (harg1 : arg1.IsWhole) (arg2 : Memref sig .tc .vmem S1x200x64 .bf16) (harg2 : arg2.IsWhole)
  (arg3 : Memref sig .tc .vmem S1x200x128 .f32) (harg3 : arg3.IsWhole) (arg4 : Memref sig .tc .vmem S64x16384 .bf16)
  (harg4 : arg4.IsWhole) (arg5 : Memref sig .tc .smem S16 .f32) (harg5 : arg5.IsWhole)
  (arg6 : Memref sig .tc .vmem S1x16384x128 .fp8e4m3) (harg6 : arg6.IsWhole)
  (arg7 : Memref sig .tc .vmem S1x16384x128 .fp8e4m3) (harg7 : arg7.IsWhole)
  (arg8 : Memref sig .tc .vmem S1x200x128 .f32) (harg8 : arg8.IsWhole) (arg9 : Memref sig .tc .vmem S1x200x128 .f32)
  (harg9 : arg9.IsWhole) (arg10 : Memref sig .tc .vmem S200x16384 .f32) (harg10 : arg10.IsWhole)
  (arg11 : Memref sig .tc .vmem S200x128 .f32) (harg11 : arg11.IsWhole) (arg12 : Memref sig .tc .vmem S200x128 .f32)
  (harg12 : arg12.IsWhole) (arg13 : Memref sig .tc .vmem S200x128 .f32) (harg13 : arg13.IsWhole)
  (arg14 : Memref sig .tc .vmem S200x128 .f32) (harg14 : arg14.IsWhole) (k0_h1 : k0_cond1 i = 1#1)
  (X_arg1 : BufTy.Contents (Elt Ideal) arg1.view.ty) (X_arg2 : BufTy.Contents (Elt Ideal) arg2.view.ty)
  (X_arg3 : BufTy.Contents (Elt Ideal) arg3.view.ty) (X_arg4 : BufTy.Contents (Elt Ideal) arg4.view.ty)
  (X_arg6 : BufTy.Contents (Elt Ideal) arg6.view.ty) (k : Fin k0_t1_loop.trips)
  (f_arg10 : BufTy.Contents (Elt Ideal) arg10.view.ty) (f_arg11 : BufTy.Contents (Elt Ideal) arg11.view.ty)

/-- The scores: those of keys `512 k` to `512 k + 511` are set, the others are left as they were. -/
theorem trip1_scores (b : Fin 200) (l : Fin 16384) :
    arg10.view.read (Elt Ideal) (arg10.view.writes (Elt Ideal) f_arg10 ((trip_k0_t1 (F := Ideal) 𝒱 c bd i arg1 harg1 arg2
      harg2 arg3 harg3 arg4 harg4 arg5 harg5 arg6 harg6 arg7 harg7 arg8 harg8 arg9 harg9 arg10 harg10 arg11 harg11
      arg12 harg12 arg13 harg13 arg14 harg14 k0_h1 X_arg1 X_arg2 X_arg3 X_arg4 X_arg6 k).1 f_arg10 f_arg11)) (ix2 b l)
      = if 512 * k.val ≤ l.val ∧ l.val < 512 * k.val + 512 then
          sc (arg1.view.read (Elt Ideal) X_arg1) (arg2.view.read (Elt Ideal) X_arg2)
        (arg3.view.read (Elt Ideal) X_arg3) (arg4.view.read (Elt Ideal) X_arg4) (arg6.view.read (Elt Ideal) X_arg6) b l
        else arg10.view.read (Elt Ideal) f_arg10 (ix2 b l) := by
  unfold trip_k0_t1
  dsimp only
  sl_unfold_run_names
  refine (read_four arg10.view f_arg10 _ _ _ _ _ _ _ _ _ _ _ _ (512 * k.val)
    (show k0_off3 k 0#32 = ![0, 512 * k.val] from k0_off3_eq k 0)
    (show k0_off3 k 128#32 = ![0, 512 * k.val + 128] from k0_off3_eq k 1)
    (show k0_off3 k 256#32 = ![0, 512 * k.val + 256] from k0_off3_eq k 2)
    (show k0_off3 k 384#32 = ![0, 512 * k.val + 384] from k0_off3_eq k 3)
    b l).trans ?_
  split_ifs with hl
  · unfold pick
    have hk := hl.1
    have hk' := hl.2
    split_ifs with a0 a1 a2
    · unfold_payloads
      simp only [View.readAt_eq_ld, View.ld_unit_zero]
      pointwise
      exact sc_piece _ _ _ _ _ b l _ _ _ _ _ _ (fun x => off3_1 (k0_off1_eq k) _ _ (place0 hk a0)) (fun x => off3_2 (k0_off1_eq k) _)
        (fun x => off2_0 (k0_off2_eq k) _) (fun x => off2_1 (k0_off2_eq k) _ _ (place0 hk a0)) (lane_of hk)
    · unfold_payloads
      simp only [View.readAt_eq_ld, View.ld_unit_zero]
      pointwise
      exact sc_piece _ _ _ _ _ b l _ _ _ _ _ _ (fun x => off3_1 (k0_off1_eq k) _ _ (place1 hk a0 a1)) (fun x => off3_2 (k0_off1_eq k) _)
        (fun x => off2_0 (k0_off2_eq k) _) (fun x => off2_1 (k0_off2_eq k) _ _ (place1 hk a0 a1)) (lane_of hk)
    · unfold_payloads
      simp only [View.readAt_eq_ld, View.ld_unit_zero]
      pointwise
      exact sc_piece _ _ _ _ _ b l _ _ _ _ _ _ (fun x => off3_1 (k0_off1_eq k) _ _ (place2 hk a1 a2)) (fun x => off3_2 (k0_off1_eq k) _)
        (fun x => off2_0 (k0_off2_eq k) _) (fun x => off2_1 (k0_off2_eq k) _ _ (place2 hk a1 a2)) (lane_of hk)
    · unfold_payloads
      simp only [View.readAt_eq_ld, View.ld_unit_zero]
      pointwise
      exact sc_piece _ _ _ _ _ b l _ _ _ _ _ _ (fun x => off3_1 (k0_off1_eq k) _ _ (place3 hk' a2)) (fun x => off3_2 (k0_off1_eq k) _)
        (fun x => off2_0 (k0_off2_eq k) _) (fun x => off2_1 (k0_off2_eq k) _ _ (place3 hk' a2)) (lane_of hk)
  · rfl

variable (hk : k.val < 32)

include hk in
/-- The running maximum of lane `u`: the old one with the scores of the four keys of that lane among the 512. -/
theorem trip1_max (b : Fin 200) (u : Fin 128) :
    arg11.view.read (Elt Ideal) (arg11.view.writes (Elt Ideal) f_arg11 ((trip_k0_t1 (F := Ideal) 𝒱 c bd i arg1 harg1 arg2
      harg2 arg3 harg3 arg4 harg4 arg5 harg5 arg6 harg6 arg7 harg7 arg8 harg8 arg9 harg9 arg10 harg10 arg11 harg11
      arg12 harg12 arg13 harg13 arg14 harg14 k0_h1 X_arg1 X_arg2 X_arg3 X_arg4 X_arg6 k).2.1 f_arg10 f_arg11)) (ix2 b u)
      = max (max (max (max (arg11.view.read (Elt Ideal) f_arg11 (ix2 b u))
          (sc (arg1.view.read (Elt Ideal) X_arg1) (arg2.view.read (Elt Ideal) X_arg2)
        (arg3.view.read (Elt Ideal) X_arg3) (arg4.view.read (Elt Ideal) X_arg4) (arg6.view.read (Elt Ideal) X_arg6) b (key4 k.val hk 0 u)))
          (sc (arg1.view.read (Elt Ideal) X_arg1) (arg2.view.read (Elt Ideal) X_arg2)
        (arg3.view.read (Elt Ideal) X_arg3) (arg4.view.read (Elt Ideal) X_arg4) (arg6.view.read (Elt Ideal) X_arg6) b (key4 k.val hk 1 u)))
          (sc (arg1.view.read (Elt Ideal) X_arg1) (arg2.view.read (Elt Ideal) X_arg2)
        (arg3.view.read (Elt Ideal) X_arg3) (arg4.view.read (Elt Ideal) X_arg4) (arg6.view.read (Elt Ideal) X_arg6) b (key4 k.val hk 2 u)))
          (sc (arg1.view.read (Elt Ideal) X_arg1) (arg2.view.read (Elt Ideal) X_arg2)
        (arg3.view.read (Elt Ideal) X_arg3) (arg4.view.read (Elt Ideal) X_arg4) (arg6.view.read (Elt Ideal) X_arg6) b (key4 k.val hk 3 u)) := by
  unfold trip_k0_t1
  dsimp only
  sl_unfold_run_names
  refine (read_whole arg11.view f_arg11 _ _ _ b u).trans ?_
  unfold_payloads
  simp only [View.readAt_eq_ld, View.ld_unit_zero]
  pointwise
  refine congrArg₂ max (congrArg₂ max (congrArg₂ max (congrArg₂ max rfl ?_) ?_) ?_) ?_
  · exact sc_piece _ _ _ _ _ b (key4 k.val hk 0 u) _ _ _ _ _ u
      (fun x => off3_1 (k0_off1_eq k) _ _ (key4_val _ hk 0 u _ (by simp))) (fun x => off3_2 (k0_off1_eq k) _)
      (fun x => off2_0 (k0_off2_eq k) _) (fun x => off2_1 (k0_off2_eq k) _ _ (key4_val _ hk 0 u _ (by simp))) (key4_lane _ hk 0 u)
  · exact sc_piece _ _ _ _ _ b (key4 k.val hk 1 u) _ _ _ _ _ u
      (fun x => off3_1 (k0_off1_eq k) _ _ (key4_val _ hk 1 u _ (by simp))) (fun x => off3_2 (k0_off1_eq k) _)
      (fun x => off2_0 (k0_off2_eq k) _) (fun x => off2_1 (k0_off2_eq k) _ _ (key4_val _ hk 1 u _ (by simp))) (key4_lane _ hk 1 u)
  · exact sc_piece _ _ _ _ _ b (key4 k.val hk 2 u) _ _ _ _ _ u
      (fun x => off3_1 (k0_off1_eq k) _ _ (key4_val _ hk 2 u _ (by simp))) (fun x => off3_2 (k0_off1_eq k) _)
      (fun x => off2_0 (k0_off2_eq k) _) (fun x => off2_1 (k0_off2_eq k) _ _ (key4_val _ hk 2 u _ (by simp))) (key4_lane _ hk 2 u)
  · exact sc_piece _ _ _ _ _ b (key4 k.val hk 3 u) _ _ _ _ _ u
      (fun x => off3_1 (k0_off1_eq k) _ _ (key4_val _ hk 3 u _ (by simp))) (fun x => off3_2 (k0_off1_eq k) _)
      (fun x => off2_0 (k0_off2_eq k) _) (fun x => off2_1 (k0_off2_eq k) _ _ (key4_val _ hk 3 u _ (by simp))) (key4_lane _ hk 3 u)

end Cert.Mla

end
-- ==== Proof.Loop1.lean ====
module

public import proofs.«01_k».proof.Proof.Keys
public import proofs.«01_k».proof.Proof.Trip1
public import Idealize.ShloMosaic.Lib.WritesUnit
public import Idealize.ShloMosaic.Lib.Pipeline.Value
public import Idealize.ShloMosaic.Lib.Pointwise

@[expose] public section

set_option maxRecDepth 16384
set_option maxHeartbeats 4000000

noncomputable section

/-! What the first loop leaves: all scores of the first head, and the running row maximum of each lane. -/

namespace Cert.Mla

open Cert.KernelIdeal Cert.KernelIdeal.Gen Idealize.ShloMosaic Idealize.ShloMosaic.TcCoe Idealize.ShloMosaic.Tactic

theorem trips1 : k0_t1_loop.trips = 32 := by decide

variable
  (𝒱 : Variants) (c : Dev nD) (bd : Option 𝒱.V) (i : grid0.Coords) (arg1 : Memref sig .tc .vmem S1x200x128 .fp8e4m3)
  (harg1 : arg1.IsWhole) (arg2 : Memref sig .tc .vmem S1x200x64 .bf16) (harg2 : arg2.IsWhole)
  (arg3 : Memref sig .tc .vmem S1x200x128 .f32) (harg3 : arg3.IsWhole) (arg4 : Memref sig .tc .vmem S64x16384 .bf16)
  (harg4 : arg4.IsWhole) (arg5 : Memref sig .tc .smem S16 .f32) (harg5 : arg5.IsWhole)
  (arg6 : Memref sig .tc .vmem S1x16384x128 .fp8e4m3) (harg6 : arg6.IsWhole)
  (arg7 : Memref sig .tc .vmem S1x16384x128 .fp8e4m3) (harg7 : arg7.IsWhole)
  (arg8 : Memref sig .tc .vmem S1x200x128 .f32) (harg8 : arg8.IsWhole) (arg9 : Memref sig .tc .vmem S1x200x128 .f32)
  (harg9 : arg9.IsWhole) (arg10 : Memref sig .tc .vmem S200x16384 .f32) (harg10 : arg10.IsWhole)
  (arg11 : Memref sig .tc .vmem S200x128 .f32) (harg11 : arg11.IsWhole) (arg12 : Memref sig .tc .vmem S200x128 .f32)
  (harg12 : arg12.IsWhole) (arg13 : Memref sig .tc .vmem S200x128 .f32) (harg13 : arg13.IsWhole)
  (arg14 : Memref sig .tc .vmem S200x128 .f32) (harg14 : arg14.IsWhole) (k0_h1 : k0_cond1 i = 1#1)
  (X_arg1 : BufTy.Contents (Elt Ideal) arg1.view.ty) (X_arg2 : BufTy.Contents (Elt Ideal) arg2.view.ty)
  (X_arg3 : BufTy.Contents (Elt Ideal) arg3.view.ty) (X_arg4 : BufTy.Contents (Elt Ideal) arg4.view.ty)
  (X_arg6 : BufTy.Contents (Elt Ideal) arg6.view.ty)
  (G_arg10 : BufTy.Contents (Elt Ideal) arg10.view.ty) (G_arg11 : BufTy.Contents (Elt Ideal) arg11.view.ty)

/-- The scores after `n` trips: the first `512 n` keys' are set. -/
theorem loop1_scores (n : ℕ) (hn : n ≤ 32) (b : Fin 200) (l : Fin 16384) :
    arg10.view.read (Elt Ideal) (arg10.view.writes (Elt Ideal) G_arg10 (pb_k0_t1 (F := Ideal) 𝒱 c bd i arg1 harg1 arg2
      harg2 arg3 harg3 arg4 harg4 arg5 harg5 arg6 harg6 arg7 harg7 arg8 harg8 arg9 harg9 arg10 harg10 arg11 harg11
      arg12 harg12 arg13 harg13 arg14 harg14 k0_h1 X_arg1 X_arg2 X_arg3 X_arg4 X_arg6 G_arg10 G_arg11 n).1) (ix2 b l)
      = if l.val < 512 * n then sc (arg1.view.read (Elt Ideal) X_arg1) (arg2.view.read (Elt Ideal) X_arg2)
        (arg3.view.read (Elt Ideal) X_arg3) (arg4.view.read (Elt Ideal) X_arg4) (arg6.view.read (Elt Ideal) X_arg6) b l
        else arg10.view.read (Elt Ideal) G_arg10 (ix2 b l) := by
  refine steps_set (fun n l => arg10.view.read (Elt Ideal) (arg10.view.writes (Elt Ideal) G_arg10 (pb_k0_t1 (F := Ideal) 𝒱 c bd i arg1 harg1 arg2
      harg2 arg3 harg3 arg4 harg4 arg5 harg5 arg6 harg6 arg7 harg7 arg8 harg8 arg9 harg9 arg10 harg10 arg11 harg11
      arg12 harg12 arg13 harg13 arg14 harg14 k0_h1 X_arg1 X_arg2 X_arg3 X_arg4 X_arg6 G_arg10 G_arg11 n).1) (ix2 b l))
    (fun l => sc (arg1.view.read (Elt Ideal) X_arg1) (arg2.view.read (Elt Ideal) X_arg2)
        (arg3.view.read (Elt Ideal) X_arg3) (arg4.view.read (Elt Ideal) X_arg4) (arg6.view.read (Elt Ideal) X_arg6) b l) (fun k hk l => ?_) n hn l
  have e : (pb_k0_t1 (F := Ideal) 𝒱 c bd i arg1 harg1 arg2 harg2 arg3 harg3 arg4 harg4 arg5 harg5 arg6 harg6 arg7 harg7 arg8
      harg8 arg9 harg9 arg10 harg10 arg11 harg11 arg12 harg12 arg13 harg13 arg14 harg14 k0_h1 X_arg1 X_arg2 X_arg3
      X_arg4 X_arg6 G_arg10 G_arg11 (k + 1)) = _ :=
    pb_k0_t1_succ (F := Ideal) 𝒱 c bd i arg1 harg1 arg2 harg2 arg3 harg3 arg4 harg4 arg5 harg5 arg6 harg6 arg7 harg7 arg8 harg8 arg9 harg9 arg10
      harg10 arg11 harg11 arg12 harg12 arg13 harg13 arg14 harg14 k0_h1 X_arg1 X_arg2 X_arg3 X_arg4 X_arg6 G_arg10 G_arg11 ⟨k, lt_of_lt_of_eq hk trips1.symm⟩
  show arg10.view.read (Elt Ideal) (arg10.view.writes (Elt Ideal) G_arg10 (pb_k0_t1 (F := Ideal) 𝒱 c bd i arg1 harg1 arg2
      harg2 arg3 harg3 arg4 harg4 arg5 harg5 arg6 harg6 arg7 harg7 arg8 harg8 arg9 harg9 arg10 harg10 arg11 harg11
      arg12 harg12 arg13 harg13 arg14 harg14 k0_h1 X_arg1 X_arg2 X_arg3 X_arg4 X_arg6 G_arg10 G_arg11 (k + 1)).1) (ix2 b l) = _
  rw [e, View.writes_append]
  exact trip1_scores 𝒱 c bd i arg1 harg1 arg2 harg2 arg3 harg3 arg4 harg4 arg5 harg5 arg6 harg6 arg7 harg7 arg8 harg8 arg9
      harg9 arg10 harg10 arg11 harg11 arg12 harg12 arg13 harg13 arg14 harg14 k0_h1 X_arg1 X_arg2 X_arg3 X_arg4 X_arg6
      ⟨k, lt_of_lt_of_eq hk trips1.symm⟩ (arg10.view.writes (Elt Ideal) G_arg10 (pb_k0_t1 (F := Ideal) 𝒱 c bd i arg1
      harg1 arg2 harg2 arg3 harg3 arg4 harg4 arg5 harg5 arg6 harg6 arg7 harg7 arg8 harg8 arg9 harg9 arg10 harg10 arg11
      harg11 arg12 harg12 arg13 harg13 arg14 harg14 k0_h1 X_arg1 X_arg2 X_arg3 X_arg4 X_arg6 G_arg10 G_arg11 k).1)
      (arg11.view.writes (Elt Ideal) G_arg11 (pb_k0_t1 (F := Ideal) 𝒱 c bd i arg1 harg1 arg2 harg2 arg3 harg3 arg4
      harg4 arg5 harg5 arg6 harg6 arg7 harg7 arg8 harg8 arg9 harg9 arg10 harg10 arg11 harg11 arg12 harg12 arg13 harg13
      arg14 harg14 k0_h1 X_arg1 X_arg2 X_arg3 X_arg4 X_arg6 G_arg10 G_arg11 k).2) b l

/-- The running maximum of lane `u` after `n` trips, by what bounds it: the scores of the lane's keys so far. -/
theorem loop1_max (n : ℕ) (hn : n ≤ 32) (b : Fin 200) (u : Fin 128) (z : EReal) :
    arg11.view.read (Elt Ideal) (arg11.view.writes (Elt Ideal) G_arg11 (pb_k0_t1 (F := Ideal) 𝒱 c bd i arg1 harg1 arg2
      harg2 arg3 harg3 arg4 harg4 arg5 harg5 arg6 harg6 arg7 harg7 arg8 harg8 arg9 harg9 arg10 harg10 arg11 harg11
      arg12 harg12 arg13 harg13 arg14 harg14 k0_h1 X_arg1 X_arg2 X_arg3 X_arg4 X_arg6 G_arg10 G_arg11 n).2) (ix2 b u) ≤ z
      ↔ arg11.view.read (Elt Ideal) G_arg11 (ix2 b u) ≤ z
        ∧ ∀ l : Fin 16384, l.val < 512 * n → l.val % 128 = u.val → sc (arg1.view.read (Elt Ideal) X_arg1) (arg2.view.read (Elt Ideal) X_arg2)
        (arg3.view.read (Elt Ideal) X_arg3) (arg4.view.read (Elt Ideal) X_arg4) (arg6.view.read (Elt Ideal) X_arg6) b l ≤ z := by
  refine steps_max (fun n => arg11.view.read (Elt Ideal) (arg11.view.writes (Elt Ideal) G_arg11 (pb_k0_t1 (F := Ideal) 𝒱 c bd i arg1 harg1 arg2
      harg2 arg3 harg3 arg4 harg4 arg5 harg5 arg6 harg6 arg7 harg7 arg8 harg8 arg9 harg9 arg10 harg10 arg11 harg11
      arg12 harg12 arg13 harg13 arg14 harg14 k0_h1 X_arg1 X_arg2 X_arg3 X_arg4 X_arg6 G_arg10 G_arg11 n).2) (ix2 b u))
    (fun l => sc (arg1.view.read (Elt Ideal) X_arg1) (arg2.view.read (Elt Ideal) X_arg2)
        (arg3.view.read (Elt Ideal) X_arg3) (arg4.view.read (Elt Ideal) X_arg4) (arg6.view.read (Elt Ideal) X_arg6) b l) u (fun k hk => ?_) n hn z
  have e : (pb_k0_t1 (F := Ideal) 𝒱 c bd i arg1 harg1 arg2 harg2 arg3 harg3 arg4 harg4 arg5 harg5 arg6 harg6 arg7 harg7 arg8
      harg8 arg9 harg9 arg10 harg10 arg11 harg11 arg12 harg12 arg13 harg13 arg14 harg14 k0_h1 X_arg1 X_arg2 X_arg3
      X_arg4 X_arg6 G_arg10 G_arg11 (k + 1)) = _ :=
    pb_k0_t1_succ (F := Ideal) 𝒱 c bd i arg1 harg1 arg2 harg2 arg3 harg3 arg4 harg4 arg5 harg5 arg6 harg6 arg7 harg7 arg8 harg8 arg9 harg9 arg10
      harg10 arg11 harg11 arg12 harg12 arg13 harg13 arg14 harg14 k0_h1 X_arg1 X_arg2 X_arg3 X_arg4 X_arg6 G_arg10 G_arg11 ⟨k, lt_of_lt_of_eq hk trips1.symm⟩
  show arg11.view.read (Elt Ideal) (arg11.view.writes (Elt Ideal) G_arg11 (pb_k0_t1 (F := Ideal) 𝒱 c bd i arg1 harg1 arg2
      harg2 arg3 harg3 arg4 harg4 arg5 harg5 arg6 harg6 arg7 harg7 arg8 harg8 arg9 harg9 arg10 harg10 arg11 harg11
      arg12 harg12 arg13 harg13 arg14 harg14 k0_h1 X_arg1 X_arg2 X_arg3 X_arg4 X_arg6 G_arg10 G_arg11 (k + 1)).2) (ix2 b u) = _
  rw [e, View.writes_append]
  exact trip1_max 𝒱 c bd i arg1 harg1 arg2 harg2 arg3 harg3 arg4 harg4 arg5 harg5 arg6 harg6 arg7 harg7 arg8 harg8 arg9 harg9
      arg10 harg10 arg11 harg11 arg12 harg12 arg13 harg13 arg14 harg14 k0_h1 X_arg1 X_arg2 X_arg3 X_arg4 X_arg6 ⟨k,
      lt_of_lt_of_eq hk trips1.symm⟩ (arg10.view.writes (Elt Ideal) G_arg10 (pb_k0_t1 (F := Ideal) 𝒱 c bd i arg1 harg1
      arg2 harg2 arg3 harg3 arg4 harg4 arg5 harg5 arg6 harg6 arg7 harg7 arg8 harg8 arg9 harg9 arg10 harg10 arg11
      harg11 arg12 harg12 arg13 harg13 arg14 harg14 k0_h1 X_arg1 X_arg2 X_arg3 X_arg4 X_arg6 G_arg10 G_arg11 k).1)
      (arg11.view.writes (Elt Ideal) G_arg11 (pb_k0_t1 (F := Ideal) 𝒱 c bd i arg1 harg1 arg2 harg2 arg3 harg3 arg4
      harg4 arg5 harg5 arg6 harg6 arg7 harg7 arg8 harg8 arg9 harg9 arg10 harg10 arg11 harg11 arg12 harg12 arg13 harg13
      arg14 harg14 k0_h1 X_arg1 X_arg2 X_arg3 X_arg4 X_arg6 G_arg10 G_arg11 k).2) hk b u

end Cert.Mla

end
-- ==== Proof.Trip2.lean ====
module

public import proofs.«01_k».proof.Proof.Blocks
public import proofs.«01_k».proof.Proof.Gen.KernelIdeal.Loops
public import Idealize.ShloMosaic.Lib.WritesUnit
public import Idealize.ShloMosaic.Lib.Pipeline.Value
public import Idealize.ShloMosaic.Lib.Pointwise

@[expose] public section

set_option maxRecDepth 16384
set_option maxHeartbeats 4000000

noncomputable section

/-! What one trip of the second loop stores: the scores of the next head and their running maximum, and the sums of weights
    and of weighted values of the head before. -/

namespace Cert.Mla

open Cert.KernelIdeal Cert.KernelIdeal.Gen Idealize.ShloMosaic Idealize.ShloMosaic.TcCoe Idealize.ShloMosaic.Tactic

variable
  (𝒱 : Variants) (c : Dev nD) (bd : Option 𝒱.V) (i : grid0.Coords) (arg1 : Memref sig .tc .vmem S1x200x128 .fp8e4m3)
  (harg1 : arg1.IsWhole) (arg2 : Memref sig .tc .vmem S1x200x64 .bf16) (harg2 : arg2.IsWhole)
  (arg3 : Memref sig .tc .vmem S1x200x128 .f32) (harg3 : arg3.IsWhole) (arg4 : Memref sig .tc .vmem S64x16384 .bf16)
  (harg4 : arg4.IsWhole) (arg5 : Memref sig .tc .smem S16 .f32) (harg5 : arg5.IsWhole)
  (arg6 : Memref sig .tc .vmem S1x16384x128 .fp8e4m3) (harg6 : arg6.IsWhole)
  (arg7 : Memref sig .tc .vmem S1x16384x128 .fp8e4m3) (harg7 : arg7.IsWhole)
  (arg8 : Memref sig .tc .vmem S1x200x128 .f32) (harg8 : arg8.IsWhole) (arg9 : Memref sig .tc .vmem S1x200x128 .f32)
  (harg9 : arg9.IsWhole) (arg10 : Memref sig .tc .vmem S200x16384 .f32) (harg10 : arg10.IsWhole)
  (arg11 : Memref sig .tc .vmem S200x128 .f32) (harg11 : arg11.IsWhole) (arg12 : Memref sig .tc .vmem S200x128 .f32)
  (harg12 : arg12.IsWhole) (arg13 : Memref sig .tc .vmem S200x128 .f32) (harg13 : arg13.IsWhole)
  (arg14 : Memref sig .tc .vmem S200x128 .f32) (harg14 : arg14.IsWhole) (k0_h2 : k0_cond2 i = 1#1)
  (X_arg1 : BufTy.Contents (Elt Ideal) arg1.view.ty) (X_arg2 : BufTy.Contents (Elt Ideal) arg2.view.ty)
  (X_arg3 : BufTy.Contents (Elt Ideal) arg3.view.ty) (X_arg4 : BufTy.Contents (Elt Ideal) arg4.view.ty)
  (X_arg6 : BufTy.Contents (Elt Ideal) arg6.view.ty) (X_arg7 : BufTy.Contents (Elt Ideal) arg7.view.ty)
  (X_arg12 : BufTy.Contents (Elt Ideal) arg12.view.ty) (k : Fin k0_t2_loop.trips)
  (f_arg10 : BufTy.Contents (Elt Ideal) arg10.view.ty) (f_arg11 : BufTy.Contents (Elt Ideal) arg11.view.ty) (f_arg13 : BufTy.Contents (Elt Ideal) arg13.view.ty) (f_arg14 : BufTy.Contents (Elt Ideal) arg14.view.ty)

/-- The scores: those of keys `512 k` to `512 k + 511` are set, the others are left as they were. -/
theorem trip2_scores (b : Fin 200) (l : Fin 16384) :
    arg10.view.read (Elt Ideal) (arg10.view.writes (Elt Ideal) f_arg10 ((trip_k0_t2 (F := Ideal) 𝒱 c bd i arg1 harg1 arg2
      harg2 arg3 harg3 arg4 harg4 arg5 harg5 arg6 harg6 arg7 harg7 arg8 harg8 arg9 harg9 arg10 harg10 arg11 harg11
      arg12 harg12 arg13 harg13 arg14 harg14 k0_h2 X_arg1 X_arg2 X_arg3 X_arg4 X_arg6 X_arg7 X_arg12 k).1 f_arg10
      f_arg11 f_arg13 f_arg14)) (ix2 b l)
      = if 512 * k.val ≤ l.val ∧ l.val < 512 * k.val + 512 then
          sc (arg1.view.read (Elt Ideal) X_arg1) (arg2.view.read (Elt Ideal) X_arg2)
        (arg3.view.read (Elt Ideal) X_arg3) (arg4.view.read (Elt Ideal) X_arg4) (arg6.view.read (Elt Ideal) X_arg6) b l
        else arg10.view.read (Elt Ideal) f_arg10 (ix2 b l) := by
  unfold trip_k0_t2
  dsimp only
  sl_unfold_run_names
  refine (read_four arg10.view f_arg10 _ _ _ _ _ _ _ _ _ _ _ _ (512 * k.val)
    (show k0_off4 k 0#32 = ![0, 512 * k.val] from k0_off4_eq k 0)
    (show k0_off4 k 128#32 = ![0, 512 * k.val + 128] from k0_off4_eq k 1)
    (show k0_off4 k 256#32 = ![0, 512 * k.val + 256] from k0_off4_eq k 2)
    (show k0_off4 k 384#32 = ![0, 512 * k.val + 384] from k0_off4_eq k 3)
    b l).trans ?_
  split_ifs with hl
  · unfold pick
    have hk := hl.1
    have hk' := hl.2
    split_ifs with a0 a1 a2
    · unfold_payloads
      simp only [View.readAt_eq_ld, View.ld_unit_zero]
      pointwise
      exact sc_piece _ _ _ _ _ b l _ _ _ _ _ _ (fun x => off3_1 (k0_off5_eq k) _ _ (place0 hk a0)) (fun x => off3_2 (k0_off5_eq k) _)
        (fun x => off2_0 (k0_off6_eq k) _) (fun x => off2_1 (k0_off6_eq k) _ _ (place0 hk a0)) (lane_of hk)
    · unfold_payloads
      simp only [View.readAt_eq_ld, View.ld_unit_zero]
      pointwise
      exact sc_piece _ _ _ _ _ b l _ _ _ _ _ _ (fun x => off3_1 (k0_off5_eq k) _ _ (place1 hk a0 a1)) (fun x => off3_2 (k0_off5_eq k) _)
        (fun x => off2_0 (k0_off6_eq k) _) (fun x => off2_1 (k0_off6_eq k) _ _ (place1 hk a0 a1)) (lane_of hk)
    · unfold_payloads
      simp only [View.readAt_eq_ld, View.ld_unit_zero]
      pointwise
      exact sc_piece _ _ _ _ _ b l _ _ _ _ _ _ (fun x => off3_1 (k0_off5_eq k) _ _ (place2 hk a1 a2)) (fun x => off3_2 (k0_off5_eq k) _)
        (fun x => off2_0 (k0_off6_eq k) _) (fun x => off2_1 (k0_off6_eq k) _ _ (place2 hk a1 a2)) (lane_of hk)
    · unfold_payloads
      simp only [View.readAt_eq_ld, View.ld_unit_zero]
      pointwise
      exact sc_piece _ _ _ _ _ b l _ _ _ _ _ _ (fun x => off3_1 (k0_off5_eq k) _ _ (place3 hk' a2)) (fun x => off3_2 (k0_off5_eq k) _)
        (fun x => off2_0 (k0_off6_eq k) _) (fun x => off2_1 (k0_off6_eq k) _ _ (place3 hk' a2)) (lane_of hk)
  · rfl

variable (hk : k.val < 32)

include hk in
/-- The running maximum of lane `u`: the old one with the scores of the four keys of that lane among the 512. -/
theorem trip2_max (b : Fin 200) (u : Fin 128) :
    arg11.view.read (Elt Ideal) (arg11.view.writes (Elt Ideal) f_arg11 ((trip_k0_t2 (F := Ideal) 𝒱 c bd i arg1 harg1 arg2
      harg2 arg3 harg3 arg4 harg4 arg5 harg5 arg6 harg6 arg7 harg7 arg8 harg8 arg9 harg9 arg10 harg10 arg11 harg11
      arg12 harg12 arg13 harg13 arg14 harg14 k0_h2 X_arg1 X_arg2 X_arg3 X_arg4 X_arg6 X_arg7 X_arg12 k).2.1 f_arg10
      f_arg11 f_arg13 f_arg14)) (ix2 b u)
      = max (max (max (max (arg11.view.read (Elt Ideal) f_arg11 (ix2 b u))
          (sc (arg1.view.read (Elt Ideal) X_arg1) (arg2.view.read (Elt Ideal) X_arg2)
        (arg3.view.read (Elt Ideal) X_arg3) (arg4.view.read (Elt Ideal) X_arg4) (arg6.view.read (Elt Ideal) X_arg6) b (key4 k.val hk 0 u)))
          (sc (arg1.view.read (Elt Ideal) X_arg1) (arg2.view.read (Elt Ideal) X_arg2)
        (arg3.view.read (Elt Ideal) X_arg3) (arg4.view.read (Elt Ideal) X_arg4) (arg6.view.read (Elt Ideal) X_arg6) b (key4 k.val hk 1 u)))
          (sc (arg1.view.read (Elt Ideal) X_arg1) (arg2.view.read (Elt Ideal) X_arg2)
        (arg3.view.read (Elt Ideal) X_arg3) (arg4.view.read (Elt Ideal) X_arg4) (arg6.view.read (Elt Ideal) X_arg6) b (key4 k.val hk 2 u)))
          (sc (arg1.view.read (Elt Ideal) X_arg1) (arg2.view.read (Elt Ideal) X_arg2)
        (arg3.view.read (Elt Ideal) X_arg3) (arg4.view.read (Elt Ideal) X_arg4) (arg6.view.read (Elt Ideal) X_arg6) b (key4 k.val hk 3 u)) := by
  unfold trip_k0_t2
  dsimp only
  sl_unfold_run_names
  refine (read_whole arg11.view f_arg11 _ _ _ b u).trans ?_
  unfold_payloads
  simp only [View.readAt_eq_ld, View.ld_unit_zero]
  pointwise
  refine congrArg₂ max (congrArg₂ max (congrArg₂ max (congrArg₂ max rfl ?_) ?_) ?_) ?_
  · exact sc_piece _ _ _ _ _ b (key4 k.val hk 0 u) _ _ _ _ _ u
      (fun x => off3_1 (k0_off5_eq k) _ _ (key4_val _ hk 0 u _ (by simp))) (fun x => off3_2 (k0_off5_eq k) _)
      (fun x => off2_0 (k0_off6_eq k) _) (fun x => off2_1 (k0_off6_eq k) _ _ (key4_val _ hk 0 u _ (by simp))) (key4_lane _ hk 0 u)
  · exact sc_piece _ _ _ _ _ b (key4 k.val hk 1 u) _ _ _ _ _ u
      (fun x => off3_1 (k0_off5_eq k) _ _ (key4_val _ hk 1 u _ (by simp))) (fun x => off3_2 (k0_off5_eq k) _)
      (fun x => off2_0 (k0_off6_eq k) _) (fun x => off2_1 (k0_off6_eq k) _ _ (key4_val _ hk 1 u _ (by simp))) (key4_lane _ hk 1 u)
  · exact sc_piece _ _ _ _ _ b (key4 k.val hk 2 u) _ _ _ _ _ u
      (fun x => off3_1 (k0_off5_eq k) _ _ (key4_val _ hk 2 u _ (by simp))) (fun x => off3_2 (k0_off5_eq k) _)
      (fun x => off2_0 (k0_off6_eq k) _) (fun x => off2_1 (k0_off6_eq k) _ _ (key4_val _ hk 2 u _ (by simp))) (key4_lane _ hk 2 u)
  · exact sc_piece _ _ _ _ _ b (key4 k.val hk 3 u) _ _ _ _ _ u
      (fun x => off3_1 (k0_off5_eq k) _ _ (key4_val _ hk 3 u _ (by simp))) (fun x => off3_2 (k0_off5_eq k) _)
      (fun x => off2_0 (k0_off6_eq k) _) (fun x => off2_1 (k0_off6_eq k) _ _ (key4_val _ hk 3 u _ (by simp))) (key4_lane _ hk 3 u)

include hk in
/-- The running sum of weights of lane `u`: the old one and the weights of the four keys of that lane among the 512. -/
theorem trip2_sum (b : Fin 200) (u : Fin 128) :
    arg13.view.read (Elt Ideal) (arg13.view.writes (Elt Ideal) f_arg13 ((trip_k0_t2 (F := Ideal) 𝒱 c bd i arg1 harg1 arg2
      harg2 arg3 harg3 arg4 harg4 arg5 harg5 arg6 harg6 arg7 harg7 arg8 harg8 arg9 harg9 arg10 harg10 arg11 harg11
      arg12 harg12 arg13 harg13 arg14 harg14 k0_h2 X_arg1 X_arg2 X_arg3 X_arg4 X_arg6 X_arg7 X_arg12 k).2.2.1 f_arg10
      f_arg11 f_arg13 f_arg14)) (ix2 b u)
      = arg13.view.read (Elt Ideal) f_arg13 (ix2 b u)
        + (wt (arg10.view.read (Elt Ideal) f_arg10) (arg12.view.read (Elt Ideal) X_arg12) b (key4 k.val hk 0 u))
        + (wt (arg10.view.read (Elt Ideal) f_arg10) (arg12.view.read (Elt Ideal) X_arg12) b (key4 k.val hk 1 u))
        + (wt (arg10.view.read (Elt Ideal) f_arg10) (arg12.view.read (Elt Ideal) X_arg12) b (key4 k.val hk 2 u))
        + (wt (arg10.view.read (Elt Ideal) f_arg10) (arg12.view.read (Elt Ideal) X_arg12) b (key4 k.val hk 3 u)) := by
  unfold trip_k0_t2
  dsimp only
  sl_unfold_run_names
  refine (read_whole arg13.view f_arg13 _ _ _ b u).trans ?_
  unfold_payloads
  simp only [View.readAt_eq_ld, View.ld_unit_zero]
  pointwise
  refine congrArg₂ (· + ·) (congrArg₂ (· + ·) (congrArg₂ (· + ·) (congrArg₂ (· + ·) rfl ?_) ?_) ?_) ?_
  · exact wt_piece _ _ b (key4 k.val hk 0 u) _ _ u (off2_0 (show k0_off4 k 0#32 = ![0, 512 * k.val] from k0_off4_eq k 0) _)
      (off2_1 (show k0_off4 k 0#32 = ![0, 512 * k.val] from k0_off4_eq k 0) _ _ rfl) (key4_lane _ hk 0 u)
  · exact wt_piece _ _ b (key4 k.val hk 1 u) _ _ u (off2_0 (show k0_off4 k 128#32 = ![0, 512 * k.val + 128] from k0_off4_eq k 1) _)
      (off2_1 (show k0_off4 k 128#32 = ![0, 512 * k.val + 128] from k0_off4_eq k 1) _ _ rfl) (key4_lane _ hk 1 u)
  · exact wt_piece _ _ b (key4 k.val hk 2 u) _ _ u (off2_0 (show k0_off4 k 256#32 = ![0, 512 * k.val + 256] from k0_off4_eq k 2) _)
      (off2_1 (show k0_off4 k 256#32 = ![0, 512 * k.val + 256] from k0_off4_eq k 2) _ _ rfl) (key4_lane _ hk 2 u)
  · exact wt_piece _ _ b (key4 k.val hk 3 u) _ _ u (off2_0 (show k0_off4 k 384#32 = ![0, 512 * k.val + 384] from k0_off4_eq k 3) _)
      (off2_1 (show k0_off4 k 384#32 = ![0, 512 * k.val + 384] from k0_off4_eq k 3) _ _ rfl) (key4_lane _ hk 3 u)

include hk in
/-- The running weighted sum of values in column `u`: the old one and the 512 keys' values, each times its weight. -/
theorem trip2_acc (b : Fin 200) (u : Fin 128) :
    arg14.view.read (Elt Ideal) (arg14.view.writes (Elt Ideal) f_arg14 ((trip_k0_t2 (F := Ideal) 𝒱 c bd i arg1 harg1 arg2
      harg2 arg3 harg3 arg4 harg4 arg5 harg5 arg6 harg6 arg7 harg7 arg8 harg8 arg9 harg9 arg10 harg10 arg11 harg11
      arg12 harg12 arg13 harg13 arg14 harg14 k0_h2 X_arg1 X_arg2 X_arg3 X_arg4 X_arg6 X_arg7 X_arg12 k).2.2.2.1
      f_arg10 f_arg11 f_arg13 f_arg14)) (ix2 b u)
      = arg14.view.read (Elt Ideal) f_arg14 (ix2 b u)
        + ∑ x : Fin 512, wt (arg10.view.read (Elt Ideal) f_arg10) (arg12.view.read (Elt Ideal) X_arg12) b (key k.val hk x)
          * arg7.view.read (Elt Ideal) X_arg7 (ix3 0 (key k.val hk x) u) := by
  unfold trip_k0_t2
  dsimp only
  sl_unfold_run_names
  refine (read_whole arg14.view f_arg14 _ _ _ b u).trans ?_
  unfold_payloads
  simp only [View.readAt_eq_ld, View.ld_unit_zero]
  pointwise
  refine congrArg₂ (· + ·) rfl (Finset.sum_congr rfl fun x _ => congrArg₂ (· * ·) ?_ ?_)
  · by_cases a0 : x.val < 128
    · rw [dif_pos a0]
      exact wt_piece _ _ b (key k.val hk x) _ _ _ (off2_0 (show k0_off4 k 0#32 = ![0, 512 * k.val] from k0_off4_eq k 0) _)
        (off2_1 (show k0_off4 k 0#32 = ![0, 512 * k.val] from k0_off4_eq k 0) _ _ (spot0 k.val x.val)) (slot0 k.val x.val a0)
    rw [dif_neg a0]
    by_cases a1 : x.val - 128 < 128
    · rw [dif_pos a1]
      exact wt_piece _ _ b (key k.val hk x) _ _ _ (off2_0 (show k0_off4 k 128#32 = ![0, 512 * k.val + 128] from k0_off4_eq k 1) _)
        (off2_1 (show k0_off4 k 128#32 = ![0, 512 * k.val + 128] from k0_off4_eq k 1) _ _ (spot1 k.val x.val a0)) (slot1 k.val x.val a0 a1)
    rw [dif_neg a1]
    by_cases a2 : x.val - 128 - 128 < 128
    · rw [dif_pos a2]
      exact wt_piece _ _ b (key k.val hk x) _ _ _ (off2_0 (show k0_off4 k 256#32 = ![0, 512 * k.val + 256] from k0_off4_eq k 2) _)
        (off2_1 (show k0_off4 k 256#32 = ![0, 512 * k.val + 256] from k0_off4_eq k 2) _ _ (spot2 k.val x.val a0 a1)) (slot2 k.val x.val a0 a1 a2)
    · rw [dif_neg a2]
      exact wt_piece _ _ b (key k.val hk x) _ _ _ (off2_0 (show k0_off4 k 384#32 = ![0, 512 * k.val + 384] from k0_off4_eq k 3) _)
        (off2_1 (show k0_off4 k 384#32 = ![0, 512 * k.val + 384] from k0_off4_eq k 3) _ _ (spot3 k.val x.val a0 a1 a2)) (slot3 k.val x.val x.isLt a0 a1 a2)
  · exact at3 _ _ _ _ (key k.val hk x) u (off3_1 (k0_off5_eq k) _ _ rfl) (off3_2 (k0_off5_eq k) _)

end Cert.Mla

end
-- ==== Proof.Loop2.lean ====
module

public import proofs.«01_k».proof.Proof.Keys
public import proofs.«01_k».proof.Proof.Trip2
public import Idealize.ShloMosaic.Lib.WritesUnit
public import Idealize.ShloMosaic.Lib.Pipeline.Value
public import Idealize.ShloMosaic.Lib.Pointwise

@[expose] public section

set_option maxRecDepth 16384
set_option maxHeartbeats 4000000

noncomputable section

/-! What the second loop leaves: all scores of the next head and their running maximum; the sums of weights and of weighted
    values of the head before. -/

namespace Cert.Mla

open Cert.KernelIdeal Cert.KernelIdeal.Gen Idealize.ShloMosaic Idealize.ShloMosaic.TcCoe Idealize.ShloMosaic.Tactic

theorem trips2 : k0_t2_loop.trips = 32 := by decide

variable
  (𝒱 : Variants) (c : Dev nD) (bd : Option 𝒱.V) (i : grid0.Coords) (arg1 : Memref sig .tc .vmem S1x200x128 .fp8e4m3)
  (harg1 : arg1.IsWhole) (arg2 : Memref sig .tc .vmem S1x200x64 .bf16) (harg2 : arg2.IsWhole)
  (arg3 : Memref sig .tc .vmem S1x200x128 .f32) (harg3 : arg3.IsWhole) (arg4 : Memref sig .tc .vmem S64x16384 .bf16)
  (harg4 : arg4.IsWhole) (arg5 : Memref sig .tc .smem S16 .f32) (harg5 : arg5.IsWhole)
  (arg6 : Memref sig .tc .vmem S1x16384x128 .fp8e4m3) (harg6 : arg6.IsWhole)
  (arg7 : Memref sig .tc .vmem S1x16384x128 .fp8e4m3) (harg7 : arg7.IsWhole)
  (arg8 : Memref sig .tc .vmem S1x200x128 .f32) (harg8 : arg8.IsWhole) (arg9 : Memref sig .tc .vmem S1x200x128 .f32)
  (harg9 : arg9.IsWhole) (arg10 : Memref sig .tc .vmem S200x16384 .f32) (harg10 : arg10.IsWhole)
  (arg11 : Memref sig .tc .vmem S200x128 .f32) (harg11 : arg11.IsWhole) (arg12 : Memref sig .tc .vmem S200x128 .f32)
  (harg12 : arg12.IsWhole) (arg13 : Memref sig .tc .vmem S200x128 .f32) (harg13 : arg13.IsWhole)
  (arg14 : Memref sig .tc .vmem S200x128 .f32) (harg14 : arg14.IsWhole) (k0_h2 : k0_cond2 i = 1#1)
  (X_arg1 : BufTy.Contents (Elt Ideal) arg1.view.ty) (X_arg2 : BufTy.Contents (Elt Ideal) arg2.view.ty)
  (X_arg3 : BufTy.Contents (Elt Ideal) arg3.view.ty) (X_arg4 : BufTy.Contents (Elt Ideal) arg4.view.ty)
  (X_arg6 : BufTy.Contents (Elt Ideal) arg6.view.ty) (X_arg7 : BufTy.Contents (Elt Ideal) arg7.view.ty)
  (X_arg12 : BufTy.Contents (Elt Ideal) arg12.view.ty)
  (G_arg10 : BufTy.Contents (Elt Ideal) arg10.view.ty) (G_arg11 : BufTy.Contents (Elt Ideal) arg11.view.ty) (G_arg13 : BufTy.Contents (Elt Ideal) arg13.view.ty) (G_arg14 : BufTy.Contents (Elt Ideal) arg14.view.ty)

/-- The scores after `n` trips: the first `512 n` keys' are set. -/
theorem loop2_scores (n : ℕ) (hn : n ≤ 32) (b : Fin 200) (l : Fin 16384) :
    arg10.view.read (Elt Ideal) (arg10.view.writes (Elt Ideal) G_arg10 (pb_k0_t2 (F := Ideal) 𝒱 c bd i arg1 harg1 arg2
      harg2 arg3 harg3 arg4 harg4 arg5 harg5 arg6 harg6 arg7 harg7 arg8 harg8 arg9 harg9 arg10 harg10 arg11 harg11
      arg12 harg12 arg13 harg13 arg14 harg14 k0_h2 X_arg1 X_arg2 X_arg3 X_arg4 X_arg6 X_arg7 X_arg12 G_arg10 G_arg11
      G_arg13 G_arg14 n).1) (ix2 b l)
      = if l.val < 512 * n then sc (arg1.view.read (Elt Ideal) X_arg1) (arg2.view.read (Elt Ideal) X_arg2)
        (arg3.view.read (Elt Ideal) X_arg3) (arg4.view.read (Elt Ideal) X_arg4) (arg6.view.read (Elt Ideal) X_arg6) b l
        else arg10.view.read (Elt Ideal) G_arg10 (ix2 b l) := by
  refine steps_set (fun n l => arg10.view.read (Elt Ideal) (arg10.view.writes (Elt Ideal) G_arg10 (pb_k0_t2 (F := Ideal) 𝒱 c bd i arg1 harg1 arg2
      harg2 arg3 harg3 arg4 harg4 arg5 harg5 arg6 harg6 arg7 harg7 arg8 harg8 arg9 harg9 arg10 harg10 arg11 harg11
      arg12 harg12 arg13 harg13 arg14 harg14 k0_h2 X_arg1 X_arg2 X_arg3 X_arg4 X_arg6 X_arg7 X_arg12 G_arg10 G_arg11
      G_arg13 G_arg14 n).1) (ix2 b l))
    (fun l => sc (arg1.view.read (Elt Ideal) X_arg1) (arg2.view.read (Elt Ideal) X_arg2)
        (arg3.view.read (Elt Ideal) X_arg3) (arg4.view.read (Elt Ideal) X_arg4) (arg6.view.read (Elt Ideal) X_arg6) b l) (fun k hk l => ?_) n hn l
  have e : (pb_k0_t2 (F := Ideal) 𝒱 c bd i arg1 harg1 arg2 harg2 arg3 harg3 arg4 harg4 arg5 harg5 arg6 harg6 arg7 harg7 arg8
      harg8 arg9 harg9 arg10 harg10 arg11 harg11 arg12 harg12 arg13 harg13 arg14 harg14 k0_h2 X_arg1 X_arg2 X_arg3
      X_arg4 X_arg6 X_arg7 X_arg12 G_arg10 G_arg11 G_arg13 G_arg14 (k + 1)) = _ :=
    pb_k0_t2_succ (F := Ideal) 𝒱 c bd i arg1 harg1 arg2 harg2 arg3 harg3 arg4 harg4 arg5 harg5 arg6 harg6 arg7 harg7 arg8 harg8 arg9 harg9 arg10
      harg10 arg11 harg11 arg12 harg12 arg13 harg13 arg14 harg14 k0_h2 X_arg1 X_arg2 X_arg3 X_arg4 X_arg6 X_arg7
      X_arg12 G_arg10 G_arg11 G_arg13 G_arg14 ⟨k, lt_of_lt_of_eq hk trips2.symm⟩
  show arg10.view.read (Elt Ideal) (arg10.view.writes (Elt Ideal) G_arg10 (pb_k0_t2 (F := Ideal) 𝒱 c bd i arg1 harg1 arg2
      harg2 arg3 harg3 arg4 harg4 arg5 harg5 arg6 harg6 arg7 harg7 arg8 harg8 arg9 harg9 arg10 harg10 arg11 harg11
      arg12 harg12 arg13 harg13 arg14 harg14 k0_h2 X_arg1 X_arg2 X_arg3 X_arg4 X_arg6 X_arg7 X_arg12 G_arg10 G_arg11
      G_arg13 G_arg14 (k + 1)).1) (ix2 b l) = _
  rw [e, View.writes_append]
  exact trip2_scores 𝒱 c bd i arg1 harg1 arg2 harg2 arg3 harg3 arg4 harg4 arg5 harg5 arg6 harg6 arg7 harg7 arg8 harg8 arg9
      harg9 arg10 harg10 arg11 harg11 arg12 harg12 arg13 harg13 arg14 harg14 k0_h2 X_arg1 X_arg2 X_arg3 X_arg4 X_arg6
      X_arg7 X_arg12 ⟨k, lt_of_lt_of_eq hk trips2.symm⟩ (arg10.view.writes (Elt Ideal) G_arg10 (pb_k0_t2 (F := Ideal)
      𝒱 c bd i arg1 harg1 arg2 harg2 arg3 harg3 arg4 harg4 arg5 harg5 arg6 harg6 arg7 harg7 arg8 harg8 arg9 harg9
      arg10 harg10 arg11 harg11 arg12 harg12 arg13 harg13 arg14 harg14 k0_h2 X_arg1 X_arg2 X_arg3 X_arg4 X_arg6 X_arg7
      X_arg12 G_arg10 G_arg11 G_arg13 G_arg14 k).1) (arg11.view.writes (Elt Ideal) G_arg11 (pb_k0_t2 (F := Ideal) 𝒱 c
      bd i arg1 harg1 arg2 harg2 arg3 harg3 arg4 harg4 arg5 harg5 arg6 harg6 arg7 harg7 arg8 harg8 arg9 harg9 arg10
      harg10 arg11 harg11 arg12 harg12 arg13 harg13 arg14 harg14 k0_h2 X_arg1 X_arg2 X_arg3 X_arg4 X_arg6 X_arg7
      X_arg12 G_arg10 G_arg11 G_arg13 G_arg14 k).2.1) (arg13.view.writes (Elt Ideal) G_arg13 (pb_k0_t2 (F := Ideal) 𝒱
      c bd i arg1 harg1 arg2 harg2 arg3 harg3 arg4 harg4 arg5 harg5 arg6 harg6 arg7 harg7 arg8 harg8 arg9 harg9 arg10
      harg10 arg11 harg11 arg12 harg12 arg13 harg13 arg14 harg14 k0_h2 X_arg1 X_arg2 X_arg3 X_arg4 X_arg6 X_arg7
      X_arg12 G_arg10 G_arg11 G_arg13 G_arg14 k).2.2.1) (arg14.view.writes (Elt Ideal) G_arg14 (pb_k0_t2 (F := Ideal)
      𝒱 c bd i arg1 harg1 arg2 harg2 arg3 harg3 arg4 harg4 arg5 harg5 arg6 harg6 arg7 harg7 arg8 harg8 arg9 harg9
      arg10 harg10 arg11 harg11 arg12 harg12 arg13 harg13 arg14 harg14 k0_h2 X_arg1 X_arg2 X_arg3 X_arg4 X_arg6 X_arg7
      X_arg12 G_arg10 G_arg11 G_arg13 G_arg14 k).2.2.2) b l

/-- The running maximum of lane `u` after `n` trips, by what bounds it: the scores of the lane's keys so far. -/
theorem loop2_max (n : ℕ) (hn : n ≤ 32) (b : Fin 200) (u : Fin 128) (z : EReal) :
    arg11.view.read (Elt Ideal) (arg11.view.writes (Elt Ideal) G_arg11 (pb_k0_t2 (F := Ideal) 𝒱 c bd i arg1 harg1 arg2
      harg2 arg3 harg3 arg4 harg4 arg5 harg5 arg6 harg6 arg7 harg7 arg8 harg8 arg9 harg9 arg10 harg10 arg11 harg11
      arg12 harg12 arg13 harg13 arg14 harg14 k0_h2 X_arg1 X_arg2 X_arg3 X_arg4 X_arg6 X_arg7 X_arg12 G_arg10 G_arg11
      G_arg13 G_arg14 n).2.1) (ix2 b u) ≤ z
      ↔ arg11.view.read (Elt Ideal) G_arg11 (ix2 b u) ≤ z
        ∧ ∀ l : Fin 16384, l.val < 512 * n → l.val % 128 = u.val → sc (arg1.view.read (Elt Ideal) X_arg1) (arg2.view.read (Elt Ideal) X_arg2)
        (arg3.view.read (Elt Ideal) X_arg3) (arg4.view.read (Elt Ideal) X_arg4) (arg6.view.read (Elt Ideal) X_arg6) b l ≤ z := by
  refine steps_max (fun n => arg11.view.read (Elt Ideal) (arg11.view.writes (Elt Ideal) G_arg11 (pb_k0_t2 (F := Ideal) 𝒱 c bd i arg1 harg1 arg2
      harg2 arg3 harg3 arg4 harg4 arg5 harg5 arg6 harg6 arg7 harg7 arg8 harg8 arg9 harg9 arg10 harg10 arg11 harg11
      arg12 harg12 arg13 harg13 arg14 harg14 k0_h2 X_arg1 X_arg2 X_arg3 X_arg4 X_arg6 X_arg7 X_arg12 G_arg10 G_arg11
      G_arg13 G_arg14 n).2.1) (ix2 b u))
    (fun l => sc (arg1.view.read (Elt Ideal) X_arg1) (arg2.view.read (Elt Ideal) X_arg2)
        (arg3.view.read (Elt Ideal) X_arg3) (arg4.view.read (Elt Ideal) X_arg4) (arg6.view.read (Elt Ideal) X_arg6) b l) u (fun k hk => ?_) n hn z
  have e : (pb_k0_t2 (F := Ideal) 𝒱 c bd i arg1 harg1 arg2 harg2 arg3 harg3 arg4 harg4 arg5 harg5 arg6 harg6 arg7 harg7 arg8
      harg8 arg9 harg9 arg10 harg10 arg11 harg11 arg12 harg12 arg13 harg13 arg14 harg14 k0_h2 X_arg1 X_arg2 X_arg3
      X_arg4 X_arg6 X_arg7 X_arg12 G_arg10 G_arg11 G_arg13 G_arg14 (k + 1)) = _ :=
    pb_k0_t2_succ (F := Ideal) 𝒱 c bd i arg1 harg1 arg2 harg2 arg3 harg3 arg4 harg4 arg5 harg5 arg6 harg6 arg7 harg7 arg8 harg8 arg9 harg9 arg10
      harg10 arg11 harg11 arg12 harg12 arg13 harg13 arg14 harg14 k0_h2 X_arg1 X_arg2 X_arg3 X_arg4 X_arg6 X_arg7
      X_arg12 G_arg10 G_arg11 G_arg13 G_arg14 ⟨k, lt_of_lt_of_eq hk trips2.symm⟩
  show arg11.view.read (Elt Ideal) (arg11.view.writes (Elt Ideal) G_arg11 (pb_k0_t2 (F := Ideal) 𝒱 c bd i arg1 harg1 arg2
      harg2 arg3 harg3 arg4 harg4 arg5 harg5 arg6 harg6 arg7 harg7 arg8 harg8 arg9 harg9 arg10 harg10 arg11 harg11
      arg12 harg12 arg13 harg13 arg14 harg14 k0_h2 X_arg1 X_arg2 X_arg3 X_arg4 X_arg6 X_arg7 X_arg12 G_arg10 G_arg11
      G_arg13 G_arg14 (k + 1)).2.1) (ix2 b u) = _
  rw [e, View.writes_append]
  exact trip2_max 𝒱 c bd i arg1 harg1 arg2 harg2 arg3 harg3 arg4 harg4 arg5 harg5 arg6 harg6 arg7 harg7 arg8 harg8 arg9 harg9
      arg10 harg10 arg11 harg11 arg12 harg12 arg13 harg13 arg14 harg14 k0_h2 X_arg1 X_arg2 X_arg3 X_arg4 X_arg6 X_arg7
      X_arg12 ⟨k, lt_of_lt_of_eq hk trips2.symm⟩ (arg10.view.writes (Elt Ideal) G_arg10 (pb_k0_t2 (F := Ideal) 𝒱 c bd
      i arg1 harg1 arg2 harg2 arg3 harg3 arg4 harg4 arg5 harg5 arg6 harg6 arg7 harg7 arg8 harg8 arg9 harg9 arg10
      harg10 arg11 harg11 arg12 harg12 arg13 harg13 arg14 harg14 k0_h2 X_arg1 X_arg2 X_arg3 X_arg4 X_arg6 X_arg7
      X_arg12 G_arg10 G_arg11 G_arg13 G_arg14 k).1) (arg11.view.writes (Elt Ideal) G_arg11 (pb_k0_t2 (F := Ideal) 𝒱 c
      bd i arg1 harg1 arg2 harg2 arg3 harg3 arg4 harg4 arg5 harg5 arg6 harg6 arg7 harg7 arg8 harg8 arg9 harg9 arg10
      harg10 arg11 harg11 arg12 harg12 arg13 harg13 arg14 harg14 k0_h2 X_arg1 X_arg2 X_arg3 X_arg4 X_arg6 X_arg7
      X_arg12 G_arg10 G_arg11 G_arg13 G_arg14 k).2.1) (arg13.view.writes (Elt Ideal) G_arg13 (pb_k0_t2 (F := Ideal) 𝒱
      c bd i arg1 harg1 arg2 harg2 arg3 harg3 arg4 harg4 arg5 harg5 arg6 harg6 arg7 harg7 arg8 harg8 arg9 harg9 arg10
      harg10 arg11 harg11 arg12 harg12 arg13 harg13 arg14 harg14 k0_h2 X_arg1 X_arg2 X_arg3 X_arg4 X_arg6 X_arg7
      X_arg12 G_arg10 G_arg11 G_arg13 G_arg14 k).2.2.1) (arg14.view.writes (Elt Ideal) G_arg14 (pb_k0_t2 (F := Ideal)
      𝒱 c bd i arg1 harg1 arg2 harg2 arg3 harg3 arg4 harg4 arg5 harg5 arg6 harg6 arg7 harg7 arg8 harg8 arg9 harg9
      arg10 harg10 arg11 harg11 arg12 harg12 arg13 harg13 arg14 harg14 k0_h2 X_arg1 X_arg2 X_arg3 X_arg4 X_arg6 X_arg7
      X_arg12 G_arg10 G_arg11 G_arg13 G_arg14 k).2.2.2) hk b u

/-- The sum of weights of lane `u` after the last trip. -/
theorem loop2_sum (b : Fin 200) (u : Fin 128) :
    arg13.view.read (Elt Ideal) (arg13.view.writes (Elt Ideal) G_arg13 (pb_k0_t2 (F := Ideal) 𝒱 c bd i arg1 harg1 arg2
      harg2 arg3 harg3 arg4 harg4 arg5 harg5 arg6 harg6 arg7 harg7 arg8 harg8 arg9 harg9 arg10 harg10 arg11 harg11
      arg12 harg12 arg13 harg13 arg14 harg14 k0_h2 X_arg1 X_arg2 X_arg3 X_arg4 X_arg6 X_arg7 X_arg12 G_arg10 G_arg11
      G_arg13 G_arg14 32).2.2.1) (ix2 b u)
      = arg13.view.read (Elt Ideal) G_arg13 (ix2 b u)
        + ∑ j : Fin 32, ∑ q : Fin 4, wt (arg10.view.read (Elt Ideal) G_arg10) (arg12.view.read (Elt Ideal) X_arg12) b (key4 j.val j.isLt q u) := by
  have old : ∀ (k : ℕ) (hk : k < 32) (q : Fin 4),
      arg10.view.read (Elt Ideal) (arg10.view.writes (Elt Ideal) G_arg10 (pb_k0_t2 (F := Ideal) 𝒱 c bd i arg1 harg1 arg2
      harg2 arg3 harg3 arg4 harg4 arg5 harg5 arg6 harg6 arg7 harg7 arg8 harg8 arg9 harg9 arg10 harg10 arg11 harg11
      arg12 harg12 arg13 harg13 arg14 harg14 k0_h2 X_arg1 X_arg2 X_arg3 X_arg4 X_arg6 X_arg7 X_arg12 G_arg10 G_arg11
      G_arg13 G_arg14 k).1) (ix2 b (key4 k hk q u))
        = arg10.view.read (Elt Ideal) G_arg10 (ix2 b (key4 k hk q u)) := fun k hk q =>
    (loop2_scores 𝒱 c bd i arg1 harg1 arg2 harg2 arg3 harg3 arg4 harg4 arg5 harg5 arg6 harg6 arg7 harg7 arg8 harg8 arg9 harg9 arg10
      harg10 arg11 harg11 arg12 harg12 arg13 harg13 arg14 harg14 k0_h2 X_arg1 X_arg2 X_arg3 X_arg4 X_arg6 X_arg7
      X_arg12 G_arg10 G_arg11 G_arg13 G_arg14 k hk.le b _).trans
      (if_neg (by simp only [key4]; omega))
  refine steps_add (fun n => arg13.view.read (Elt Ideal) (arg13.view.writes (Elt Ideal) G_arg13 (pb_k0_t2 (F := Ideal) 𝒱 c bd i arg1 harg1 arg2
      harg2 arg3 harg3 arg4 harg4 arg5 harg5 arg6 harg6 arg7 harg7 arg8 harg8 arg9 harg9 arg10 harg10 arg11 harg11
      arg12 harg12 arg13 harg13 arg14 harg14 k0_h2 X_arg1 X_arg2 X_arg3 X_arg4 X_arg6 X_arg7 X_arg12 G_arg10 G_arg11
      G_arg13 G_arg14 n).2.2.1) (ix2 b u))
    (fun k hk => ∑ q : Fin 4, wt (arg10.view.read (Elt Ideal) G_arg10) (arg12.view.read (Elt Ideal) X_arg12) b (key4 k hk q u)) (fun k hk => ?_)
  have e : (pb_k0_t2 (F := Ideal) 𝒱 c bd i arg1 harg1 arg2 harg2 arg3 harg3 arg4 harg4 arg5 harg5 arg6 harg6 arg7 harg7 arg8
      harg8 arg9 harg9 arg10 harg10 arg11 harg11 arg12 harg12 arg13 harg13 arg14 harg14 k0_h2 X_arg1 X_arg2 X_arg3
      X_arg4 X_arg6 X_arg7 X_arg12 G_arg10 G_arg11 G_arg13 G_arg14 (k + 1)) = _ :=
    pb_k0_t2_succ (F := Ideal) 𝒱 c bd i arg1 harg1 arg2 harg2 arg3 harg3 arg4 harg4 arg5 harg5 arg6 harg6 arg7 harg7 arg8 harg8 arg9 harg9 arg10
      harg10 arg11 harg11 arg12 harg12 arg13 harg13 arg14 harg14 k0_h2 X_arg1 X_arg2 X_arg3 X_arg4 X_arg6 X_arg7
      X_arg12 G_arg10 G_arg11 G_arg13 G_arg14 ⟨k, lt_of_lt_of_eq hk trips2.symm⟩
  show arg13.view.read (Elt Ideal) (arg13.view.writes (Elt Ideal) G_arg13 (pb_k0_t2 (F := Ideal) 𝒱 c bd i arg1 harg1 arg2
      harg2 arg3 harg3 arg4 harg4 arg5 harg5 arg6 harg6 arg7 harg7 arg8 harg8 arg9 harg9 arg10 harg10 arg11 harg11
      arg12 harg12 arg13 harg13 arg14 harg14 k0_h2 X_arg1 X_arg2 X_arg3 X_arg4 X_arg6 X_arg7 X_arg12 G_arg10 G_arg11
      G_arg13 G_arg14 (k + 1)).2.2.1) (ix2 b u) = _
  rw [e, View.writes_append]
  refine (trip2_sum 𝒱 c bd i arg1 harg1 arg2 harg2 arg3 harg3 arg4 harg4 arg5 harg5 arg6 harg6 arg7 harg7 arg8 harg8 arg9 harg9
      arg10 harg10 arg11 harg11 arg12 harg12 arg13 harg13 arg14 harg14 k0_h2 X_arg1 X_arg2 X_arg3 X_arg4 X_arg6 X_arg7
      X_arg12 ⟨k, lt_of_lt_of_eq hk trips2.symm⟩ (arg10.view.writes (Elt Ideal) G_arg10 (pb_k0_t2 (F := Ideal) 𝒱 c bd
      i arg1 harg1 arg2 harg2 arg3 harg3 arg4 harg4 arg5 harg5 arg6 harg6 arg7 harg7 arg8 harg8 arg9 harg9 arg10
      harg10 arg11 harg11 arg12 harg12 arg13 harg13 arg14 harg14 k0_h2 X_arg1 X_arg2 X_arg3 X_arg4 X_arg6 X_arg7
      X_arg12 G_arg10 G_arg11 G_arg13 G_arg14 k).1) (arg11.view.writes (Elt Ideal) G_arg11 (pb_k0_t2 (F := Ideal) 𝒱 c
      bd i arg1 harg1 arg2 harg2 arg3 harg3 arg4 harg4 arg5 harg5 arg6 harg6 arg7 harg7 arg8 harg8 arg9 harg9 arg10
      harg10 arg11 harg11 arg12 harg12 arg13 harg13 arg14 harg14 k0_h2 X_arg1 X_arg2 X_arg3 X_arg4 X_arg6 X_arg7
      X_arg12 G_arg10 G_arg11 G_arg13 G_arg14 k).2.1) (arg13.view.writes (Elt Ideal) G_arg13 (pb_k0_t2 (F := Ideal) 𝒱
      c bd i arg1 harg1 arg2 harg2 arg3 harg3 arg4 harg4 arg5 harg5 arg6 harg6 arg7 harg7 arg8 harg8 arg9 harg9 arg10
      harg10 arg11 harg11 arg12 harg12 arg13 harg13 arg14 harg14 k0_h2 X_arg1 X_arg2 X_arg3 X_arg4 X_arg6 X_arg7
      X_arg12 G_arg10 G_arg11 G_arg13 G_arg14 k).2.2.1) (arg14.view.writes (Elt Ideal) G_arg14 (pb_k0_t2 (F := Ideal)
      𝒱 c bd i arg1 harg1 arg2 harg2 arg3 harg3 arg4 harg4 arg5 harg5 arg6 harg6 arg7 harg7 arg8 harg8 arg9 harg9
      arg10 harg10 arg11 harg11 arg12 harg12 arg13 harg13 arg14 harg14 k0_h2 X_arg1 X_arg2 X_arg3 X_arg4 X_arg6 X_arg7
      X_arg12 G_arg10 G_arg11 G_arg13 G_arg14 k).2.2.2) hk b u).trans ?_
  rw [wt_congr (old k hk 0), wt_congr (old k hk 1), wt_congr (old k hk 2), wt_congr (old k hk 3)]
  show _ = _ + ∑ q : Fin 4, _
  rw [Fin.sum_univ_four]
  simp only [add_assoc]

/-- The weighted sum of values in column `u` after the last trip. -/
theorem loop2_acc (b : Fin 200) (u : Fin 128) :
    arg14.view.read (Elt Ideal) (arg14.view.writes (Elt Ideal) G_arg14 (pb_k0_t2 (F := Ideal) 𝒱 c bd i arg1 harg1 arg2
      harg2 arg3 harg3 arg4 harg4 arg5 harg5 arg6 harg6 arg7 harg7 arg8 harg8 arg9 harg9 arg10 harg10 arg11 harg11
      arg12 harg12 arg13 harg13 arg14 harg14 k0_h2 X_arg1 X_arg2 X_arg3 X_arg4 X_arg6 X_arg7 X_arg12 G_arg10 G_arg11
      G_arg13 G_arg14 32).2.2.2) (ix2 b u)
      = arg14.view.read (Elt Ideal) G_arg14 (ix2 b u)
        + ∑ j : Fin 32, ∑ x : Fin 512, wt (arg10.view.read (Elt Ideal) G_arg10) (arg12.view.read (Elt Ideal) X_arg12) b (key j.val j.isLt x)
          * arg7.view.read (Elt Ideal) X_arg7 (ix3 0 (key j.val j.isLt x) u) := by
  have old : ∀ (k : ℕ) (hk : k < 32) (x : Fin 512),
      arg10.view.read (Elt Ideal) (arg10.view.writes (Elt Ideal) G_arg10 (pb_k0_t2 (F := Ideal) 𝒱 c bd i arg1 harg1 arg2
      harg2 arg3 harg3 arg4 harg4 arg5 harg5 arg6 harg6 arg7 harg7 arg8 harg8 arg9 harg9 arg10 harg10 arg11 harg11
      arg12 harg12 arg13 harg13 arg14 harg14 k0_h2 X_arg1 X_arg2 X_arg3 X_arg4 X_arg6 X_arg7 X_arg12 G_arg10 G_arg11
      G_arg13 G_arg14 k).1) (ix2 b (key k hk x))
        = arg10.view.read (Elt Ideal) G_arg10 (ix2 b (key k hk x)) := fun k hk x =>
    (loop2_scores 𝒱 c bd i arg1 harg1 arg2 harg2 arg3 harg3 arg4 harg4 arg5 harg5 arg6 harg6 arg7 harg7 arg8 harg8 arg9 harg9 arg10
      harg10 arg11 harg11 arg12 harg12 arg13 harg13 arg14 harg14 k0_h2 X_arg1 X_arg2 X_arg3 X_arg4 X_arg6 X_arg7
      X_arg12 G_arg10 G_arg11 G_arg13 G_arg14 k hk.le b _).trans
      (if_neg (by simp only [key]; omega))
  refine steps_add (fun n => arg14.view.read (Elt Ideal) (arg14.view.writes (Elt Ideal) G_arg14 (pb_k0_t2 (F := Ideal) 𝒱 c bd i arg1 harg1 arg2
      harg2 arg3 harg3 arg4 harg4 arg5 harg5 arg6 harg6 arg7 harg7 arg8 harg8 arg9 harg9 arg10 harg10 arg11 harg11
      arg12 harg12 arg13 harg13 arg14 harg14 k0_h2 X_arg1 X_arg2 X_arg3 X_arg4 X_arg6 X_arg7 X_arg12 G_arg10 G_arg11
      G_arg13 G_arg14 n).2.2.2) (ix2 b u))
    (fun k hk => ∑ x : Fin 512, wt (arg10.view.read (Elt Ideal) G_arg10) (arg12.view.read (Elt Ideal) X_arg12) b (key k hk x)
      * arg7.view.read (Elt Ideal) X_arg7 (ix3 0 (key k hk x) u)) (fun k hk => ?_)
  have e : (pb_k0_t2 (F := Ideal) 𝒱 c bd i arg1 harg1 arg2 harg2 arg3 harg3 arg4 harg4 arg5 harg5 arg6 harg6 arg7 harg7 arg8
      harg8 arg9 harg9 arg10 harg10 arg11 harg11 arg12 harg12 arg13 harg13 arg14 harg14 k0_h2 X_arg1 X_arg2 X_arg3
      X_arg4 X_arg6 X_arg7 X_arg12 G_arg10 G_arg11 G_arg13 G_arg14 (k + 1)) = _ :=
    pb_k0_t2_succ (F := Ideal) 𝒱 c bd i arg1 harg1 arg2 harg2 arg3 harg3 arg4 harg4 arg5 harg5 arg6 harg6 arg7 harg7 arg8 harg8 arg9 harg9 arg10
      harg10 arg11 harg11 arg12 harg12 arg13 harg13 arg14 harg14 k0_h2 X_arg1 X_arg2 X_arg3 X_arg4 X_arg6 X_arg7
      X_arg12 G_arg10 G_arg11 G_arg13 G_arg14 ⟨k, lt_of_lt_of_eq hk trips2.symm⟩
  show arg14.view.read (Elt Ideal) (arg14.view.writes (Elt Ideal) G_arg14 (pb_k0_t2 (F := Ideal) 𝒱 c bd i arg1 harg1 arg2
      harg2 arg3 harg3 arg4 harg4 arg5 harg5 arg6 harg6 arg7 harg7 arg8 harg8 arg9 harg9 arg10 harg10 arg11 harg11
      arg12 harg12 arg13 harg13 arg14 harg14 k0_h2 X_arg1 X_arg2 X_arg3 X_arg4 X_arg6 X_arg7 X_arg12 G_arg10 G_arg11
      G_arg13 G_arg14 (k + 1)).2.2.2) (ix2 b u) = _
  rw [e, View.writes_append]
  refine (trip2_acc 𝒱 c bd i arg1 harg1 arg2 harg2 arg3 harg3 arg4 harg4 arg5 harg5 arg6 harg6 arg7 harg7 arg8 harg8 arg9 harg9
      arg10 harg10 arg11 harg11 arg12 harg12 arg13 harg13 arg14 harg14 k0_h2 X_arg1 X_arg2 X_arg3 X_arg4 X_arg6 X_arg7
      X_arg12 ⟨k, lt_of_lt_of_eq hk trips2.symm⟩ (arg10.view.writes (Elt Ideal) G_arg10 (pb_k0_t2 (F := Ideal) 𝒱 c bd
      i arg1 harg1 arg2 harg2 arg3 harg3 arg4 harg4 arg5 harg5 arg6 harg6 arg7 harg7 arg8 harg8 arg9 harg9 arg10
      harg10 arg11 harg11 arg12 harg12 arg13 harg13 arg14 harg14 k0_h2 X_arg1 X_arg2 X_arg3 X_arg4 X_arg6 X_arg7
      X_arg12 G_arg10 G_arg11 G_arg13 G_arg14 k).1) (arg11.view.writes (Elt Ideal) G_arg11 (pb_k0_t2 (F := Ideal) 𝒱 c
      bd i arg1 harg1 arg2 harg2 arg3 harg3 arg4 harg4 arg5 harg5 arg6 harg6 arg7 harg7 arg8 harg8 arg9 harg9 arg10
      harg10 arg11 harg11 arg12 harg12 arg13 harg13 arg14 harg14 k0_h2 X_arg1 X_arg2 X_arg3 X_arg4 X_arg6 X_arg7
      X_arg12 G_arg10 G_arg11 G_arg13 G_arg14 k).2.1) (arg13.view.writes (Elt Ideal) G_arg13 (pb_k0_t2 (F := Ideal) 𝒱
      c bd i arg1 harg1 arg2 harg2 arg3 harg3 arg4 harg4 arg5 harg5 arg6 harg6 arg7 harg7 arg8 harg8 arg9 harg9 arg10
      harg10 arg11 harg11 arg12 harg12 arg13 harg13 arg14 harg14 k0_h2 X_arg1 X_arg2 X_arg3 X_arg4 X_arg6 X_arg7
      X_arg12 G_arg10 G_arg11 G_arg13 G_arg14 k).2.2.1) (arg14.view.writes (Elt Ideal) G_arg14 (pb_k0_t2 (F := Ideal)
      𝒱 c bd i arg1 harg1 arg2 harg2 arg3 harg3 arg4 harg4 arg5 harg5 arg6 harg6 arg7 harg7 arg8 harg8 arg9 harg9
      arg10 harg10 arg11 harg11 arg12 harg12 arg13 harg13 arg14 harg14 k0_h2 X_arg1 X_arg2 X_arg3 X_arg4 X_arg6 X_arg7
      X_arg12 G_arg10 G_arg11 G_arg13 G_arg14 k).2.2.2) hk b u).trans ?_
  exact congrArg₂ (· + ·) rfl (Finset.sum_congr rfl fun x _ => congrArg₂ (· * ·) (wt_congr (old k hk x)) rfl)

end Cert.Mla

end
-- ==== Proof.Trip3.lean ====
module

public import proofs.«01_k».proof.Proof.Blocks
public import proofs.«01_k».proof.Proof.Gen.KernelIdeal.Loops
public import Idealize.ShloMosaic.Lib.WritesUnit
public import Idealize.ShloMosaic.Lib.Pipeline.Value
public import Idealize.ShloMosaic.Lib.Pointwise

@[expose] public section

set_option maxRecDepth 16384
set_option maxHeartbeats 4000000

noncomputable section

/-! What one trip of the last loop stores: the sums of weights and of weighted values. -/

namespace Cert.Mla

open Cert.KernelIdeal Cert.KernelIdeal.Gen Idealize.ShloMosaic Idealize.ShloMosaic.TcCoe Idealize.ShloMosaic.Tactic

variable
  (𝒱 : Variants) (c : Dev nD) (bd : Option 𝒱.V) (i : grid0.Coords) (arg1 : Memref sig .tc .vmem S1x200x128 .fp8e4m3)
  (harg1 : arg1.IsWhole) (arg2 : Memref sig .tc .vmem S1x200x64 .bf16) (harg2 : arg2.IsWhole)
  (arg3 : Memref sig .tc .vmem S1x200x128 .f32) (harg3 : arg3.IsWhole) (arg4 : Memref sig .tc .vmem S64x16384 .bf16)
  (harg4 : arg4.IsWhole) (arg5 : Memref sig .tc .smem S16 .f32) (harg5 : arg5.IsWhole)
  (arg6 : Memref sig .tc .vmem S1x16384x128 .fp8e4m3) (harg6 : arg6.IsWhole)
  (arg7 : Memref sig .tc .vmem S1x16384x128 .fp8e4m3) (harg7 : arg7.IsWhole)
  (arg8 : Memref sig .tc .vmem S1x200x128 .f32) (harg8 : arg8.IsWhole) (arg9 : Memref sig .tc .vmem S1x200x128 .f32)
  (harg9 : arg9.IsWhole) (arg10 : Memref sig .tc .vmem S200x16384 .f32) (harg10 : arg10.IsWhole)
  (arg11 : Memref sig .tc .vmem S200x128 .f32) (harg11 : arg11.IsWhole) (arg12 : Memref sig .tc .vmem S200x128 .f32)
  (harg12 : arg12.IsWhole) (arg13 : Memref sig .tc .vmem S200x128 .f32) (harg13 : arg13.IsWhole)
  (arg14 : Memref sig .tc .vmem S200x128 .f32) (harg14 : arg14.IsWhole) (k0_h3 : k0_cond3 i = 1#1)
  (X_arg7 : BufTy.Contents (Elt Ideal) arg7.view.ty) (X_arg10 : BufTy.Contents (Elt Ideal) arg10.view.ty)
  (X_arg12 : BufTy.Contents (Elt Ideal) arg12.view.ty) (k : Fin k0_t3_loop.trips)
  (f_arg13 : BufTy.Contents (Elt Ideal) arg13.view.ty) (f_arg14 : BufTy.Contents (Elt Ideal) arg14.view.ty)

variable (hk : k.val < 32)

include hk in
/-- The running sum of weights of lane `u`: the old one and the weights of the four keys of that lane among the 512. -/
theorem trip3_sum (b : Fin 200) (u : Fin 128) :
    arg13.view.read (Elt Ideal) (arg13.view.writes (Elt Ideal) f_arg13 ((trip_k0_t3 (F := Ideal) 𝒱 c bd i arg1 harg1 arg2
      harg2 arg3 harg3 arg4 harg4 arg5 harg5 arg6 harg6 arg7 harg7 arg8 harg8 arg9 harg9 arg10 harg10 arg11 harg11
      arg12 harg12 arg13 harg13 arg14 harg14 k0_h3 X_arg7 X_arg10 X_arg12 k).1 f_arg13 f_arg14)) (ix2 b u)
      = arg13.view.read (Elt Ideal) f_arg13 (ix2 b u)
        + (wt (arg10.view.read (Elt Ideal) X_arg10) (arg12.view.read (Elt Ideal) X_arg12) b (key4 k.val hk 0 u))
        + (wt (arg10.view.read (Elt Ideal) X_arg10) (arg12.view.read (Elt Ideal) X_arg12) b (key4 k.val hk 1 u))
        + (wt (arg10.view.read (Elt Ideal) X_arg10) (arg12.view.read (Elt Ideal) X_arg12) b (key4 k.val hk 2 u))
        + (wt (arg10.view.read (Elt Ideal) X_arg10) (arg12.view.read (Elt Ideal) X_arg12) b (key4 k.val hk 3 u)) := by
  unfold trip_k0_t3
  dsimp only
  sl_unfold_run_names
  refine (read_whole arg13.view f_arg13 _ _ _ b u).trans ?_
  unfold_payloads
  simp only [View.readAt_eq_ld, View.ld_unit_zero]
  pointwise
  refine congrArg₂ (· + ·) (congrArg₂ (· + ·) (congrArg₂ (· + ·) (congrArg₂ (· + ·) rfl ?_) ?_) ?_) ?_
  · exact wt_piece _ _ b (key4 k.val hk 0 u) _ _ u (off2_0 (show k0_off7 k 0#32 = ![0, 512 * k.val] from k0_off7_eq k 0) _)
      (off2_1 (show k0_off7 k 0#32 = ![0, 512 * k.val] from k0_off7_eq k 0) _ _ rfl) (key4_lane _ hk 0 u)
  · exact wt_piece _ _ b (key4 k.val hk 1 u) _ _ u (off2_0 (show k0_off7 k 128#32 = ![0, 512 * k.val + 128] from k0_off7_eq k 1) _)
      (off2_1 (show k0_off7 k 128#32 = ![0, 512 * k.val + 128] from k0_off7_eq k 1) _ _ rfl) (key4_lane _ hk 1 u)
  · exact wt_piece _ _ b (key4 k.val hk 2 u) _ _ u (off2_0 (show k0_off7 k 256#32 = ![0, 512 * k.val + 256] from k0_off7_eq k 2) _)
      (off2_1 (show k0_off7 k 256#32 = ![0, 512 * k.val + 256] from k0_off7_eq k 2) _ _ rfl) (key4_lane _ hk 2 u)
  · exact wt_piece _ _ b (key4 k.val hk 3 u) _ _ u (off2_0 (show k0_off7 k 384#32 = ![0, 512 * k.val + 384] from k0_off7_eq k 3) _)
      (off2_1 (show k0_off7 k 384#32 = ![0, 512 * k.val + 384] from k0_off7_eq k 3) _ _ rfl) (key4_lane _ hk 3 u)

include hk in
/-- The running weighted sum of values in column `u`: the old one and the 512 keys' values, each times its weight. -/
theorem trip3_acc (b : Fin 200) (u : Fin 128) :
    arg14.view.read (Elt Ideal) (arg14.view.writes (Elt Ideal) f_arg14 ((trip_k0_t3 (F := Ideal) 𝒱 c bd i arg1 harg1 arg2
      harg2 arg3 harg3 arg4 harg4 arg5 harg5 arg6 harg6 arg7 harg7 arg8 harg8 arg9 harg9 arg10 harg10 arg11 harg11
      arg12 harg12 arg13 harg13 arg14 harg14 k0_h3 X_arg7 X_arg10 X_arg12 k).2.1 f_arg13 f_arg14)) (ix2 b u)
      = arg14.view.read (Elt Ideal) f_arg14 (ix2 b u)
        + ∑ x : Fin 512, wt (arg10.view.read (Elt Ideal) X_arg10) (arg12.view.read (Elt Ideal) X_arg12) b (key k.val hk x)
          * arg7.view.read (Elt Ideal) X_arg7 (ix3 0 (key k.val hk x) u) := by
  unfold trip_k0_t3
  dsimp only
  sl_unfold_run_names
  refine (read_whole arg14.view f_arg14 _ _ _ b u).trans ?_
  unfold_payloads
  simp only [View.readAt_eq_ld, View.ld_unit_zero]
  pointwise
  refine congrArg₂ (· + ·) rfl (Finset.sum_congr rfl fun x _ => congrArg₂ (· * ·) ?_ ?_)
  · by_cases a0 : x.val < 128
    · rw [dif_pos a0]
      exact wt_piece _ _ b (key k.val hk x) _ _ _ (off2_0 (show k0_off7 k 0#32 = ![0, 512 * k.val] from k0_off7_eq k 0) _)
        (off2_1 (show k0_off7 k 0#32 = ![0, 512 * k.val] from k0_off7_eq k 0) _ _ (spot0 k.val x.val)) (slot0 k.val x.val a0)
    rw [dif_neg a0]
    by_cases a1 : x.val - 128 < 128
    · rw [dif_pos a1]
      exact wt_piece _ _ b (key k.val hk x) _ _ _ (off2_0 (show k0_off7 k 128#32 = ![0, 512 * k.val + 128] from k0_off7_eq k 1) _)
        (off2_1 (show k0_off7 k 128#32 = ![0, 512 * k.val + 128] from k0_off7_eq k 1) _ _ (spot1 k.val x.val a0)) (slot1 k.val x.val a0 a1)
    rw [dif_neg a1]
    by_cases a2 : x.val - 128 - 128 < 128
    · rw [dif_pos a2]
      exact wt_piece _ _ b (key k.val hk x) _ _ _ (off2_0 (show k0_off7 k 256#32 = ![0, 512 * k.val + 256] from k0_off7_eq k 2) _)
        (off2_1 (show k0_off7 k 256#32 = ![0, 512 * k.val + 256] from k0_off7_eq k 2) _ _ (spot2 k.val x.val a0 a1)) (slot2 k.val x.val a0 a1 a2)
    · rw [dif_neg a2]
      exact wt_piece _ _ b (key k.val hk x) _ _ _ (off2_0 (show k0_off7 k 384#32 = ![0, 512 * k.val + 384] from k0_off7_eq k 3) _)
        (off2_1 (show k0_off7 k 384#32 = ![0, 512 * k.val + 384] from k0_off7_eq k 3) _ _ (spot3 k.val x.val a0 a1 a2)) (slot3 k.val x.val x.isLt a0 a1 a2)
  · exact at3 _ _ _ _ (key k.val hk x) u (off3_1 (k0_off8_eq k) _ _ rfl) (off3_2 (k0_off8_eq k) _)

end Cert.Mla

end
-- ==== Proof.Loop3.lean ====
module

public import proofs.«01_k».proof.Proof.Keys
public import proofs.«01_k».proof.Proof.Trip3
public import Idealize.ShloMosaic.Lib.WritesUnit
public import Idealize.ShloMosaic.Lib.Pipeline.Value
public import Idealize.ShloMosaic.Lib.Pointwise

@[expose] public section

set_option maxRecDepth 16384
set_option maxHeartbeats 4000000

noncomputable section

/-! What the last loop leaves: the sums of weights and of weighted values of the last head. -/

namespace Cert.Mla

open Cert.KernelIdeal Cert.KernelIdeal.Gen Idealize.ShloMosaic Idealize.ShloMosaic.TcCoe Idealize.ShloMosaic.Tactic

theorem trips3 : k0_t3_loop.trips = 32 := by decide

variable
  (𝒱 : Variants) (c : Dev nD) (bd : Option 𝒱.V) (i : grid0.Coords) (arg1 : Memref sig .tc .vmem S1x200x128 .fp8e4m3)
  (harg1 : arg1.IsWhole) (arg2 : Memref sig .tc .vmem S1x200x64 .bf16) (harg2 : arg2.IsWhole)
  (arg3 : Memref sig .tc .vmem S1x200x128 .f32) (harg3 : arg3.IsWhole) (arg4 : Memref sig .tc .vmem S64x16384 .bf16)
  (harg4 : arg4.IsWhole) (arg5 : Memref sig .tc .smem S16 .f32) (harg5 : arg5.IsWhole)
  (arg6 : Memref sig .tc .vmem S1x16384x128 .fp8e4m3) (harg6 : arg6.IsWhole)
  (arg7 : Memref sig .tc .vmem S1x16384x128 .fp8e4m3) (harg7 : arg7.IsWhole)
  (arg8 : Memref sig .tc .vmem S1x200x128 .f32) (harg8 : arg8.IsWhole) (arg9 : Memref sig .tc .vmem S1x200x128 .f32)
  (harg9 : arg9.IsWhole) (arg10 : Memref sig .tc .vmem S200x16384 .f32) (harg10 : arg10.IsWhole)
  (arg11 : Memref sig .tc .vmem S200x128 .f32) (harg11 : arg11.IsWhole) (arg12 : Memref sig .tc .vmem S200x128 .f32)
  (harg12 : arg12.IsWhole) (arg13 : Memref sig .tc .vmem S200x128 .f32) (harg13 : arg13.IsWhole)
  (arg14 : Memref sig .tc .vmem S200x128 .f32) (harg14 : arg14.IsWhole) (k0_h3 : k0_cond3 i = 1#1)
  (X_arg7 : BufTy.Contents (Elt Ideal) arg7.view.ty) (X_arg10 : BufTy.Contents (Elt Ideal) arg10.view.ty)
  (X_arg12 : BufTy.Contents (Elt Ideal) arg12.view.ty)
  (G_arg13 : BufTy.Contents (Elt Ideal) arg13.view.ty) (G_arg14 : BufTy.Contents (Elt Ideal) arg14.view.ty)

/-- The sum of weights of lane `u` after the last trip. -/
theorem loop3_sum (b : Fin 200) (u : Fin 128) :
    arg13.view.read (Elt Ideal) (arg13.view.writes (Elt Ideal) G_arg13 (pb_k0_t3 (F := Ideal) 𝒱 c bd i arg1 harg1 arg2
      harg2 arg3 harg3 arg4 harg4 arg5 harg5 arg6 harg6 arg7 harg7 arg8 harg8 arg9 harg9 arg10 harg10 arg11 harg11
      arg12 harg12 arg13 harg13 arg14 harg14 k0_h3 X_arg7 X_arg10 X_arg12 G_arg13 G_arg14 32).1) (ix2 b u)
      = arg13.view.read (Elt Ideal) G_arg13 (ix2 b u)
        + ∑ j : Fin 32, ∑ q : Fin 4, wt (arg10.view.read (Elt Ideal) X_arg10) (arg12.view.read (Elt Ideal) X_arg12) b (key4 j.val j.isLt q u) := by
  refine steps_add (fun n => arg13.view.read (Elt Ideal) (arg13.view.writes (Elt Ideal) G_arg13 (pb_k0_t3 (F := Ideal) 𝒱 c bd i arg1 harg1 arg2
      harg2 arg3 harg3 arg4 harg4 arg5 harg5 arg6 harg6 arg7 harg7 arg8 harg8 arg9 harg9 arg10 harg10 arg11 harg11
      arg12 harg12 arg13 harg13 arg14 harg14 k0_h3 X_arg7 X_arg10 X_arg12 G_arg13 G_arg14 n).1) (ix2 b u))
    (fun k hk => ∑ q : Fin 4, wt (arg10.view.read (Elt Ideal) X_arg10) (arg12.view.read (Elt Ideal) X_arg12) b (key4 k hk q u)) (fun k hk => ?_)
  have e : (pb_k0_t3 (F := Ideal) 𝒱 c bd i arg1 harg1 arg2 harg2 arg3 harg3 arg4 harg4 arg5 harg5 arg6 harg6 arg7 harg7 arg8
      harg8 arg9 harg9 arg10 harg10 arg11 harg11 arg12 harg12 arg13 harg13 arg14 harg14 k0_h3 X_arg7 X_arg10 X_arg12
      G_arg13 G_arg14 (k + 1)) = _ :=
    pb_k0_t3_succ (F := Ideal) 𝒱 c bd i arg1 harg1 arg2 harg2 arg3 harg3 arg4 harg4 arg5 harg5 arg6 harg6 arg7 harg7 arg8 harg8 arg9 harg9 arg10
      harg10 arg11 harg11 arg12 harg12 arg13 harg13 arg14 harg14 k0_h3 X_arg7 X_arg10 X_arg12 G_arg13 G_arg14 ⟨k, lt_of_lt_of_eq hk trips3.symm⟩
  show arg13.view.read (Elt Ideal) (arg13.view.writes (Elt Ideal) G_arg13 (pb_k0_t3 (F := Ideal) 𝒱 c bd i arg1 harg1 arg2
      harg2 arg3 harg3 arg4 harg4 arg5 harg5 arg6 harg6 arg7 harg7 arg8 harg8 arg9 harg9 arg10 harg10 arg11 harg11
      arg12 harg12 arg13 harg13 arg14 harg14 k0_h3 X_arg7 X_arg10 X_arg12 G_arg13 G_arg14 (k + 1)).1) (ix2 b u) = _
  rw [e, View.writes_append]
  refine (trip3_sum 𝒱 c bd i arg1 harg1 arg2 harg2 arg3 harg3 arg4 harg4 arg5 harg5 arg6 harg6 arg7 harg7 arg8 harg8 arg9 harg9
      arg10 harg10 arg11 harg11 arg12 harg12 arg13 harg13 arg14 harg14 k0_h3 X_arg7 X_arg10 X_arg12 ⟨k, lt_of_lt_of_eq
      hk trips3.symm⟩ (arg13.view.writes (Elt Ideal) G_arg13 (pb_k0_t3 (F := Ideal) 𝒱 c bd i arg1 harg1 arg2 harg2
      arg3 harg3 arg4 harg4 arg5 harg5 arg6 harg6 arg7 harg7 arg8 harg8 arg9 harg9 arg10 harg10 arg11 harg11 arg12
      harg12 arg13 harg13 arg14 harg14 k0_h3 X_arg7 X_arg10 X_arg12 G_arg13 G_arg14 k).1) (arg14.view.writes (Elt
      Ideal) G_arg14 (pb_k0_t3 (F := Ideal) 𝒱 c bd i arg1 harg1 arg2 harg2 arg3 harg3 arg4 harg4 arg5 harg5 arg6 harg6
      arg7 harg7 arg8 harg8 arg9 harg9 arg10 harg10 arg11 harg11 arg12 harg12 arg13 harg13 arg14 harg14 k0_h3 X_arg7
      X_arg10 X_arg12 G_arg13 G_arg14 k).2) hk b u).trans ?_
  show _ = _ + ∑ q : Fin 4, _
  rw [Fin.sum_univ_four]
  simp only [add_assoc]

/-- The weighted sum of values in column `u` after the last trip. -/
theorem loop3_acc (b : Fin 200) (u : Fin 128) :
    arg14.view.read (Elt Ideal) (arg14.view.writes (Elt Ideal) G_arg14 (pb_k0_t3 (F := Ideal) 𝒱 c bd i arg1 harg1 arg2
      harg2 arg3 harg3 arg4 harg4 arg5 harg5 arg6 harg6 arg7 harg7 arg8 harg8 arg9 harg9 arg10 harg10 arg11 harg11
      arg12 harg12 arg13 harg13 arg14 harg14 k0_h3 X_arg7 X_arg10 X_arg12 G_arg13 G_arg14 32).2) (ix2 b u)
      = arg14.view.read (Elt Ideal) G_arg14 (ix2 b u)
        + ∑ j : Fin 32, ∑ x : Fin 512, wt (arg10.view.read (Elt Ideal) X_arg10) (arg12.view.read (Elt Ideal) X_arg12) b (key j.val j.isLt x)
          * arg7.view.read (Elt Ideal) X_arg7 (ix3 0 (key j.val j.isLt x) u) := by
  refine steps_add (fun n => arg14.view.read (Elt Ideal) (arg14.view.writes (Elt Ideal) G_arg14 (pb_k0_t3 (F := Ideal) 𝒱 c bd i arg1 harg1 arg2
      harg2 arg3 harg3 arg4 harg4 arg5 harg5 arg6 harg6 arg7 harg7 arg8 harg8 arg9 harg9 arg10 harg10 arg11 harg11
      arg12 harg12 arg13 harg13 arg14 harg14 k0_h3 X_arg7 X_arg10 X_arg12 G_arg13 G_arg14 n).2) (ix2 b u))
    (fun k hk => ∑ x : Fin 512, wt (arg10.view.read (Elt Ideal) X_arg10) (arg12.view.read (Elt Ideal) X_arg12) b (key k hk x)
      * arg7.view.read (Elt Ideal) X_arg7 (ix3 0 (key k hk x) u)) (fun k hk => ?_)
  have e : (pb_k0_t3 (F := Ideal) 𝒱 c bd i arg1 harg1 arg2 harg2 arg3 harg3 arg4 harg4 arg5 harg5 arg6 harg6 arg7 harg7 arg8
      harg8 arg9 harg9 arg10 harg10 arg11 harg11 arg12 harg12 arg13 harg13 arg14 harg14 k0_h3 X_arg7 X_arg10 X_arg12
      G_arg13 G_arg14 (k + 1)) = _ :=
    pb_k0_t3_succ (F := Ideal) 𝒱 c bd i arg1 harg1 arg2 harg2 arg3 harg3 arg4 harg4 arg5 harg5 arg6 harg6 arg7 harg7 arg8 harg8 arg9 harg9 arg10
      harg10 arg11 harg11 arg12 harg12 arg13 harg13 arg14 harg14 k0_h3 X_arg7 X_arg10 X_arg12 G_arg13 G_arg14 ⟨k, lt_of_lt_of_eq hk trips3.symm⟩
  show arg14.view.read (Elt Ideal) (arg14.view.writes (Elt Ideal) G_arg14 (pb_k0_t3 (F := Ideal) 𝒱 c bd i arg1 harg1 arg2
      harg2 arg3 harg3 arg4 harg4 arg5 harg5 arg6 harg6 arg7 harg7 arg8 harg8 arg9 harg9 arg10 harg10 arg11 harg11
      arg12 harg12 arg13 harg13 arg14 harg14 k0_h3 X_arg7 X_arg10 X_arg12 G_arg13 G_arg14 (k + 1)).2) (ix2 b u) = _
  rw [e, View.writes_append]
  refine (trip3_acc 𝒱 c bd i arg1 harg1 arg2 harg2 arg3 harg3 arg4 harg4 arg5 harg5 arg6 harg6 arg7 harg7 arg8 harg8 arg9 harg9
      arg10 harg10 arg11 harg11 arg12 harg12 arg13 harg13 arg14 harg14 k0_h3 X_arg7 X_arg10 X_arg12 ⟨k, lt_of_lt_of_eq
      hk trips3.symm⟩ (arg13.view.writes (Elt Ideal) G_arg13 (pb_k0_t3 (F := Ideal) 𝒱 c bd i arg1 harg1 arg2 harg2
      arg3 harg3 arg4 harg4 arg5 harg5 arg6 harg6 arg7 harg7 arg8 harg8 arg9 harg9 arg10 harg10 arg11 harg11 arg12
      harg12 arg13 harg13 arg14 harg14 k0_h3 X_arg7 X_arg10 X_arg12 G_arg13 G_arg14 k).1) (arg14.view.writes (Elt
      Ideal) G_arg14 (pb_k0_t3 (F := Ideal) 𝒱 c bd i arg1 harg1 arg2 harg2 arg3 harg3 arg4 harg4 arg5 harg5 arg6 harg6
      arg7 harg7 arg8 harg8 arg9 harg9 arg10 harg10 arg11 harg11 arg12 harg12 arg13 harg13 arg14 harg14 k0_h3 X_arg7
      X_arg10 X_arg12 G_arg13 G_arg14 k).2) hk b u).trans ?_
  rfl

end Cert.Mla

end
-- ==== Proof.First.lean ====
module

public import proofs.«01_k».proof.Proof.Ends
public import proofs.«01_k».proof.Proof.Loop1
public import proofs.«01_k».proof.Proof.Loop2
public import proofs.«01_k».proof.Proof.Loop3
public import proofs.«01_k».proof.Proof.KernelIdealFrame
public import Idealize.ShloMosaic.Lib.WritesUnit
public import Idealize.ShloMosaic.Lib.Pipeline.Value
public import Idealize.ShloMosaic.Lib.Pointwise

@[expose] public section

set_option maxRecDepth 16384
set_option maxHeartbeats 4000000

noncomputable section

/-! What the first grid point leaves behind. -/

namespace Cert.Mla

open Cert.KernelIdeal Cert.KernelIdeal.Hand Cert.KernelIdeal.Gen Idealize.ShloMosaic Idealize.ShloMosaic.TcCoe Idealize.ShloMosaic.Tactic

/-- Reading a buffer after a list of stores made over earlier ones is reading it after the list made over what those left. -/
theorem readCov_over {sg : RefSig} {κ : Kind} {sp : Space} (v : View sg κ sp S200x128 .f32)
    (L L' : List (View.Piece (Elt Ideal) S200x128 .f32)) (i0 : ∀ a, (![0, 0] : Fin 2 → ℕ) a + S200x128.size a ≤ S200x128.size a) :
    v.readCov (L ++ L') (Rect.unit ![0, 0] S200x128.size i0).toLoadRect
      = v.read (Elt Ideal) (v.writes (Elt Ideal) (v.writes (Elt Ideal) v.junk L') L) := by
  unfold View.readCov
  rw [View.readAt_eq_ld, View.writes_append]
  exact View.ld_unit_zero (funext fun a => by fin_cases a <;> rfl) i0 _

/-- The first point leaves in the score buffer the scores of its blocks. -/
theorem first_scores
  (c : Dev nD) (i : grid0.Coords) (arg1 : Memref sig .tc .vmem S1x200x128 .fp8e4m3) (harg1 : arg1.IsWhole)
  (arg2 : Memref sig .tc .vmem S1x200x64 .bf16) (harg2 : arg2.IsWhole) (arg3 : Memref sig .tc .vmem S1x200x128 .f32)
  (harg3 : arg3.IsWhole) (arg4 : Memref sig .tc .vmem S64x16384 .bf16) (harg4 : arg4.IsWhole)
  (arg5 : Memref sig .tc .smem S16 .f32) (harg5 : arg5.IsWhole) (arg6 : Memref sig .tc .vmem S1x16384x128 .fp8e4m3)
  (harg6 : arg6.IsWhole) (arg7 : Memref sig .tc .vmem S1x16384x128 .fp8e4m3) (harg7 : arg7.IsWhole)
  (arg8 : Memref sig .tc .vmem S1x200x128 .f32) (harg8 : arg8.IsWhole) (arg9 : Memref sig .tc .vmem S1x200x128 .f32)
  (harg9 : arg9.IsWhole) (hc0 : cond0_0 i) (hc1 : ¬cond0_1 i) (hc2 : ¬cond0_2 i) (hc3 : ¬cond0_3 i) (hc4 : cond0_4 i)
  (x0 : Vec Ideal S1x200x128 .fp8e4m3) (x1 : Vec Ideal S1x200x64 .bf16) (x2 : Vec Ideal S1x200x128 .f32)
  (x3 : Vec Ideal S64x16384 .bf16) (x4 : Vec Ideal S16 .f32) (x5 : Vec Ideal S1x16384x128 .fp8e4m3)
  (x6 : Vec Ideal S1x16384x128 .fp8e4m3)
    (b : Fin 200) (l : Fin 16384) :
    sout0_A_0 (F := Ideal) c i arg1 harg1 arg2 harg2 arg3 harg3 arg4 harg4 arg5 harg5 arg6 harg6 arg7 harg7 arg8 harg8 arg9 harg9
      scM0_0 (Memref.isWhole_whole _) scM0_1 (Memref.isWhole_whole _) scM0_2 (Memref.isWhole_whole _) scM0_3
      (Memref.isWhole_whole _) scM0_4 (Memref.isWhole_whole _) hc0 hc1 hc2 hc3 hc4 x0 x1 x2 x3 x4 x5 x6 (ix2 b l)
      = sc x0 x1 x2 x3 x5 b l := by
  unfold sout0_A_0 kernelRun0_A
  dsimp only
  refine (loop1_scores Variants.none c none i arg1 harg1 arg2 harg2 arg3 harg3 arg4 harg4 arg5 harg5 arg6 harg6 arg7 harg7 arg8 harg8 arg9 harg9
      scM0_0 (Memref.isWhole_whole _) scM0_1 (Memref.isWhole_whole _) scM0_2 (Memref.isWhole_whole _)
      scM0_3 (Memref.isWhole_whole _) scM0_4 (Memref.isWhole_whole _) hc0 _ _ _ _ _ _ _ k0_t1_loop.trips
    (le_of_eq trips1) b l).trans ?_
  rw [if_pos (by rw [trips1]; exact l.isLt), harg1.read_unread, harg2.read_unread, harg3.read_unread, harg4.read_unread,
    harg6.read_unread]

/-- The first point leaves as the shifts of the rows those of its blocks' scores. -/
theorem first_shift
  (c : Dev nD) (i : grid0.Coords) (arg1 : Memref sig .tc .vmem S1x200x128 .fp8e4m3) (harg1 : arg1.IsWhole)
  (arg2 : Memref sig .tc .vmem S1x200x64 .bf16) (harg2 : arg2.IsWhole) (arg3 : Memref sig .tc .vmem S1x200x128 .f32)
  (harg3 : arg3.IsWhole) (arg4 : Memref sig .tc .vmem S64x16384 .bf16) (harg4 : arg4.IsWhole)
  (arg5 : Memref sig .tc .smem S16 .f32) (harg5 : arg5.IsWhole) (arg6 : Memref sig .tc .vmem S1x16384x128 .fp8e4m3)
  (harg6 : arg6.IsWhole) (arg7 : Memref sig .tc .vmem S1x16384x128 .fp8e4m3) (harg7 : arg7.IsWhole)
  (arg8 : Memref sig .tc .vmem S1x200x128 .f32) (harg8 : arg8.IsWhole) (arg9 : Memref sig .tc .vmem S1x200x128 .f32)
  (harg9 : arg9.IsWhole) (hc0 : cond0_0 i) (hc1 : ¬cond0_1 i) (hc2 : ¬cond0_2 i) (hc3 : ¬cond0_3 i) (hc4 : cond0_4 i)
  (x0 : Vec Ideal S1x200x128 .fp8e4m3) (x1 : Vec Ideal S1x200x64 .bf16) (x2 : Vec Ideal S1x200x128 .f32)
  (x3 : Vec Ideal S64x16384 .bf16) (x4 : Vec Ideal S16 .f32) (x5 : Vec Ideal S1x16384x128 .fp8e4m3)
  (x6 : Vec Ideal S1x16384x128 .fp8e4m3)
    (b : Fin 200) (u : Fin 128) (s : Vec Ideal S200x16384 .f32)
    (hs : ∀ l, s (ix2 b l) = sc x0 x1 x2 x3 x5 b l) :
    sout0_A_2 (F := Ideal) c i arg1 harg1 arg2 harg2 arg3 harg3 arg4 harg4 arg5 harg5 arg6 harg6 arg7 harg7 arg8 harg8 arg9 harg9
      scM0_0 (Memref.isWhole_whole _) scM0_1 (Memref.isWhole_whole _) scM0_2 (Memref.isWhole_whole _) scM0_3
      (Memref.isWhole_whole _) scM0_4 (Memref.isWhole_whole _) hc0 hc1 hc2 hc3 hc4 x0 x1 x2 x3 x4 x5 x6 (ix2 b u)
      = shift s b := by
  unfold sout0_A_2 kernelRun0_A
  dsimp only
  sl_unfold_run_names
  refine (read_whole _ _ _ _ _ b u).trans (shift_of_lanes s _ b u fun u z => ?_)
  refine Iff.trans (iff_of_eq (congrArg (· ≤ z) (congrFun (readCov_over _ _ _ _) (ix2 b u)))) ?_
  refine (loop1_max Variants.none c none i arg1 harg1 arg2 harg2 arg3 harg3 arg4 harg4 arg5 harg5 arg6 harg6 arg7 harg7 arg8 harg8 arg9 harg9
      scM0_0 (Memref.isWhole_whole _) scM0_1 (Memref.isWhole_whole _) scM0_2 (Memref.isWhole_whole _)
      scM0_3 (Memref.isWhole_whole _) scM0_4 (Memref.isWhole_whole _) hc0 _ _ _ _ _ _ _ k0_t1_loop.trips
    (le_of_eq trips1) b u z).trans ?_
  rw [harg1.read_unread, harg2.read_unread, harg3.read_unread, harg4.read_unread, harg6.read_unread]
  refine ⟨fun h l hl => (hs l).trans_le (h.2 l (by rw [trips1]; exact l.isLt) hl), fun h => ⟨?_, fun l _ hl => (hs l).symm.trans_le (h l hl)⟩⟩
  refine le_of_eq_of_le ?_ bot_le
  exact (read_whole _ _ _ _ _ b u).trans (pay1_at b u)

end Cert.Mla

end
-- ==== Proof.Middle.lean ====
module

public import proofs.«01_k».proof.Proof.Ends
public import proofs.«01_k».proof.Proof.First
public import proofs.«01_k».proof.Proof.Loop2
public import proofs.«01_k».proof.Proof.Loop3
public import proofs.«01_k».proof.Proof.KernelIdealFrame
public import Idealize.ShloMosaic.Lib.WritesUnit
public import Idealize.ShloMosaic.Lib.Pipeline.Value
public import Idealize.ShloMosaic.Lib.Pointwise

@[expose] public section

set_option maxRecDepth 16384
set_option maxHeartbeats 4000000

noncomputable section

/-! What a grid point between the first and the last leaves behind and writes. -/

namespace Cert.Mla

open Cert.KernelIdeal Cert.KernelIdeal.Hand Cert.KernelIdeal.Gen Idealize.ShloMosaic Idealize.ShloMosaic.TcCoe Idealize.ShloMosaic.Tactic

/-- A store of a whole block of one row of the results is what is read back. -/
theorem read_block {sg : RefSig} {κ : Kind} {sp : Space} (v : View sg κ sp S1x200x128 .f32)
    (g : v.ty.Contents (Elt Ideal)) (i0 : ∀ a, (![0, 0, 0] : Fin 3 → ℕ) a + S1x200x128.size a ≤ S1x200x128.size a)
    (w : Vec Ideal S1x200x128 .f32) (L : List (View.Piece (Elt Ideal) S1x200x128 .f32)) (b : Fin 200) (u : Fin 128) :
    v.read (Elt Ideal) (v.writes (Elt Ideal) g (⟨Rect.unit ![0, 0, 0] S1x200x128.size i0, w⟩ :: L)) (ix3 0 b u)
      = w (ix3 0 b u) :=
  View.read_writes_cons_unit_of_mem v g i0 w L (ix3 0 b u) (ix3 0 b u) rfl
    (by intro a; fin_cases a <;> exact (Nat.zero_add _).symm)

/-- The one scale read from the list of scales at the place a point looks up. -/
theorem read_scale (arg5 : Memref sig .tc .smem S16 .f32) (harg5 : arg5.IsWhole) (x4 : Vec Ideal S16 .f32)
    (o : Fin 1 → ℕ) (k : Fin 16) (ho : o = ![k.val]) (h : ∀ a, o a + S1.size a ≤ S16.size a) (f : 0 < S1.numel) :
    arg5.view.readAt (Elt Ideal) (Rect.unit (s := S16) o S1.size h).toLoadRect (harg5.unread x4) (Shape.Idx.first f) = x4 (ix1 k) := by
  subst ho
  rw [View.readAt_eq_ld, harg5.read_unread]
  refine congrArg x4 (funext fun a => ?_)
  fin_cases a
  rfl

/-- A middle point leaves in the score buffer the scores of its blocks. -/
theorem middle_scores
  (c : Dev nD) (i : grid0.Coords) (arg1 : Memref sig .tc .vmem S1x200x128 .fp8e4m3) (harg1 : arg1.IsWhole)
  (arg2 : Memref sig .tc .vmem S1x200x64 .bf16) (harg2 : arg2.IsWhole) (arg3 : Memref sig .tc .vmem S1x200x128 .f32)
  (harg3 : arg3.IsWhole) (arg4 : Memref sig .tc .vmem S64x16384 .bf16) (harg4 : arg4.IsWhole)
  (arg5 : Memref sig .tc .smem S16 .f32) (harg5 : arg5.IsWhole) (arg6 : Memref sig .tc .vmem S1x16384x128 .fp8e4m3)
  (harg6 : arg6.IsWhole) (arg7 : Memref sig .tc .vmem S1x16384x128 .fp8e4m3) (harg7 : arg7.IsWhole)
  (arg8 : Memref sig .tc .vmem S1x200x128 .f32) (harg8 : arg8.IsWhole) (arg9 : Memref sig .tc .vmem S1x200x128 .f32)
  (harg9 : arg9.IsWhole) (hc0 : ¬cond0_0 i) (hc1 : cond0_1 i) (hc2 : ¬cond0_2 i) (hc3 : cond0_3 i) (hc4 : cond0_4 i)
  (x0 : Vec Ideal S1x200x128 .fp8e4m3) (x1 : Vec Ideal S1x200x64 .bf16) (x2 : Vec Ideal S1x200x128 .f32)
  (x3 : Vec Ideal S64x16384 .bf16) (x4 : Vec Ideal S16 .f32) (x5 : Vec Ideal S1x16384x128 .fp8e4m3)
  (x6 : Vec Ideal S1x16384x128 .fp8e4m3) (xs0 : Vec Ideal S200x16384 .f32) (xs2 : Vec Ideal S200x128 .f32)
    (b : Fin 200) (l : Fin 16384) :
    sout0_B_0 (F := Ideal) c i arg1 harg1 arg2 harg2 arg3 harg3 arg4 harg4 arg5 harg5 arg6 harg6 arg7 harg7 arg8 harg8 arg9 harg9
      scM0_0 (Memref.isWhole_whole _) scM0_1 (Memref.isWhole_whole _) scM0_2 (Memref.isWhole_whole _) scM0_3
      (Memref.isWhole_whole _) scM0_4 (Memref.isWhole_whole _) hc0 hc1 hc2 hc3 hc4 x0 x1 x2 x3 x4 x5 x6 xs0 xs2 (ix2 b l)
      = sc x0 x1 x2 x3 x5 b l := by
  unfold sout0_B_0 kernelRun0_B
  dsimp only
  refine (loop2_scores Variants.none c none i arg1 harg1 arg2 harg2 arg3 harg3 arg4 harg4 arg5 harg5 arg6 harg6 arg7 harg7 arg8 harg8 arg9 harg9
      scM0_0 (Memref.isWhole_whole _) scM0_1 (Memref.isWhole_whole _) scM0_2 (Memref.isWhole_whole _)
      scM0_3 (Memref.isWhole_whole _) scM0_4 (Memref.isWhole_whole _) hc1 _ _ _ _ _ _ _ _ _ _ _ k0_t2_loop.trips
    (le_of_eq trips2) b l).trans ?_
  rw [if_pos (by rw [trips2]; exact l.isLt), harg1.read_unread, harg2.read_unread, harg3.read_unread, harg4.read_unread,
    harg6.read_unread]

/-- A middle point leaves as the shifts of the rows those of its blocks' scores. -/
theorem middle_shift
  (c : Dev nD) (i : grid0.Coords) (arg1 : Memref sig .tc .vmem S1x200x128 .fp8e4m3) (harg1 : arg1.IsWhole)
  (arg2 : Memref sig .tc .vmem S1x200x64 .bf16) (harg2 : arg2.IsWhole) (arg3 : Memref sig .tc .vmem S1x200x128 .f32)
  (harg3 : arg3.IsWhole) (arg4 : Memref sig .tc .vmem S64x16384 .bf16) (harg4 : arg4.IsWhole)
  (arg5 : Memref sig .tc .smem S16 .f32) (harg5 : arg5.IsWhole) (arg6 : Memref sig .tc .vmem S1x16384x128 .fp8e4m3)
  (harg6 : arg6.IsWhole) (arg7 : Memref sig .tc .vmem S1x16384x128 .fp8e4m3) (harg7 : arg7.IsWhole)
  (arg8 : Memref sig .tc .vmem S1x200x128 .f32) (harg8 : arg8.IsWhole) (arg9 : Memref sig .tc .vmem S1x200x128 .f32)
  (harg9 : arg9.IsWhole) (hc0 : ¬cond0_0 i) (hc1 : cond0_1 i) (hc2 : ¬cond0_2 i) (hc3 : cond0_3 i) (hc4 : cond0_4 i)
  (x0 : Vec Ideal S1x200x128 .fp8e4m3) (x1 : Vec Ideal S1x200x64 .bf16) (x2 : Vec Ideal S1x200x128 .f32)
  (x3 : Vec Ideal S64x16384 .bf16) (x4 : Vec Ideal S16 .f32) (x5 : Vec Ideal S1x16384x128 .fp8e4m3)
  (x6 : Vec Ideal S1x16384x128 .fp8e4m3) (xs0 : Vec Ideal S200x16384 .f32) (xs2 : Vec Ideal S200x128 .f32)
    (b : Fin 200) (u : Fin 128) (s : Vec Ideal S200x16384 .f32)
    (hs : ∀ l, s (ix2 b l) = sc x0 x1 x2 x3 x5 b l) :
    sout0_B_2 (F := Ideal) c i arg1 harg1 arg2 harg2 arg3 harg3 arg4 harg4 arg5 harg5 arg6 harg6 arg7 harg7 arg8 harg8 arg9 harg9
      scM0_0 (Memref.isWhole_whole _) scM0_1 (Memref.isWhole_whole _) scM0_2 (Memref.isWhole_whole _) scM0_3
      (Memref.isWhole_whole _) scM0_4 (Memref.isWhole_whole _) hc0 hc1 hc2 hc3 hc4 x0 x1 x2 x3 x4 x5 x6 xs0 xs2 (ix2 b u)
      = shift s b := by
  unfold sout0_B_2 kernelRun0_B
  dsimp only
  sl_unfold_run_names
  refine (read_whole _ _ _ _ _ b u).trans (shift_of_lanes s _ b u fun u z => ?_)
  refine Iff.trans (iff_of_eq (congrArg (· ≤ z) (congrFun (readCov_over _ _ _ _) (ix2 b u)))) ?_
  refine (loop2_max Variants.none c none i arg1 harg1 arg2 harg2 arg3 harg3 arg4 harg4 arg5 harg5 arg6 harg6 arg7 harg7 arg8 harg8 arg9 harg9
      scM0_0 (Memref.isWhole_whole _) scM0_1 (Memref.isWhole_whole _) scM0_2 (Memref.isWhole_whole _)
      scM0_3 (Memref.isWhole_whole _) scM0_4 (Memref.isWhole_whole _) hc1 _ _ _ _ _ _ _ _ _ _ _ k0_t2_loop.trips
    (le_of_eq trips2) b u z).trans ?_
  rw [harg1.read_unread, harg2.read_unread, harg3.read_unread, harg4.read_unread, harg6.read_unread]
  refine ⟨fun h l hl => (hs l).trans_le (h.2 l (by rw [trips2]; exact l.isLt) hl), fun h => ⟨?_, fun l _ hl => (hs l).symm.trans_le (h l hl)⟩⟩
  refine le_of_eq_of_le ?_ bot_le
  exact (read_whole _ _ _ _ _ b u).trans (pay8_at b u)

/-- A middle point writes the attention output of the scores and shifts that the point before left. -/
theorem middle_out
  (c : Dev nD) (i : grid0.Coords) (arg1 : Memref sig .tc .vmem S1x200x128 .fp8e4m3) (harg1 : arg1.IsWhole)
  (arg2 : Memref sig .tc .vmem S1x200x64 .bf16) (harg2 : arg2.IsWhole) (arg3 : Memref sig .tc .vmem S1x200x128 .f32)
  (harg3 : arg3.IsWhole) (arg4 : Memref sig .tc .vmem S64x16384 .bf16) (harg4 : arg4.IsWhole)
  (arg5 : Memref sig .tc .smem S16 .f32) (harg5 : arg5.IsWhole) (arg6 : Memref sig .tc .vmem S1x16384x128 .fp8e4m3)
  (harg6 : arg6.IsWhole) (arg7 : Memref sig .tc .vmem S1x16384x128 .fp8e4m3) (harg7 : arg7.IsWhole)
  (arg8 : Memref sig .tc .vmem S1x200x128 .f32) (harg8 : arg8.IsWhole) (arg9 : Memref sig .tc .vmem S1x200x128 .f32)
  (harg9 : arg9.IsWhole) (hc0 : ¬cond0_0 i) (hc1 : cond0_1 i) (hc2 : ¬cond0_2 i) (hc3 : cond0_3 i) (hc4 : cond0_4 i)
  (x0 : Vec Ideal S1x200x128 .fp8e4m3) (x1 : Vec Ideal S1x200x64 .bf16) (x2 : Vec Ideal S1x200x128 .f32)
  (x3 : Vec Ideal S64x16384 .bf16) (x4 : Vec Ideal S16 .f32) (x5 : Vec Ideal S1x16384x128 .fp8e4m3)
  (x6 : Vec Ideal S1x16384x128 .fp8e4m3) (xs0 : Vec Ideal S200x16384 .f32) (xs2 : Vec Ideal S200x128 .f32)
    (b : Fin 200) (d : Fin 128) (k : Fin 16) (hk : k0_off9 i = ![k.val]) :
    out0_B_7 (F := Ideal) c i arg1 harg1 arg2 harg2 arg3 harg3 arg4 harg4 arg5 harg5 arg6 harg6 arg7 harg7 arg8 harg8 arg9 harg9
      scM0_0 (Memref.isWhole_whole _) scM0_1 (Memref.isWhole_whole _) scM0_2 (Memref.isWhole_whole _) scM0_3
      (Memref.isWhole_whole _) scM0_4 (Memref.isWhole_whole _) hc0 hc1 hc2 hc3 hc4 x0 x1 x2 x3 x4 x5 x6 xs0 xs2 (ix3 0 b d)
      = cellO xs0 xs2 x6 (x4 (ix1 k)) b d := by
  unfold out0_B_7 kernelRun0_B
  dsimp only
  sl_unfold_run_names
  refine (read_block _ _ _ _ _ b d).trans ?_
  rw [read_scale arg5 harg5 x4 _ k hk]
  refine out_of_sums xs0 xs2 x6 _ _ _ b d (fun u => ?_) ?_
  · refine (congrFun (readCov_over _ _ _ _) (ix2 b u)).trans ?_
    refine (loop2_sum Variants.none c none i arg1 harg1 arg2 harg2 arg3 harg3 arg4 harg4 arg5 harg5 arg6 harg6 arg7 harg7 arg8 harg8 arg9 harg9
      scM0_0 (Memref.isWhole_whole _) scM0_1 (Memref.isWhole_whole _) scM0_2 (Memref.isWhole_whole _)
      scM0_3 (Memref.isWhole_whole _) scM0_4 (Memref.isWhole_whole _) hc1 _ _ _ _ _ _ _ _ _ _ _ b u).trans ?_
    rw [(Memref.isWhole_whole cc0_scratch0).read_unread, (Memref.isWhole_whole cc0_scratch2).read_unread]
    exact (congrArg (· + _) ((read_whole _ _ _ _ _ b u).trans (pay9_at b u))).trans (zero_add _)
  · refine (congrFun (readCov_over _ _ _ _) (ix2 b d)).trans ?_
    refine (loop2_acc Variants.none c none i arg1 harg1 arg2 harg2 arg3 harg3 arg4 harg4 arg5 harg5 arg6 harg6 arg7 harg7 arg8 harg8 arg9 harg9
      scM0_0 (Memref.isWhole_whole _) scM0_1 (Memref.isWhole_whole _) scM0_2 (Memref.isWhole_whole _)
      scM0_3 (Memref.isWhole_whole _) scM0_4 (Memref.isWhole_whole _) hc1 _ _ _ _ _ _ _ _ _ _ _ b d).trans ?_
    rw [(Memref.isWhole_whole cc0_scratch0).read_unread, (Memref.isWhole_whole cc0_scratch2).read_unread, harg7.read_unread]
    exact (congrArg (· + _) ((read_whole _ _ _ _ _ b d).trans (pay10_at b d))).trans (zero_add _)

/-- A middle point writes the logarithm of the sum of exponentials of the scores and shifts that the point before left. -/
theorem middle_lse
  (c : Dev nD) (i : grid0.Coords) (arg1 : Memref sig .tc .vmem S1x200x128 .fp8e4m3) (harg1 : arg1.IsWhole)
  (arg2 : Memref sig .tc .vmem S1x200x64 .bf16) (harg2 : arg2.IsWhole) (arg3 : Memref sig .tc .vmem S1x200x128 .f32)
  (harg3 : arg3.IsWhole) (arg4 : Memref sig .tc .vmem S64x16384 .bf16) (harg4 : arg4.IsWhole)
  (arg5 : Memref sig .tc .smem S16 .f32) (harg5 : arg5.IsWhole) (arg6 : Memref sig .tc .vmem S1x16384x128 .fp8e4m3)
  (harg6 : arg6.IsWhole) (arg7 : Memref sig .tc .vmem S1x16384x128 .fp8e4m3) (harg7 : arg7.IsWhole)
  (arg8 : Memref sig .tc .vmem S1x200x128 .f32) (harg8 : arg8.IsWhole) (arg9 : Memref sig .tc .vmem S1x200x128 .f32)
  (harg9 : arg9.IsWhole) (hc0 : ¬cond0_0 i) (hc1 : cond0_1 i) (hc2 : ¬cond0_2 i) (hc3 : cond0_3 i) (hc4 : cond0_4 i)
  (x0 : Vec Ideal S1x200x128 .fp8e4m3) (x1 : Vec Ideal S1x200x64 .bf16) (x2 : Vec Ideal S1x200x128 .f32)
  (x3 : Vec Ideal S64x16384 .bf16) (x4 : Vec Ideal S16 .f32) (x5 : Vec Ideal S1x16384x128 .fp8e4m3)
  (x6 : Vec Ideal S1x16384x128 .fp8e4m3) (xs0 : Vec Ideal S200x16384 .f32) (xs2 : Vec Ideal S200x128 .f32)
    (b : Fin 200) (d : Fin 128) :
    out0_B_8 (F := Ideal) c i arg1 harg1 arg2 harg2 arg3 harg3 arg4 harg4 arg5 harg5 arg6 harg6 arg7 harg7 arg8 harg8 arg9 harg9
      scM0_0 (Memref.isWhole_whole _) scM0_1 (Memref.isWhole_whole _) scM0_2 (Memref.isWhole_whole _) scM0_3
      (Memref.isWhole_whole _) scM0_4 (Memref.isWhole_whole _) hc0 hc1 hc2 hc3 hc4 x0 x1 x2 x3 x4 x5 x6 xs0 xs2 (ix3 0 b d)
      = cellL xs0 xs2 b d := by
  unfold out0_B_8 kernelRun0_B
  dsimp only
  sl_unfold_run_names
  refine (read_block _ _ _ _ _ b d).trans ?_
  rw [View.readAt_eq_ld, (Memref.isWhole_whole cc0_scratch2).read_unread,
    View.ld_unit_zero (funext fun a => by fin_cases a <;> rfl)]
  refine lse_of_sums xs0 xs2 _ b d (fun u => ?_)
  refine (congrFun (readCov_over _ _ _ _) (ix2 b u)).trans ?_
  refine (loop2_sum Variants.none c none i arg1 harg1 arg2 harg2 arg3 harg3 arg4 harg4 arg5 harg5 arg6 harg6 arg7 harg7 arg8 harg8 arg9 harg9
      scM0_0 (Memref.isWhole_whole _) scM0_1 (Memref.isWhole_whole _) scM0_2 (Memref.isWhole_whole _)
      scM0_3 (Memref.isWhole_whole _) scM0_4 (Memref.isWhole_whole _) hc1 _ _ _ _ _ _ _ _ _ _ _ b u).trans ?_
  rw [(Memref.isWhole_whole cc0_scratch0).read_unread, (Memref.isWhole_whole cc0_scratch2).read_unread]
  exact (congrArg (· + _) ((read_whole _ _ _ _ _ b u).trans (pay9_at b u))).trans (zero_add _)

end Cert.Mla

end
-- ==== Proof.Last.lean ====
module

public import proofs.«01_k».proof.Proof.Ends
public import proofs.«01_k».proof.Proof.Middle
public import proofs.«01_k».proof.Proof.Loop3
public import proofs.«01_k».proof.Proof.KernelIdealFrame
public import Idealize.ShloMosaic.Lib.WritesUnit
public import Idealize.ShloMosaic.Lib.Pipeline.Value
public import Idealize.ShloMosaic.Lib.Pointwise

@[expose] public section

set_option maxRecDepth 16384
set_option maxHeartbeats 4000000

noncomputable section

/-! What the last grid point writes. -/

namespace Cert.Mla

open Cert.KernelIdeal Cert.KernelIdeal.Hand Cert.KernelIdeal.Gen Idealize.ShloMosaic Idealize.ShloMosaic.TcCoe Idealize.ShloMosaic.Tactic

/-- The last point writes the attention output of the scores and shifts that the point before left. -/
theorem last_out
  (c : Dev nD) (i : grid0.Coords) (arg1 : Memref sig .tc .vmem S1x200x128 .fp8e4m3) (harg1 : arg1.IsWhole)
  (arg2 : Memref sig .tc .vmem S1x200x64 .bf16) (harg2 : arg2.IsWhole) (arg3 : Memref sig .tc .vmem S1x200x128 .f32)
  (harg3 : arg3.IsWhole) (arg4 : Memref sig .tc .vmem S64x16384 .bf16) (harg4 : arg4.IsWhole)
  (arg5 : Memref sig .tc .smem S16 .f32) (harg5 : arg5.IsWhole) (arg6 : Memref sig .tc .vmem S1x16384x128 .fp8e4m3)
  (harg6 : arg6.IsWhole) (arg7 : Memref sig .tc .vmem S1x16384x128 .fp8e4m3) (harg7 : arg7.IsWhole)
  (arg8 : Memref sig .tc .vmem S1x200x128 .f32) (harg8 : arg8.IsWhole) (arg9 : Memref sig .tc .vmem S1x200x128 .f32)
  (harg9 : arg9.IsWhole) (hc0 : ¬cond0_0 i) (hc1 : ¬cond0_1 i) (hc2 : cond0_2 i) (hc3 : cond0_3 i) (hc4 : ¬cond0_4 i)
  (x0 : Vec Ideal S1x200x128 .fp8e4m3) (x1 : Vec Ideal S1x200x64 .bf16) (x2 : Vec Ideal S1x200x128 .f32)
  (x3 : Vec Ideal S64x16384 .bf16) (x4 : Vec Ideal S16 .f32) (x5 : Vec Ideal S1x16384x128 .fp8e4m3)
  (x6 : Vec Ideal S1x16384x128 .fp8e4m3) (xs0 : Vec Ideal S200x16384 .f32) (xs2 : Vec Ideal S200x128 .f32)
    (b : Fin 200) (d : Fin 128) (k : Fin 16) (hk : k0_off9 i = ![k.val]) :
    out0_C_7 (F := Ideal) c i arg1 harg1 arg2 harg2 arg3 harg3 arg4 harg4 arg5 harg5 arg6 harg6 arg7 harg7 arg8 harg8 arg9 harg9
      scM0_0 (Memref.isWhole_whole _) scM0_1 (Memref.isWhole_whole _) scM0_2 (Memref.isWhole_whole _) scM0_3
      (Memref.isWhole_whole _) scM0_4 (Memref.isWhole_whole _) hc0 hc1 hc2 hc3 hc4 x0 x1 x2 x3 x4 x5 x6 xs0 xs2 (ix3 0 b d)
      = cellO xs0 xs2 x6 (x4 (ix1 k)) b d := by
  unfold out0_C_7 kernelRun0_C
  dsimp only
  sl_unfold_run_names
  refine (read_block _ _ _ _ _ b d).trans ?_
  rw [read_scale arg5 harg5 x4 _ k hk]
  refine out_of_sums xs0 xs2 x6 _ _ _ b d (fun u => ?_) ?_
  · refine (congrFun (readCov_over _ _ _ _) (ix2 b u)).trans ?_
    refine (loop3_sum Variants.none c none i arg1 harg1 arg2 harg2 arg3 harg3 arg4 harg4 arg5 harg5 arg6 harg6 arg7 harg7 arg8 harg8 arg9 harg9
      scM0_0 (Memref.isWhole_whole _) scM0_1 (Memref.isWhole_whole _) scM0_2 (Memref.isWhole_whole _)
      scM0_3 (Memref.isWhole_whole _) scM0_4 (Memref.isWhole_whole _) hc2 _ _ _ _ _ b u).trans ?_
    rw [(Memref.isWhole_whole cc0_scratch0).read_unread, (Memref.isWhole_whole cc0_scratch2).read_unread]
    exact (congrArg (· + _) ((read_whole _ _ _ _ _ b u).trans (pay14_at b u))).trans (zero_add _)
  · refine (congrFun (readCov_over _ _ _ _) (ix2 b d)).trans ?_
    refine (loop3_acc Variants.none c none i arg1 harg1 arg2 harg2 arg3 harg3 arg4 harg4 arg5 harg5 arg6 harg6 arg7 harg7 arg8 harg8 arg9 harg9
      scM0_0 (Memref.isWhole_whole _) scM0_1 (Memref.isWhole_whole _) scM0_2 (Memref.isWhole_whole _)
      scM0_3 (Memref.isWhole_whole _) scM0_4 (Memref.isWhole_whole _) hc2 _ _ _ _ _ b d).trans ?_
    rw [(Memref.isWhole_whole cc0_scratch0).read_unread, (Memref.isWhole_whole cc0_scratch2).read_unread, harg7.read_unread]
    exact (congrArg (· + _) ((read_whole _ _ _ _ _ b d).trans (pay15_at b d))).trans (zero_add _)

/-- The last point writes the logarithm of the sum of exponentials of the scores and shifts that the point before left. -/
theorem last_lse
  (c : Dev nD) (i : grid0.Coords) (arg1 : Memref sig .tc .vmem S1x200x128 .fp8e4m3) (harg1 : arg1.IsWhole)
  (arg2 : Memref sig .tc .vmem S1x200x64 .bf16) (harg2 : arg2.IsWhole) (arg3 : Memref sig .tc .vmem S1x200x128 .f32)
  (harg3 : arg3.IsWhole) (arg4 : Memref sig .tc .vmem S64x16384 .bf16) (harg4 : arg4.IsWhole)
  (arg5 : Memref sig .tc .smem S16 .f32) (harg5 : arg5.IsWhole) (arg6 : Memref sig .tc .vmem S1x16384x128 .fp8e4m3)
  (harg6 : arg6.IsWhole) (arg7 : Memref sig .tc .vmem S1x16384x128 .fp8e4m3) (harg7 : arg7.IsWhole)
  (arg8 : Memref sig .tc .vmem S1x200x128 .f32) (harg8 : arg8.IsWhole) (arg9 : Memref sig .tc .vmem S1x200x128 .f32)
  (harg9 : arg9.IsWhole) (hc0 : ¬cond0_0 i) (hc1 : ¬cond0_1 i) (hc2 : cond0_2 i) (hc3 : cond0_3 i) (hc4 : ¬cond0_4 i)
  (x0 : Vec Ideal S1x200x128 .fp8e4m3) (x1 : Vec Ideal S1x200x64 .bf16) (x2 : Vec Ideal S1x200x128 .f32)
  (x3 : Vec Ideal S64x16384 .bf16) (x4 : Vec Ideal S16 .f32) (x5 : Vec Ideal S1x16384x128 .fp8e4m3)
  (x6 : Vec Ideal S1x16384x128 .fp8e4m3) (xs0 : Vec Ideal S200x16384 .f32) (xs2 : Vec Ideal S200x128 .f32)
    (b : Fin 200) (d : Fin 128) :
    out0_C_8 (F := Ideal) c i arg1 harg1 arg2 harg2 arg3 harg3 arg4 harg4 arg5 harg5 arg6 harg6 arg7 harg7 arg8 harg8 arg9 harg9
      scM0_0 (Memref.isWhole_whole _) scM0_1 (Memref.isWhole_whole _) scM0_2 (Memref.isWhole_whole _) scM0_3
      (Memref.isWhole_whole _) scM0_4 (Memref.isWhole_whole _) hc0 hc1 hc2 hc3 hc4 x0 x1 x2 x3 x4 x5 x6 xs0 xs2 (ix3 0 b d)
      = cellL xs0 xs2 b d := by
  unfold out0_C_8 kernelRun0_C
  dsimp only
  sl_unfold_run_names
  refine (read_block _ _ _ _ _ b d).trans ?_
  rw [View.readAt_eq_ld, (Memref.isWhole_whole cc0_scratch2).read_unread,
    View.ld_unit_zero (funext fun a => by fin_cases a <;> rfl)]
  refine lse_of_sums xs0 xs2 _ b d (fun u => ?_)
  refine (congrFun (readCov_over _ _ _ _) (ix2 b u)).trans ?_
  refine (loop3_sum Variants.none c none i arg1 harg1 arg2 harg2 arg3 harg3 arg4 harg4 arg5 harg5 arg6 harg6 arg7 harg7 arg8 harg8 arg9 harg9
      scM0_0 (Memref.isWhole_whole _) scM0_1 (Memref.isWhole_whole _) scM0_2 (Memref.isWhole_whole _)
      scM0_3 (Memref.isWhole_whole _) scM0_4 (Memref.isWhole_whole _) hc2 _ _ _ _ _ b u).trans ?_
  rw [(Memref.isWhole_whole cc0_scratch0).read_unread, (Memref.isWhole_whole cc0_scratch2).read_unread]
  exact (congrArg (· + _) ((read_whole _ _ _ _ _ b u).trans (pay14_at b u))).trans (zero_add _)

end Cert.Mla

end
-- ==== Proof.Points.lean ====
module

public import proofs.«01_k».proof.Proof.Reads
public import proofs.«01_k».proof.Proof.Spec
public import proofs.«01_k».proof.Proof.Last
public import Idealize.ShloMosaic.Lib.Pipeline.ValueKit
public import Idealize.ShloMosaic.Lib.Pointwise

@[expose] public section

set_option maxRecDepth 16384
set_option maxHeartbeats 4000000

noncomputable section

/-! What each grid point leaves and writes, in terms of the arguments. -/

namespace Cert.Mla

open Cert.KernelIdeal Cert.KernelIdeal.Hand Cert.KernelIdeal.Gen Idealize.ShloMosaic Idealize.ShloMosaic.TcCoe Idealize.ShloMosaic.Tactic

variable (m : (ℓ : Loc nD τ sig) → Buf (Elt Ideal) ℓ) (c : Dev nD)

/-- Head `h`'s scores from the memory at launch. -/
abbrev scoresOf (h : Fin 16) : Vec Ideal S200x16384 .f32 :=
  scores (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg7)) h

/-- Head `h`'s shifts from the memory at launch. -/
abbrev shiftsOf (h : Fin 16) : Vec Ideal S200x128 .f32 :=
  shifts (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg7)) h

/-- The scores formed from point `t`'s blocks are those of its head. -/
theorem sc_blocks (t : Fin cfg0.N) (b : Fin 200) (l : Fin 16384) :
    sc (iblk m c 0 t) (iblk m c 1 t) (iblk m c 2 t) (iblk m c 3 t) (iblk m c 5 t) b l = scoresOf m c (cur t) (ix2 b l) := by
  unfold sc scoresOf scores score
  rw [blk2 m c t b]
  refine congrArg₂ (· + ·) (congrArg (· * _) (Finset.sum_congr rfl fun d _ => ?_)) (Finset.sum_congr rfl fun r _ => ?_)
  · rw [blk0 m c t b d, blk5 m c t l d]; rfl
  · rw [blk1 m c t b r, blk3 m c t r l]; rfl

/-- Every point before the last leaves its head's scores. -/
theorem left_scores (t : Fin cfg0.N) (ht : t.val < 16) : (outsAt0 m c t.val t.isLt).2.2.1 = scoresOf m c (cur t) := by
  funext i
  obtain ⟨b, l, rfl⟩ : ∃ b l, i = ix2 b l := ⟨i 0, i 1, eq_ix2 i⟩
  by_cases h0 : t.val = 0
  · rw [outsAt0_A m c t (by omega) (by omega) (by omega) (by omega) ht]
    exact (first_scores c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t)
      ((hcond0_0 t).mpr (by omega)) (fun g => absurd ((hcond0_1 t).mp g) (by omega))
      (fun g => absurd ((hcond0_2 t).mp g) (by omega)) (fun g => absurd ((hcond0_3 t).mp g) (by omega))
      ((hcond0_4 t).mpr (by omega)) (iblk m c 0 t) (iblk m c 1 t) (iblk m c 2 t) (iblk m c 3 t)
      (iblk m c 4 t) (iblk m c 5 t) (iblk m c 6 t) b l).trans (sc_blocks m c t b l)
  · rw [outsAt0_B m c t (by omega) (by omega) (by omega) (by omega) ht]
    exact (middle_scores c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t)
      (fun g => absurd ((hcond0_0 t).mp g) (by omega)) ((hcond0_1 t).mpr (by omega))
      (fun g => absurd ((hcond0_2 t).mp g) (by omega)) ((hcond0_3 t).mpr (by omega))
      ((hcond0_4 t).mpr (by omega)) (iblk m c 0 t) (iblk m c 1 t) (iblk m c 2 t) (iblk m c 3 t)
      (iblk m c 4 t) (iblk m c 5 t) (iblk m c 6 t)
      (outsAt0 m c (t.val - 1) (Nat.lt_of_le_of_lt (Nat.sub_le _ _) t.isLt)).2.2.1
      (outsAt0 m c (t.val - 1) (Nat.lt_of_le_of_lt (Nat.sub_le _ _) t.isLt)).2.2.2 b l).trans (sc_blocks m c t b l)

/-- Every point before the last leaves its head's shifts. -/
theorem left_shifts (t : Fin cfg0.N) (ht : t.val < 16) : (outsAt0 m c t.val t.isLt).2.2.2 = shiftsOf m c (cur t) := by
  funext i
  obtain ⟨b, u, rfl⟩ : ∃ b u, i = ix2 b u := ⟨i 0, i 1, eq_ix2 i⟩
  by_cases h0 : t.val = 0
  · rw [outsAt0_A m c t (by omega) (by omega) (by omega) (by omega) ht]
    exact first_shift c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t)
      ((hcond0_0 t).mpr (by omega)) (fun g => absurd ((hcond0_1 t).mp g) (by omega))
      (fun g => absurd ((hcond0_2 t).mp g) (by omega)) (fun g => absurd ((hcond0_3 t).mp g) (by omega))
      ((hcond0_4 t).mpr (by omega)) (iblk m c 0 t) (iblk m c 1 t) (iblk m c 2 t) (iblk m c 3 t)
      (iblk m c 4 t) (iblk m c 5 t) (iblk m c 6 t) b u (scoresOf m c (cur t)) fun l => (sc_blocks m c t b l).symm
  · rw [outsAt0_B m c t (by omega) (by omega) (by omega) (by omega) ht]
    exact middle_shift c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t)
      (fun g => absurd ((hcond0_0 t).mp g) (by omega)) ((hcond0_1 t).mpr (by omega))
      (fun g => absurd ((hcond0_2 t).mp g) (by omega)) ((hcond0_3 t).mpr (by omega))
      ((hcond0_4 t).mpr (by omega)) (iblk m c 0 t) (iblk m c 1 t) (iblk m c 2 t) (iblk m c 3 t)
      (iblk m c 4 t) (iblk m c 5 t) (iblk m c 6 t)
      (outsAt0 m c (t.val - 1) (Nat.lt_of_le_of_lt (Nat.sub_le _ _) t.isLt)).2.2.1
      (outsAt0 m c (t.val - 1) (Nat.lt_of_le_of_lt (Nat.sub_le _ _) t.isLt)).2.2.2 b u (scoresOf m c (cur t)) fun l => (sc_blocks m c t b l).symm

/-- The head whose scores the point before formed is the head whose results this point writes. -/
theorem cur_before (t : Fin cfg0.N) (h : t.val - 1 < cfg0.N) : cur ⟨t.val - 1, h⟩ = prev t := by
  have := Nat.lt_of_lt_of_eq t.isLt N_0
  refine Fin.ext ?_
  show min (t.val - 1) 15 = t.val - 1
  omega

/-- The value block of point `t` is that of the head before. -/
theorem vals_block (t : Fin cfg0.N) : (iblk m c 6 t : Vec Ideal S1x16384x128 .fp8e4m3)
    = vals (m ((c : Thread nD τ).loc main_arg5)) (prev t) := by
  funext i
  obtain ⟨z, l, d, rfl⟩ : ∃ z l d, i = ix3 z l d := ⟨i 0, i 1, i 2, eq_ix3 i⟩
  obtain rfl : z = 0 := Subsingleton.elim _ _
  exact blk6 m c t l d

/-- From the second point on, a point writes the attention output of the head before. -/
theorem written_out (t : Fin cfg0.N) (ht : 1 ≤ t.val) (b : Fin 200) (d : Fin 128) :
    (outsAt0 m c t.val t.isLt).1 (ix3 0 b d)
      = cellO (scoresOf m c (prev t)) (shiftsOf m c (prev t)) (vals (m ((c : Thread nD τ).loc main_arg5)) (prev t))
          (m ((c : Thread nD τ).loc main_arg6) (ix1 (prev t))) b d := by
  have hN := Nat.lt_of_lt_of_eq t.isLt N_0
  have hp : t.val - 1 < cfg0.N := Nat.lt_of_le_of_lt (Nat.sub_le _ _) t.isLt
  have e0 : (outsAt0 m c (t.val - 1) hp).2.2.1 = _ := left_scores m c ⟨t.val - 1, hp⟩ (by show t.val - 1 < 16; omega)
  have e2 : (outsAt0 m c (t.val - 1) hp).2.2.2 = _ := left_shifts m c ⟨t.val - 1, hp⟩ (by show t.val - 1 < 16; omega)
  rw [cur_before t hp] at e0 e2
  rw [← e0, ← e2, ← vals_block m c t, ← blk4 m c t (prev t)]
  by_cases h : t.val < 16
  · rw [outsAt0_B m c t (by omega) (by omega) (by omega) ht h]
    exact middle_out c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t)
      (fun g => absurd ((hcond0_0 t).mp g) (by omega)) ((hcond0_1 t).mpr (by omega))
      (fun g => absurd ((hcond0_2 t).mp g) (by omega)) ((hcond0_3 t).mpr (by omega))
      ((hcond0_4 t).mpr (by omega)) (iblk m c 0 t) (iblk m c 1 t) (iblk m c 2 t) (iblk m c 3 t)
      (iblk m c 4 t) (iblk m c 5 t) (iblk m c 6 t)
      (outsAt0 m c (t.val - 1) (Nat.lt_of_le_of_lt (Nat.sub_le _ _) t.isLt)).2.2.1
      (outsAt0 m c (t.val - 1) (Nat.lt_of_le_of_lt (Nat.sub_le _ _) t.isLt)).2.2.2 b d (prev t) (look t ht)
  · rw [outsAt0_C m c t (by omega) (by omega) (by omega) ht h]
    exact last_out c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t)
      (fun g => absurd ((hcond0_0 t).mp g) (by omega)) (fun g => absurd ((hcond0_1 t).mp g) (by omega))
      ((hcond0_2 t).mpr (by omega)) ((hcond0_3 t).mpr (by omega))
      (fun g => absurd ((hcond0_4 t).mp g) (by omega)) (iblk m c 0 t) (iblk m c 1 t) (iblk m c 2 t)
      (iblk m c 3 t) (iblk m c 4 t) (iblk m c 5 t) (iblk m c 6 t)
      (outsAt0 m c (t.val - 1) (Nat.lt_of_le_of_lt (Nat.sub_le _ _) t.isLt)).2.2.1
      (outsAt0 m c (t.val - 1) (Nat.lt_of_le_of_lt (Nat.sub_le _ _) t.isLt)).2.2.2 b d (prev t) (look t ht)

/-- From the second point on, a point writes the logarithm of the sum of exponentials of the head before. -/
theorem written_lse (t : Fin cfg0.N) (ht : 1 ≤ t.val) (b : Fin 200) (d : Fin 128) :
    (outsAt0 m c t.val t.isLt).2.1 (ix3 0 b d) = cellL (scoresOf m c (prev t)) (shiftsOf m c (prev t)) b d := by
  have hN := Nat.lt_of_lt_of_eq t.isLt N_0
  have hp : t.val - 1 < cfg0.N := Nat.lt_of_le_of_lt (Nat.sub_le _ _) t.isLt
  have e0 : (outsAt0 m c (t.val - 1) hp).2.2.1 = _ := left_scores m c ⟨t.val - 1, hp⟩ (by show t.val - 1 < 16; omega)
  have e2 : (outsAt0 m c (t.val - 1) hp).2.2.2 = _ := left_shifts m c ⟨t.val - 1, hp⟩ (by show t.val - 1 < 16; omega)
  rw [cur_before t hp] at e0 e2
  rw [← e0, ← e2]
  by_cases h : t.val < 16
  · rw [outsAt0_B m c t (by omega) (by omega) (by omega) ht h]
    exact middle_lse c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t)
      (fun g => absurd ((hcond0_0 t).mp g) (by omega)) ((hcond0_1 t).mpr (by omega))
      (fun g => absurd ((hcond0_2 t).mp g) (by omega)) ((hcond0_3 t).mpr (by omega))
      ((hcond0_4 t).mpr (by omega)) (iblk m c 0 t) (iblk m c 1 t) (iblk m c 2 t) (iblk m c 3 t)
      (iblk m c 4 t) (iblk m c 5 t) (iblk m c 6 t)
      (outsAt0 m c (t.val - 1) (Nat.lt_of_le_of_lt (Nat.sub_le _ _) t.isLt)).2.2.1
      (outsAt0 m c (t.val - 1) (Nat.lt_of_le_of_lt (Nat.sub_le _ _) t.isLt)).2.2.2 b d
  · rw [outsAt0_C m c t (by omega) (by omega) (by omega) ht h]
    exact last_lse c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t)
      (fun g => absurd ((hcond0_0 t).mp g) (by omega)) (fun g => absurd ((hcond0_1 t).mp g) (by omega))
      ((hcond0_2 t).mpr (by omega)) ((hcond0_3 t).mpr (by omega))
      (fun g => absurd ((hcond0_4 t).mp g) (by omega)) (iblk m c 0 t) (iblk m c 1 t) (iblk m c 2 t)
      (iblk m c 3 t) (iblk m c 4 t) (iblk m c 5 t) (iblk m c 6 t)
      (outsAt0 m c (t.val - 1) (Nat.lt_of_le_of_lt (Nat.sub_le _ _) t.isLt)).2.2.1
      (outsAt0 m c (t.val - 1) (Nat.lt_of_le_of_lt (Nat.sub_le _ _) t.isLt)).2.2.2 b d

end Cert.Mla

end
-- ==== Proof.Arrays.lean ====
module

public import proofs.«01_k».proof.Proof.Points
public import Idealize.ShloMosaic.Lib.Pipeline.ValueKit
public import Idealize.ShloMosaic.Lib.Pointwise

@[expose] public section

set_option maxRecDepth 16384
set_option maxHeartbeats 4000000

noncomputable section

/-! The ideal kernel's run: its two result arrays hold the two functions of the arguments, and the arguments are unchanged. -/

namespace Cert.Mla

open Cert.KernelIdeal Cert.KernelIdeal.Hand Cert.KernelIdeal.Gen Idealize.ShloMosaic Idealize.ShloMosaic.TcCoe Idealize.ShloMosaic.Tactic
open Idealize.SL.Sem

variable {F : FTy → Type} [FloatOps F] [Named F]

/-- The first point writes nothing back: the second has the same block. -/
theorem flush_pos : ∀ t : Fin cfg0.N, (cfg0.win 7).flush t = true ∨ (cfg0.win 8).flush t = true → 1 ≤ t.val := by decide +kernel

/-- The attention output's array after the run. -/
theorem final7 (m : (ℓ : Loc nD τ sig) → Buf (Elt Ideal) ℓ) (c : Dev nD) :
    (dats m 0 c).arrAt 7 cfg0.N = outs (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  refine (dats m 0 c).arrAt_eq_of_covers 7 _ (by decide +kernel) fun t hf y => ?_
  have ht := flush_pos t (.inl hf)
  obtain ⟨z, b, d, rfl⟩ : ∃ (z : Fin 1) (b : Fin 200) (d : Fin 128), y = ix3 z b d := ⟨y 0, y 1, y 2, eq_ix3 y⟩
  obtain rfl : z = 0 := Subsingleton.elim _ _
  have e : (win0_7.blk t).view.emb (ix3 0 b d) = ix3 (prev t) b d := by blk_ext [places t, prev]
  blk_simp
  rw [after0_7, e]
  exact written_out m c t ht b d

/-- The logarithm's array after the run. -/
theorem final8 (m : (ℓ : Loc nD τ sig) → Buf (Elt Ideal) ℓ) (c : Dev nD) :
    (dats m 0 c).arrAt 8 cfg0.N = lses (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg7)) := by
  refine (dats m 0 c).arrAt_eq_of_covers 8 _ (by decide +kernel) fun t hf y => ?_
  have ht := flush_pos t (.inr hf)
  obtain ⟨z, b, d, rfl⟩ : ∃ (z : Fin 1) (b : Fin 200) (d : Fin 128), y = ix3 z b d := ⟨y 0, y 1, y 2, eq_ix3 y⟩
  obtain rfl : z = 0 := Subsingleton.elim _ _
  have e : (win0_8.blk t).view.emb (ix3 0 b d) = ix3 (prev t) b d := by blk_ext [places t, prev]
  blk_simp
  rw [after0_8, e]
  exact written_lse m c t ht b d

variable (m : (ℓ : Loc nD τ sig) → Buf (Elt F) ℓ) (ρ : Dev nD → PrngReg)

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v6_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v6_1) = (dats m 0 c).arrAt 8 cfg0.N :=
  (h c).1 8

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 1 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 1).trans (((dats m 0 c).arrAt_in 1 rfl _).trans ((A_eq m c 1).trans (V_main_arg2 m c)))

/-- After the frame run, argument `main_arg3` is as launched: input window 5 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 5).trans (((dats m 0 c).arrAt_in 5 rfl _).trans ((A_eq m c 5).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: input window 6 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 6).trans (((dats m 0 c).arrAt_in 6 rfl _).trans ((A_eq m c 6).trans (V_main_arg5 m c)))

/-- After the frame run, argument `main_arg6` is as launched: input window 4 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 4).trans (((dats m 0 c).arrAt_in 4 rfl _).trans ((A_eq m c 4).trans (V_main_arg6 m c)))

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v6_0) = (dats m 0 c).arrAt 7 cfg0.N
      ∧ r.2.mem ((c : Thread nD τ).loc main_v6_1) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post7 m r h c,
      post8 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.Mla

end
-- ==== Proof.RefReads.lean ====
module

public import proofs.«01_k».proof.Proof.Gen.ReferenceIdeal.Value
public import Idealize.ShloMosaic.Lib.Pipeline.ValueKit
public import Idealize.ShloMosaic.Lib.Pointwise

@[expose] public section

set_option maxRecDepth 16384
set_option maxHeartbeats 4000000

noncomputable section

/-! What the reference's blocks hold, in terms of the arguments. -/

namespace Cert.Mla.Ref

open Cert.ReferenceIdeal Cert.ReferenceIdeal.Gen Idealize.ShloMosaic Idealize.ShloMosaic.TcCoe Idealize.ShloMosaic.Tactic

/-- Every window's block is its whole array. -/
theorem places : ∀ t : Fin cfg0.N, win0_0.index t = ![0, 0, 0] ∧ win0_1.index t = ![0, 0] ∧ win0_2.index t = ![0, 0, 0]
    ∧ win0_3.index t = ![0, 0, 0] ∧ win0_4.index t = ![0, 0] ∧ win0_5.index t = ![0, 0, 0] ∧ win0_6.index t = ![0, 0]
    ∧ win0_7.index t = ![0, 0, 0] ∧ win0_8.index t = ![0, 0, 0] ∧ win0_9.index t = ![0, 0, 0] := by decide +kernel

variable (m : (ℓ : Loc nD τ sig) → Buf (Elt Ideal) ℓ) (c : Dev nD) (t : Fin cfg0.N)

/-- The query codes. -/
theorem blk0 (h : Fin 16) (b : Fin 200) (d : Fin 128) :
    (iblk m c 0 t : Vec Ideal S16x200x128 .fp8e4m3) (ix3 h b d) = m ((c : Thread nD τ).loc main_arg0) (ix3 h b d) := by
  blk_ext! [iblk, V, places t]

/-- The query scales. -/
theorem blk1 (h : Fin 16) (b : Fin 200) :
    (iblk m c 1 t : Vec Ideal S16x200 .f32) (ix2 h b) = m ((c : Thread nD τ).loc main_arg1) (ix2 h b) := by
  blk_ext! [iblk, V, places t]

/-- The rotated query parts. -/
theorem blk2 (h : Fin 16) (b : Fin 200) (d : Fin 64) :
    (iblk m c 2 t : Vec Ideal S16x200x64 .bf16) (ix3 h b d) = m ((c : Thread nD τ).loc main_arg2) (ix3 h b d) := by
  blk_ext! [iblk, V, places t]

/-- The key codes. -/
theorem blk3 (h : Fin 16) (l : Fin 16384) (d : Fin 128) :
    (iblk m c 3 t : Vec Ideal S16x16384x128 .fp8e4m3) (ix3 h l d) = m ((c : Thread nD τ).loc main_arg3) (ix3 h l d) := by
  blk_ext! [iblk, V, places t]

/-- The key scales. -/
theorem blk4 (h : Fin 16) :
    (iblk m c 4 t : Vec Ideal S16x1 .f32) (ix2 h 0) = m ((c : Thread nD τ).loc main_arg4) (ix1 h) := by
  unfold iblk
  entry_read
  blk_simp [places t]
  have e : (win0_4.blk t).view.emb (ix2 h 0) = ix2 h 0 := by blk_ext [places t]
  rw [e]
  pointwise

/-- The value codes. -/
theorem blk5 (h : Fin 16) (l : Fin 16384) (d : Fin 128) :
    (iblk m c 5 t : Vec Ideal S16x16384x128 .fp8e4m3) (ix3 h l d) = m ((c : Thread nD τ).loc main_arg5) (ix3 h l d) := by
  blk_ext! [iblk, V, places t]

/-- The value scales. -/
theorem blk6 (h : Fin 16) :
    (iblk m c 6 t : Vec Ideal S16x1 .f32) (ix2 h 0) = m ((c : Thread nD τ).loc main_arg6) (ix1 h) := by
  unfold iblk
  entry_read
  blk_simp [places t]
  have e : (win0_6.blk t).view.emb (ix2 h 0) = ix2 h 0 := by blk_ext [places t]
  rw [e]
  pointwise

/-- The rotated key parts. -/
theorem blk7 (l : Fin 16384) (r : Fin 64) :
    (iblk m c 7 t : Vec Ideal S1x16384x64 .bf16) (ix3 0 l r) = m ((c : Thread nD τ).loc main_arg7) (ix2 l r) := by
  unfold iblk
  entry_read
  blk_simp [places t]
  have e : (win0_7.blk t).view.emb (ix3 0 l r) = ix3 0 l r := by blk_ext [places t]
  rw [e]
  pointwise

end Cert.Mla.Ref

end
-- ==== Proof.RefValue.lean ====
module

public import proofs.«01_k».proof.Proof.Gen.ReferenceIdeal.Value
public import Idealize.ShloMosaic.Lib.Pipeline.ValueKit
public import Idealize.ShloMosaic.Lib.Pointwise

@[expose] public section

set_option maxRecDepth 16384
set_option maxHeartbeats 4000000

noncomputable section

/-! What the reference computes, read at an index. -/

namespace Cert.Mla.Ref

open Cert.ReferenceIdeal Cert.ReferenceIdeal.Gen Idealize.ShloMosaic Idealize.ShloMosaic.TcCoe Idealize.ShloMosaic.Tactic

section Pays

variable (v0 : Vec Ideal S16x200 .f32) (v1 : Vec Ideal S16x1 .f32) (v5 : Vec Ideal S16x200x128 .fp8e4m3)
  (v6 : Vec Ideal S16x16384x128 .fp8e4m3) (v11 : Vec Ideal S1x16384x64 .bf16) (v15 : Vec Ideal S16x200x64 .bf16)

/-- The scaled score, in base two. -/
theorem scaled_at (h : Fin 16) (b : Fin 200) (l : Fin 16384) :
    k0_pay3 (F := Ideal) v0 v1 v5 v6 v11 v15 (ix3 h b l)
      = Named.named (F := Ideal) (φ := .f32) κ "scale" 1033096506#32
          * ((∑ d : Fin 128, v5 (ix3 h b d) * v6 (ix3 h l d)) * (@HMul.hMul EReal EReal EReal _ (v0 (ix2 h b)) (v1 (ix2 h 0)))
            + ∑ r : Fin 64, v15 (ix3 h b r) * v11 (ix3 0 l r))
          * Named.named (F := Ideal) (φ := .f32) κ "log2e" 1069066811#32 := by
  unfold k0_pay3
  pointwise

omit v0 v1 v5 v6 v11 v15 in
/-- Rounding up at an index. -/
theorem ceil_at (X : FVec Ideal S16x200 .f32) (h : Fin 16) (b : Fin 200) :
    ceil X (ix2 h b) = Ideal.liftRound Int.ceil (X (ix2 h b)) := rfl

omit v0 v1 v5 v6 v11 v15 in
/-- The largest entry of a row is at most `z` exactly when every entry is. -/
theorem max_le_at (X : FVec Ideal S16x200x16384 .f32) (h : Fin 16) (b : Fin 200) (z : EReal) :
    @LE.le EReal _ (multiReduction .maximumf [2] S16x200 X 0xFF800000#32 reduces_S16x200x16384_S16x200 (.inl rfl) rfl (ix2 h b)) z
      ↔ ∀ l : Fin 16384, @LE.le EReal _ (X (ix3 h b l)) z := by
  have e : multiReduction .maximumf [2] S16x200 X 0xFF800000#32 reduces_S16x200x16384_S16x200 (.inl rfl) rfl (ix2 h b)
      = (Finset.univ : Finset (Fin 16384)).fold (FloatOps.maximumf (F := Ideal) (φ := .f32)) (FloatOps.ofBits .f32 0xFF800000#32)
          (fun l : Fin 16384 => X (ix3 h b l)) :=
    (multiReduction_maximumf_eq_fold X _ _ _ _ (ix2 h b)).trans
      (Shape.Reduces.fold_fiber_r3_a2 reduces_S16x200x16384_S16x200 (ix2 h b) _ _ X)
  have hb : (FloatOps.ofBits (F := Ideal) .f32 0xFF800000#32 : EReal) = ⊥ := by
    show Ideal.ofBits FTy.f32 4286578688#32 = ⊥
    simp [Ideal.ofBits, Ideal.ieee]
  rw [e]
  refine (Finset.fold_op_rel_iff_and (op := FloatOps.maximumf (F := Ideal) (φ := .f32))
    (r := fun c x : EReal => x ≤ c) (fun {x y w} => (max_le_iff : max (y : EReal) w ≤ x ↔ _))).trans ?_
  exact ⟨fun g l => g.2 l (Finset.mem_univ l), fun g => ⟨hb.trans_le bot_le, fun l _ => g l⟩⟩

/-- The shift of a row's exponents is its largest scaled score rounded up. -/
theorem shift_at (h : Fin 16) (b : Fin 200) (M : EReal)
    (hM : ∀ z, M ≤ z ↔ ∀ l : Fin 16384, @LE.le EReal _ (k0_pay3 (F := Ideal) v0 v1 v5 v6 v11 v15 (ix3 h b l)) z) :
    k0_pay4 (F := Ideal) v0 v1 v5 v6 v11 v15 (ix2 h b) = Ideal.liftRound Int.ceil M := by
  have e : multiReduction .maximumf [2] S16x200 (k0_pay3 (F := Ideal) v0 v1 v5 v6 v11 v15) 0xFF800000#32
      reduces_S16x200x16384_S16x200 (.inl rfl) rfl (ix2 h b) = M :=
    eq_of_forall_ge_iff fun z => (max_le_at _ h b z).trans (hM z).symm
  unfold k0_pay4
  dsimp only
  rw [ceil_at, e]

/-- A weight. -/
theorem weight_at (h : Fin 16) (b : Fin 200) (l : Fin 16384) :
    k0_pay5 (F := Ideal) v0 v1 v5 v6 v11 v15 (ix3 h b l)
      = FloatOps.exp2 (F := Ideal) (φ := .f32)
          (@HSub.hSub EReal EReal EReal _ (k0_pay3 (F := Ideal) v0 v1 v5 v6 v11 v15 (ix3 h b l)) (k0_pay4 (F := Ideal) v0 v1 v5 v6 v11 v15 (ix2 h b))) := by
  unfold k0_pay5
  pointwise

/-- The sum of a row's weights. -/
theorem den_at (h : Fin 16) (b : Fin 200) :
    k0_pay6 (F := Ideal) v0 v1 v5 v6 v11 v15 (ix2 h b)
      = ∑ l : Fin 16384, k0_pay5 (F := Ideal) v0 v1 v5 v6 v11 v15 (ix3 h b l) := by
  unfold k0_pay6
  pointwise

/-- A weight as the second product takes it. -/
theorem scaled_weight_at (h : Fin 16) (b : Fin 200) (l : Fin 16384) :
    k0_pay7 (F := Ideal) v0 v1 v5 v6 v11 v15 (ix3 h b l)
      = k0_pay5 (F := Ideal) v0 v1 v5 v6 v11 v15 (ix3 h b l) * Ideal.ofBits .f32 1138753536#32 := by
  unfold k0_pay7
  pointwise

end Pays

/-- The attention output. -/
theorem out_at (w : FVec Ideal S16x200x16384 .fp8e4m3) (v : Vec Ideal S16x16384x128 .fp8e4m3) (vs : Vec Ideal S16x1 .f32)
    (den : FVec Ideal S16x200 .f32) (h : Fin 16) (b : Fin 200) (d : Fin 128) :
    k0_pay1 (F := Ideal) den w v (constant S16x200x128 .f32 0x00000000#32) vs (ix3 h b d)
      = Ideal.div ((∑ l : Fin 16384, w (ix3 h b l) * v (ix3 h l d)) * Ideal.div (vs (ix2 h 0)) (Ideal.ofBits .f32 1138753536#32))
          (den (ix2 h b)) := by
  unfold k0_pay1
  pointwise

/-- The logarithm of the sum of exponentials. -/
theorem lse_at (mx den : FVec Ideal S16x200 .f32) (h : Fin 16) (b : Fin 200) (u : Fin 128) :
    k0_pay2 (F := Ideal) mx den (ix3 h b u)
      = (mx (ix2 h b) + Ideal.log (den (ix2 h b)) * Named.named (F := Ideal) (φ := .f32) κ "log2e" 1069066811#32)
          * Ideal.ofBits .f32 1060205080#32 := by
  unfold k0_pay2
  pointwise

end Cert.Mla.Ref

end
-- ==== Proof.Equation.lean ====
module

public import proofs.«01_k».proof.Proof.Spec
public import proofs.«01_k».proof.ReferenceIdeal
public import Idealize.ShloMosaic.Lib.Pointwise

@[expose] public section

set_option maxRecDepth 16384

noncomputable section

/-! The algebra between the kernel's formulas and the reference's: the shift takes the base two logarithm of 448 off each
exponent, which multiplies every weight by 448, and the inverse of 448 takes it out of the sums again. -/

namespace Cert.Mla

open Idealize.ShloMosaic

/-- The base two logarithm of 448. -/
abbrev L448 : ℝ := Real.log 448 * (Real.log 2)⁻¹

/-- The kernel's constant `scale_log2e`: the scores' scale times the base two logarithm of e. -/
theorem k_scale : Named.named (F := Ideal) (φ := .f32) Cert.KernelIdeal.κ "scale_log2e" 1037384597#32
    = (((Real.sqrt 192)⁻¹ * (Real.log 2)⁻¹ : ℝ) : EReal) := IdealRules.named_const.ideal_named_scalar _ _ _ _ rfl

/-- The kernel's constant `inv_p_scale`: one over 448. -/
theorem k_inv : Named.named (F := Ideal) (φ := .f32) Cert.KernelIdeal.κ "inv_p_scale" 991054117#32 = ((1 / 448 : ℝ) : EReal) :=
  IdealRules.named_const.ideal_named_scalar _ _ _ _ rfl

/-- The kernel's constant `log2_p_scale`: the base two logarithm of 448. -/
theorem k_log : Named.named (F := Ideal) (φ := .f32) Cert.KernelIdeal.κ "log2_p_scale" 1091365613#32 = ((L448 : ℝ) : EReal) :=
  IdealRules.named_const.ideal_named_scalar _ _ _ _ rfl

/-- The kernel's constant `log2e`: the base two logarithm of e. -/
theorem k_log2e : Named.named (F := Ideal) (φ := .f32) Cert.KernelIdeal.κ "log2e" 1069066811#32 = (((Real.log 2)⁻¹ : ℝ) : EReal) :=
  IdealRules.named_const.ideal_named_scalar _ _ _ _ rfl

/-- The reference's constant `scale`: the scores' scale. -/
theorem r_scale : Named.named (F := Ideal) (φ := .f32) Cert.ReferenceIdeal.κ "scale" 1033096506#32
    = (((Real.sqrt 192)⁻¹ : ℝ) : EReal) := IdealRules.named_const.ideal_named_scalar _ _ _ _ rfl

/-- The reference's constant `log2e`: the base two logarithm of e. -/
theorem r_log2e : Named.named (F := Ideal) (φ := .f32) Cert.ReferenceIdeal.κ "log2e" 1069066811#32 = (((Real.log 2)⁻¹ : ℝ) : EReal) :=
  IdealRules.named_const.ideal_named_scalar _ _ _ _ rfl

/-- The reference's 448, exact as a word. -/
theorem r_448 : Ideal.ofBits .f32 1138753536#32 = ((448 : ℝ) : EReal) := by
  simp [Ideal.ofBits, Ideal.ieee, -EReal.coe_mul]; norm_num

/-- Scaling a score by two factors in turn is scaling it by their product. -/
theorem scale_twice (x : EReal) : (((Real.sqrt 192)⁻¹ : ℝ) : EReal) * x * (((Real.log 2)⁻¹ : ℝ) : EReal)
    = x * (((Real.sqrt 192)⁻¹ * (Real.log 2)⁻¹ : ℝ) : EReal) := by
  rw [EReal.coe_mul, mul_comm _ x, mul_assoc]

/-- A weight formed with the shifted exponent is 448 times the weight formed without. -/
theorem exp2_shift (x R : EReal) : FloatOps.exp2 (F := Ideal) (φ := .f32) (x - (R - ((L448 : ℝ) : EReal)))
    = @HMul.hMul EReal EReal EReal _ (FloatOps.exp2 (F := Ideal) (φ := .f32) (x - R)) ((448 : ℝ) : EReal) := by
  show Ideal.exp2 _ = Ideal.exp2 _ * _
  have h2 : (2 : ℝ) ^ L448 = 448 := by
    rw [Real.rpow_def_of_pos (by norm_num), mul_comm (Real.log 2), mul_assoc,
      inv_mul_cancel₀ (Real.log_pos (by norm_num)).ne', mul_one, Real.exp_log (by norm_num)]
  have top : Ideal.exp2 ⊤ = Ideal.exp2 ⊤ * ((448 : ℝ) : EReal) := (EReal.top_mul_coe_of_pos (by norm_num)).symm
  have bot : Ideal.exp2 ⊥ = Ideal.exp2 ⊥ * ((448 : ℝ) : EReal) := (zero_mul _).symm
  induction R with
  | bot =>
    have e : (⊥ : EReal) - ((L448 : ℝ) : EReal) = ⊥ := EReal.bot_sub _
    rw [e]
    induction x with
    | bot => exact bot
    | top => exact top
    | coe x => exact top
  | top =>
    have e : (⊤ : EReal) - ((L448 : ℝ) : EReal) = ⊤ := EReal.top_sub_coe _
    rw [e, EReal.sub_top]
    exact bot
  | coe R =>
    rw [← EReal.coe_sub]
    induction x with
    | bot => exact bot
    | top => rw [EReal.top_sub_coe, EReal.top_sub_coe]; exact top
    | coe x =>
      rw [← EReal.coe_sub, ← EReal.coe_sub]
      show ((Real.rpow 2 _ : ℝ) : EReal) = ((Real.rpow 2 _ : ℝ) : EReal) * _
      rw [← EReal.coe_mul]
      congr 1
      show (2 : ℝ) ^ (x - (R - L448)) = (2 : ℝ) ^ (x - R) * 448
      rw [show x - (R - L448) = (x - R) + L448 by ring, Real.rpow_add (by norm_num), h2]

/-- Taking the logarithm of 448 off and adding it again changes nothing. -/
theorem sub_add_log (R : EReal) : R - ((L448 : ℝ) : EReal) + ((L448 : ℝ) : EReal) = R := by
  induction R with
  | bot => rfl
  | top => rfl
  | coe R => rw [← EReal.coe_sub, ← EReal.coe_add, sub_add_cancel]

/-- A weight is not negative. -/
theorem exp2_nonneg (x : EReal) : @LE.le EReal _ 0 (FloatOps.exp2 (F := Ideal) (φ := .f32) x) := by
  show (0 : EReal) ≤ Ideal.exp2 x
  induction x with
  | bot => exact le_rfl
  | top => exact le_top
  | coe x => exact EReal.coe_nonneg.mpr (Real.rpow_nonneg (by norm_num) x)

/-- 448 times its inverse, on the right of any number. -/
theorem mul_448 (x : EReal) : x * ((448 : ℝ) : EReal) * ((1 / 448 : ℝ) : EReal) = x := by
  rw [mul_assoc, ← EReal.coe_mul, show (448 : ℝ) * (1 / 448) = 1 by norm_num, EReal.coe_one, mul_one]

/-- The inverse of 448 goes into a sum of numbers that are not negative. -/
theorem sum_mul_inv {n : ℕ} (f : Fin n → EReal) (h : ∀ l, 0 ≤ f l) (s : Finset (Fin n)) :
    (∑ l ∈ s, f l) * ((1 / 448 : ℝ) : EReal) = ∑ l ∈ s, f l * ((1 / 448 : ℝ) : EReal) := by
  classical
  induction s using Finset.induction_on with
  | empty => simp
  | insert a s ha ih =>
    rw [Finset.sum_insert ha, Finset.sum_insert ha, EReal.right_distrib_of_nonneg (h a) (Finset.sum_nonneg fun l _ => h l), ih]

/-- The sum of the shifted weights, times the inverse of 448, is the sum of the weights. -/
theorem sum_448 {n : ℕ} (f : Fin n → EReal) (h : ∀ l, 0 ≤ f l) :
    (∑ l, f l * ((448 : ℝ) : EReal)) * ((1 / 448 : ℝ) : EReal) = ∑ l, f l := by
  rw [sum_mul_inv _ (fun l => mul_nonneg (h l) (EReal.coe_nonneg.mpr (by norm_num)))]
  exact Finset.sum_congr rfl fun l _ => mul_448 (f l)

/-- Dividing by 448 is multiplying by its inverse. -/
theorem div_448 (x : EReal) : Ideal.div x ((448 : ℝ) : EReal) = x * ((1 / 448 : ℝ) : EReal) := Ideal.div_coe (by norm_num) x

/-- The scaled largest entry is at most `z` exactly when every scaled entry is. -/
theorem max_scaled_le {n : ℕ} (f : Fin n → EReal) (z : EReal) :
    Finset.univ.fold max ⊥ f * (((Real.sqrt 192)⁻¹ * (Real.log 2)⁻¹ : ℝ) : EReal) ≤ z
      ↔ ∀ l, f l * (((Real.sqrt 192)⁻¹ * (Real.log 2)⁻¹ : ℝ) : EReal) ≤ z := by
  have hp : (0 : EReal) < (((Real.sqrt 192)⁻¹ * (Real.log 2)⁻¹ : ℝ) : EReal) :=
    EReal.coe_pos.mpr (mul_pos (inv_pos.mpr (Real.sqrt_pos.mpr (by norm_num))) (inv_pos.mpr (Real.log_pos (by norm_num))))
  rw [← EReal.le_div_iff_mul_le hp (EReal.coe_ne_top _), fold_le]
  exact forall_congr' fun l => EReal.le_div_iff_mul_le hp (EReal.coe_ne_top _)

end Cert.Mla

end
-- ==== Proof.RefRows.lean ====
module

public import proofs.«01_k».proof.Proof.RefValue
public import proofs.«01_k».proof.Proof.Equation

@[expose] public section

set_option maxRecDepth 16384
set_option maxHeartbeats 4000000

noncomputable section

/-! The reference's formulas, on arrays that hold the arguments, are the two functions the kernel computes. -/

namespace Cert.Mla.Ref

open Cert.ReferenceIdeal Cert.ReferenceIdeal.Gen Idealize.ShloMosaic Idealize.ShloMosaic.TcCoe Idealize.ShloMosaic.Tactic

variable (x0 : Vec Ideal S16x200x128 .fp8e4m3) (x1 : Vec Ideal S16x200 .f32) (x2 : Vec Ideal S16x200x64 .bf16)
  (x3 : Vec Ideal S16x16384x128 .fp8e4m3) (x4 : Vec Ideal S16x1 .f32) (x5 : Vec Ideal S16x16384x128 .fp8e4m3)
  (x6 : Vec Ideal S16x1 .f32) (x7 : Vec Ideal S1x16384x64 .bf16)
  (a0 : Vec Ideal S16x200x128 .fp8e4m3) (a1 : Vec Ideal S16x200 .f32) (a2 : Vec Ideal S16x200x64 .bf16)
  (a3 : Vec Ideal S16x16384x128 .fp8e4m3) (a4 : Vec Ideal S16 .f32) (a5 : Vec Ideal S16x16384x128 .fp8e4m3)
  (a6 : Vec Ideal S16 .f32) (a7 : Vec Ideal S16384x64 .bf16)
  (h : Fin 16)
  (e0 : ∀ b d, x0 (ix3 h b d) = a0 (ix3 h b d)) (e1 : ∀ b, x1 (ix2 h b) = a1 (ix2 h b))
  (e2 : ∀ b r, x2 (ix3 h b r) = a2 (ix3 h b r)) (e3 : ∀ l d, x3 (ix3 h l d) = a3 (ix3 h l d))
  (e4 : x4 (ix2 h 0) = a4 (ix1 h)) (e5 : ∀ l d, x5 (ix3 h l d) = a5 (ix3 h l d)) (e6 : x6 (ix2 h 0) = a6 (ix1 h))
  (e7 : ∀ l r, x7 (ix3 0 l r) = a7 (ix2 l r))

include e0 e1 e2 e3 e4 e7

/-- The reference's scaled score is the kernel's. -/
theorem scaled_eq (b : Fin 200) (l : Fin 16384) :
    k0_pay3 (F := Ideal) x1 x4 x0 x3 x7 x2 (ix3 h b l)
      = score a0 a1 a2 a3 a4 a7 h b l * (((Real.sqrt 192)⁻¹ * (Real.log 2)⁻¹ : ℝ) : EReal) := by
  rw [scaled_at x1 x4 x0 x3 x7 x2 h b l, r_scale, r_log2e, scale_twice]
  unfold score
  rw [e1 b, e4]
  refine congrArg (· * _) (congrArg₂ (· + ·) (congrArg (· * _) (Finset.sum_congr rfl fun d _ => ?_)) (Finset.sum_congr rfl fun r _ => ?_))
  · rw [e0 b d, e3 l d]
  · rw [e2 b r, e7 l r]

/-- The kernel's shift is the reference's less the logarithm of 448. -/
theorem shift_eq (b : Fin 200) :
    shift (scores a0 a1 a2 a3 a4 a7 h) b
      = @HSub.hSub EReal EReal EReal _ (k0_pay4 (F := Ideal) x1 x4 x0 x3 x7 x2 (ix2 h b)) ((L448 : ℝ) : EReal) := by
  rw [shift_at x1 x4 x0 x3 x7 x2 h b
    (rowmax (scores a0 a1 a2 a3 a4 a7 h) b * (((Real.sqrt 192)⁻¹ * (Real.log 2)⁻¹ : ℝ) : EReal)) fun z => ?_]
  · unfold shift
    rw [k_scale, k_log]
  · refine (max_scaled_le _ z).trans (forall_congr' fun l => ?_)
    rw [scaled_eq x0 x1 x2 x3 x4 x7 a0 a1 a2 a3 a4 a7 h e0 e1 e2 e3 e4 e7 b l]
    rfl

/-- A weight of the kernel is 448 times the reference's. -/
theorem weight_eq (b : Fin 200) (l : Fin 16384) :
    wt (scores a0 a1 a2 a3 a4 a7 h) (shifts a0 a1 a2 a3 a4 a7 h) b l
      = @HMul.hMul EReal EReal EReal _ (k0_pay5 (F := Ideal) x1 x4 x0 x3 x7 x2 (ix3 h b l)) ((448 : ℝ) : EReal) := by
  rw [weight_at x1 x4 x0 x3 x7 x2 h b l, ← exp2_shift, ← shift_eq x0 x1 x2 x3 x4 x7 a0 a1 a2 a3 a4 a7 h e0 e1 e2 e3 e4 e7 b,
    scaled_eq x0 x1 x2 x3 x4 x7 a0 a1 a2 a3 a4 a7 h e0 e1 e2 e3 e4 e7 b l]
  unfold wt
  rw [k_scale]
  rfl

/-- The kernel's sum of weights, times the inverse of 448, is the reference's. -/
theorem den_eq (b : Fin 200) :
    (∑ l : Fin 16384, wt (scores a0 a1 a2 a3 a4 a7 h) (shifts a0 a1 a2 a3 a4 a7 h) b l) * ((1 / 448 : ℝ) : EReal)
      = k0_pay6 (F := Ideal) x1 x4 x0 x3 x7 x2 (ix2 h b) := by
  rw [den_at x1 x4 x0 x3 x7 x2 h b,
    Finset.sum_congr rfl fun l _ => weight_eq x0 x1 x2 x3 x4 x7 a0 a1 a2 a3 a4 a7 h e0 e1 e2 e3 e4 e7 b l]
  refine sum_448 _ fun l => ?_
  rw [weight_at x1 x4 x0 x3 x7 x2 h b l]
  exact exp2_nonneg _

/-- The logarithm of the sum of exponentials. -/
theorem lse_eq (b : Fin 200) (u : Fin 128) :
    k0_pay2 (F := Ideal) (k0_pay4 (F := Ideal) x1 x4 x0 x3 x7 x2) (k0_pay6 (F := Ideal) x1 x4 x0 x3 x7 x2) (ix3 h b u)
      = lses a0 a1 a2 a3 a4 a7 (ix3 h b u) := by
  rw [lse_at, r_log2e, ← den_eq x0 x1 x2 x3 x4 x7 a0 a1 a2 a3 a4 a7 h e0 e1 e2 e3 e4 e7 b]
  have e : shifts a0 a1 a2 a3 a4 a7 h (ix2 b u) = shift (scores a0 a1 a2 a3 a4 a7 h) b := by unfold shifts; rfl
  have g : @HAdd.hAdd EReal EReal EReal _ (shift (scores a0 a1 a2 a3 a4 a7 h) b) ((L448 : ℝ) : EReal)
      = k0_pay4 (F := Ideal) x1 x4 x0 x3 x7 x2 (ix2 h b) := by
    rw [shift_eq x0 x1 x2 x3 x4 x7 a0 a1 a2 a3 a4 a7 h e0 e1 e2 e3 e4 e7 b, sub_add_log]
  have k : lses a0 a1 a2 a3 a4 a7 (ix3 h b u) = cellL (scores a0 a1 a2 a3 a4 a7 h) (shifts a0 a1 a2 a3 a4 a7 h) b u := by
    unfold lses; rfl
  rw [k]
  unfold cellL
  rw [e, k_log, k_inv, k_log2e, g]

include e5 e6

/-- The attention output. -/
theorem out_eq (b : Fin 200) (d : Fin 128) :
    k0_pay1 (F := Ideal) (k0_pay6 (F := Ideal) x1 x4 x0 x3 x7 x2) (k0_pay7 (F := Ideal) x1 x4 x0 x3 x7 x2) x5
        (constant S16x200x128 .f32 0x00000000#32) x6 (ix3 h b d)
      = outs a0 a1 a2 a3 a4 a5 a6 a7 (ix3 h b d) := by
  rw [out_at, r_448, div_448, e6, ← den_eq x0 x1 x2 x3 x4 x7 a0 a1 a2 a3 a4 a7 h e0 e1 e2 e3 e4 e7 b]
  have e : ∀ l : Fin 16384, @HMul.hMul EReal EReal EReal _ (k0_pay7 (F := Ideal) x1 x4 x0 x3 x7 x2 (ix3 h b l)) (x5 (ix3 h l d))
      = @HMul.hMul EReal EReal EReal _ (wt (scores a0 a1 a2 a3 a4 a7 h) (shifts a0 a1 a2 a3 a4 a7 h) b l) (vals a5 h (ix3 0 l d)) := fun l => by
    rw [scaled_weight_at x1 x4 x0 x3 x7 x2 h b l, r_448, weight_eq x0 x1 x2 x3 x4 x7 a0 a1 a2 a3 a4 a7 h e0 e1 e2 e3 e4 e7 b l, e5 l d]
    rfl
  rw [Finset.sum_congr rfl fun l _ => e l, ← k_inv]
  rfl

end Cert.Mla.Ref

end
-- ==== Proof.RefArrays.lean ====
module

public import proofs.«01_k».proof.Proof.RefReads
public import proofs.«01_k».proof.Proof.RefRows

@[expose] public section

set_option maxRecDepth 16384
set_option maxHeartbeats 4000000

noncomputable section

/-! The reference's two result arrays hold the two functions of the arguments. -/

namespace Cert.Mla.Ref

open Cert.ReferenceIdeal Cert.ReferenceIdeal.Gen Idealize.ShloMosaic Idealize.ShloMosaic.TcCoe Idealize.ShloMosaic.Tactic

/-- A block of all of a rank two array read at offset zero. -/
theorem zero2 : (![0, 0] : Fin 2 → Nat) = fun _ => 0 := funext fun a => by fin_cases a <;> rfl

/-- A block of all of a rank three array read at offset zero. -/
theorem zero3 : (![0, 0, 0] : Fin 3 → Nat) = fun _ => 0 := funext fun a => by fin_cases a <;> rfl

section Canons

variable (x0 : Vec Ideal S16x200x128 .fp8e4m3) (x1 : Vec Ideal S16x200 .f32) (x2 : Vec Ideal S16x200x64 .bf16)
  (x3 : Vec Ideal S16x16384x128 .fp8e4m3) (x4 : Vec Ideal S16x1 .f32) (x5 : Vec Ideal S16x16384x128 .fp8e4m3)
  (x6 : Vec Ideal S16x1 .f32) (x7 : Vec Ideal S1x16384x64 .bf16)

/-- What the body leaves in the attention output's block. -/
theorem canon8 : out0_8 (F := Ideal) x0 x1 x2 x3 x4 x5 x6 x7
    = k0_pay1 (F := Ideal) (k0_pay6 (F := Ideal) x1 x4 x0 x3 x7 x2) (k0_pay7 (F := Ideal) x1 x4 x0 x3 x7 x2) x5
        (constant S16x200x128 .f32 0x00000000#32) x6 := by
  unfold out0_8 k0_pay8
  rw [View.canon_unit_zero zero3, View.ld_unit_zero zero2 _ x1, View.ld_unit_zero zero2 _ x4, View.ld_unit_zero zero3 _ x0,
    View.ld_unit_zero zero3 _ x3, View.ld_unit_zero zero3 _ x7, View.ld_unit_zero zero3 _ x2, View.ld_unit_zero zero3 _ x5,
    View.ld_unit_zero zero2 _ x6]

/-- What the body leaves in the logarithm's block. -/
theorem canon9 : out0_9 (F := Ideal) x0 x1 x2 x3 x4 x5 x6 x7
    = k0_pay2 (F := Ideal) (k0_pay4 (F := Ideal) x1 x4 x0 x3 x7 x2) (k0_pay6 (F := Ideal) x1 x4 x0 x3 x7 x2) := by
  unfold out0_9 k0_pay8
  rw [View.canon_unit_zero zero3, View.ld_unit_zero zero2 _ x1, View.ld_unit_zero zero2 _ x4, View.ld_unit_zero zero3 _ x0,
    View.ld_unit_zero zero3 _ x3, View.ld_unit_zero zero3 _ x7, View.ld_unit_zero zero3 _ x2]

end Canons

variable (m : (ℓ : Loc nD τ sig) → Buf (Elt Ideal) ℓ) (c : Dev nD)

/-- The attention output's array after the run. -/
theorem final8 :
    (dats m 0 c).arrAt 8 cfg0.N = outs (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  refine (dats m 0 c).arrAt_eq_of_covers 8 _ (by decide +kernel) fun t hf y => ?_
  obtain ⟨h, b, d, rfl⟩ : ∃ (h : Fin 16) (b : Fin 200) (d : Fin 128), y = ix3 h b d := ⟨y 0, y 1, y 2, eq_ix3 y⟩
  have e : (win0_8.blk t).view.emb (ix3 h b d) = ix3 h b d := by blk_ext [places t]
  blk_simp
  rw [after0_8, e]
  refine (congrFun (canon8 (iblk m c 0 t) (iblk m c 1 t) (iblk m c 2 t) (iblk m c 3 t) (iblk m c 4 t) (iblk m c 5 t)
    (iblk m c 6 t) (iblk m c 7 t)) (ix3 h b d)).trans ?_
  exact out_eq (iblk m c 0 t) (iblk m c 1 t) (iblk m c 2 t) (iblk m c 3 t) (iblk m c 4 t) (iblk m c 5 t) (iblk m c 6 t)
    (iblk m c 7 t) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) h
    (blk0 m c t h) (blk1 m c t h) (blk2 m c t h) (blk3 m c t h) (blk4 m c t h) (blk5 m c t h) (blk6 m c t h) (blk7 m c t) b d

/-- The logarithm's array after the run. -/
theorem final9 :
    (dats m 0 c).arrAt 9 cfg0.N = lses (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg7)) := by
  refine (dats m 0 c).arrAt_eq_of_covers 9 _ (by decide +kernel) fun t hf y => ?_
  obtain ⟨h, b, d, rfl⟩ : ∃ (h : Fin 16) (b : Fin 200) (d : Fin 128), y = ix3 h b d := ⟨y 0, y 1, y 2, eq_ix3 y⟩
  have e : (win0_9.blk t).view.emb (ix3 h b d) = ix3 h b d := by blk_ext [places t]
  blk_simp
  rw [after0_9, e]
  refine (congrFun (canon9 (iblk m c 0 t) (iblk m c 1 t) (iblk m c 2 t) (iblk m c 3 t) (iblk m c 4 t) (iblk m c 5 t)
    (iblk m c 6 t) (iblk m c 7 t)) (ix3 h b d)).trans ?_
  exact lse_eq (iblk m c 0 t) (iblk m c 1 t) (iblk m c 2 t) (iblk m c 3 t) (iblk m c 4 t)
    (iblk m c 7 t) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg7)) h
    (blk0 m c t h) (blk1 m c t h) (blk2 m c t h) (blk3 m c t h) (blk4 m c t h) (blk7 m c t) b d

end Cert.Mla.Ref

end
-- ==== Proof.OutRuns.lean ====
module

public import proofs.«01_k».proof.Proof.Gen.OutKernel.Frame
public import proofs.«01_k».proof.Proof.Gen.OutKernel.Skeleton
public import Idealize.ShloMosaic.Lib.Pipeline.TableIdle

@[expose] public section

-- membership in a rectangle of production extents (`View.cover_of_tiled`): the elaborator's structural look
-- recurses once per coordinate of the long axes
set_option maxRecDepth 16384

noncomputable section

namespace Cert.OutKernel.Hand

open Cert.OutKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 7 = 0 :=
  (fun t => by
    have ht : t.val < 7 := Nat.lt_of_lt_of_eq t.isLt N_0
    have e0 : (grid0.coords t 0).val = t.val / 1 % 7 := Pipeline.Grid.coords_val t 0 (by decide) rfl
    simp only [cond0_0, k0_cond1, e0]
    word_cmp
   : ∀ t : Fin grid0.N, cond0_0 (grid0.coords t) ↔ t.val % 7 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an output stored at every point, under no condition). -/
theorem liveAt0_9 : ∀ t : Fin cfg0.N, cfg0.idle 9 (grid0.coords t) = false := fun _ => rfl
/-- Whether output 10's buffer is FRESH at each position `1 ‥ N` — holds nothing the body stored since the region's entry or the
    last write-back (written back at the point before, or idle there and fresh before it) —, as a bitmask the classifier
    computed, bit `n` for position `n + 1`; position 0 is fresh. `freshTab0_10_step` checks it against the configuration's own
    step point by point and Lib/Pipeline/TableIdle.lean `Cfg.fresh_tab` makes it `Cfg.fresh` (`fresh0_10_eq`). -/
def freshTab0_10 : ℕ → Bool
  | 0 => true
  | n + 1 => (0x40 : ℕ).testBit n
theorem freshTab0_10_step : ∀ t : Fin cfg0.N,
    freshTab0_10 (t.val + 1) = ((cfg0.win 10).flush t || (cfg0.idle 10 (cfg0.grid.coords t) && freshTab0_10 t.val)) := by decide +kernel
theorem fresh0_10_eq (t : Fin cfg0.N) : cfg0.fresh 10 t.val = freshTab0_10 t.val :=
  Pipeline.Cfg.fresh_tab cfg0 10 freshTab0_10 rfl freshTab0_10_step t.val (Nat.le_of_lt t.isLt)
/-- At the points of case A the printed configuration (`Cfg.idle`) calls output 10 live: the case stores into it. -/
theorem liveAt0_10_A : ∀ t : Fin cfg0.N, cond0_0 (grid0.coords t) → cfg0.idle 10 (grid0.coords t) = false := by decide +kernel
/-- At the points of case B, which keeps output 10's prior contents (reads it before covering, or covers it in part), the
    window's buffer is not FRESH: something was stored into it since the region's entry or its last write-back, idle points
    between or not (Lib/Pipeline/TableIdle.lean `Cfg.fresh`, by the table `freshTab0_10`). -/
theorem notFresh0_10_B : ∀ t : Fin cfg0.N, ¬cond0_0 (grid0.coords t) → cfg0.fresh 10 t.val = false := by
  intro t; rw [fresh0_10_eq t]; revert t; decide +kernel
/-- Whether output 11's buffer is FRESH at each position `1 ‥ N` — holds nothing the body stored since the region's entry or the
    last write-back (written back at the point before, or idle there and fresh before it) —, as a bitmask the classifier
    computed, bit `n` for position `n + 1`; position 0 is fresh. `freshTab0_11_step` checks it against the configuration's own
    step point by point and Lib/Pipeline/TableIdle.lean `Cfg.fresh_tab` makes it `Cfg.fresh` (`fresh0_11_eq`). -/
def freshTab0_11 : ℕ → Bool
  | 0 => true
  | n + 1 => (0x40 : ℕ).testBit n
theorem freshTab0_11_step : ∀ t : Fin cfg0.N,
    freshTab0_11 (t.val + 1) = ((cfg0.win 11).flush t || (cfg0.idle 11 (cfg0.grid.coords t) && freshTab0_11 t.val)) := by decide +kernel
theorem fresh0_11_eq (t : Fin cfg0.N) : cfg0.fresh 11 t.val = freshTab0_11 t.val :=
  Pipeline.Cfg.fresh_tab cfg0 11 freshTab0_11 rfl freshTab0_11_step t.val (Nat.le_of_lt t.isLt)
/-- At the points of case A the printed configuration (`Cfg.idle`) calls output 11 live: the case stores into it. -/
theorem liveAt0_11_A : ∀ t : Fin cfg0.N, cond0_0 (grid0.coords t) → cfg0.idle 11 (grid0.coords t) = false := by decide +kernel
/-- At the points of case B, which keeps output 11's prior contents (reads it before covering, or covers it in part), the
    window's buffer is not FRESH: something was stored into it since the region's entry or its last write-back, idle points
    between or not (Lib/Pipeline/TableIdle.lean `Cfg.fresh`, by the table `freshTab0_11`). -/
theorem notFresh0_11_B : ∀ t : Fin cfg0.N, ¬cond0_0 (grid0.coords t) → cfg0.fresh 11 t.val = false := by
  intro t; rw [fresh0_11_eq t]; revert t; decide +kernel
/-- Whether output 12's buffer is FRESH at each position `1 ‥ N` — holds nothing the body stored since the region's entry or the
    last write-back (written back at the point before, or idle there and fresh before it) —, as a bitmask the classifier
    computed, bit `n` for position `n + 1`; position 0 is fresh. `freshTab0_12_step` checks it against the configuration's own
    step point by point and Lib/Pipeline/TableIdle.lean `Cfg.fresh_tab` makes it `Cfg.fresh` (`fresh0_12_eq`). -/
def freshTab0_12 : ℕ → Bool
  | 0 => true
  | n + 1 => (0x40 : ℕ).testBit n
theorem freshTab0_12_step : ∀ t : Fin cfg0.N,
    freshTab0_12 (t.val + 1) = ((cfg0.win 12).flush t || (cfg0.idle 12 (cfg0.grid.coords t) && freshTab0_12 t.val)) := by decide +kernel
theorem fresh0_12_eq (t : Fin cfg0.N) : cfg0.fresh 12 t.val = freshTab0_12 t.val :=
  Pipeline.Cfg.fresh_tab cfg0 12 freshTab0_12 rfl freshTab0_12_step t.val (Nat.le_of_lt t.isLt)
/-- At the points of case A the printed configuration (`Cfg.idle`) calls output 12 live: the case stores into it. -/
theorem liveAt0_12_A : ∀ t : Fin cfg0.N, cond0_0 (grid0.coords t) → cfg0.idle 12 (grid0.coords t) = false := by decide +kernel
/-- At the points of case B, which keeps output 12's prior contents (reads it before covering, or covers it in part), the
    window's buffer is not FRESH: something was stored into it since the region's entry or its last write-back, idle points
    between or not (Lib/Pipeline/TableIdle.lean `Cfg.fresh`, by the table `freshTab0_12`). -/
theorem notFresh0_12_B : ∀ t : Fin cfg0.N, ¬cond0_0 (grid0.coords t) → cfg0.fresh 12 t.val = false := by
  intro t; rw [fresh0_12_eq t]; revert t; decide +kernel
/-- Whether output 13's buffer is FRESH at each position `1 ‥ N` — holds nothing the body stored since the region's entry or the
    last write-back (written back at the point before, or idle there and fresh before it) —, as a bitmask the classifier
    computed, bit `n` for position `n + 1`; position 0 is fresh. `freshTab0_13_step` checks it against the configuration's own
    step point by point and Lib/Pipeline/TableIdle.lean `Cfg.fresh_tab` makes it `Cfg.fresh` (`fresh0_13_eq`). -/
def freshTab0_13 : ℕ → Bool
  | 0 => true
  | n + 1 => (0x40 : ℕ).testBit n
theorem freshTab0_13_step : ∀ t : Fin cfg0.N,
    freshTab0_13 (t.val + 1) = ((cfg0.win 13).flush t || (cfg0.idle 13 (cfg0.grid.coords t) && freshTab0_13 t.val)) := by decide +kernel
theorem fresh0_13_eq (t : Fin cfg0.N) : cfg0.fresh 13 t.val = freshTab0_13 t.val :=
  Pipeline.Cfg.fresh_tab cfg0 13 freshTab0_13 rfl freshTab0_13_step t.val (Nat.le_of_lt t.isLt)
/-- At the points of case A the printed configuration (`Cfg.idle`) calls output 13 live: the case stores into it. -/
theorem liveAt0_13_A : ∀ t : Fin cfg0.N, cond0_0 (grid0.coords t) → cfg0.idle 13 (grid0.coords t) = false := by decide +kernel
/-- At the points of case B, which keeps output 13's prior contents (reads it before covering, or covers it in part), the
    window's buffer is not FRESH: something was stored into it since the region's entry or its last write-back, idle points
    between or not (Lib/Pipeline/TableIdle.lean `Cfg.fresh`, by the table `freshTab0_13`). -/
theorem notFresh0_13_B : ∀ t : Fin cfg0.N, ¬cond0_0 (grid0.coords t) → cfg0.fresh 13 t.val = false := by
  intro t; rw [fresh0_13_eq t]; revert t; decide +kernel

/-! ## The kernel body on any staging memrefs: a subtype the run finds -/

/-- One staging buffer of output window 9, through which its contents are stated (`View.read_writes_of_cover`: the
    choice does not matter). -/
abbrev VO0_9 : View sig .tc .vmem S200x1024 .bf16 := (Memref.whole cc0_stg9_0 : Memref sig .tc .vmem S200x1024 .bf16).view
/-- One staging buffer of output window 10, through which its contents are stated (`View.read_writes_of_cover`: the
    choice does not matter). -/
abbrev VO0_10 : View sig .tc .vmem S16x200x128 .f32 := (Memref.whole cc0_stg10_0 : Memref sig .tc .vmem S16x200x128 .f32).view
/-- One staging buffer of output window 11, through which its contents are stated (`View.read_writes_of_cover`: the
    choice does not matter). -/
abbrev VO0_11 : View sig .tc .vmem S16x200x128 .f32 := (Memref.whole cc0_stg11_0 : Memref sig .tc .vmem S16x200x128 .f32).view
/-- One staging buffer of output window 12, through which its contents are stated (`View.read_writes_of_cover`: the
    choice does not matter). -/
abbrev VO0_12 : View sig .tc .vmem S200x2048 .fp8e4m3 := (Memref.whole cc0_stg12_0 : Memref sig .tc .vmem S200x2048 .fp8e4m3).view
/-- One staging buffer of output window 13, through which its contents are stated (`View.read_writes_of_cover`: the
    choice does not matter). -/
abbrev VO0_13 : View sig .tc .vmem S200x16 .f32 := (Memref.whole cc0_stg13_0 : Memref sig .tc .vmem S200x16 .f32).view
/-- Each window's current staging memref at point `t`, spelled as the pipeline passes it (`bodyAt0`), and its wholeness. -/
abbrev ms0_0 (t : Fin cfg0.N) : Memref sig .tc .vmem S200x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x200x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x200x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x200x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x200x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x4096 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x16x1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S16x1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2048x1024 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S200x1024 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S16x200x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S16x200x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S200x2048 .fp8e4m3 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S200x16 .f32 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S200x2048 .bf16 := Memref.whole cc0_scratch0
/-- The scratch `arg15` the kernel carries between points, as a view: what it holds is stated through it. -/
abbrev VS0_0 : View sig .tc .vmem S200x2048 .bf16 := scM0_0.view

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- A window whose buffer the body hands back as it found it, and whose stated contents are those: what the body owes for
    it at the point is the buffer at the stated contents, whether or not the point writes the block back. -/
theorem leaves_kept {c : Dev nD} (dat : Dat τ (Elt F) Unit ℕ (UR sig nD τ) ℕ cfg0 c) (w : Fin cfg0.W) (t : Fin cfg0.N)
    (h : ∀ d, dat.before w t d = dat.after w t) :
    dat.leavesExact w t = (owns (c : Thread nD τ) ((cfg0.win w).stage (cfg0.slots t w)) fullShare (dat.after w t) : sProp 𝕄) := by
  unfold Dat.leavesExact
  cases cfg0.idle w (cfg0.grid.coords t)
  · rfl
  cases (cfg0.win w).flush t
  · simp only [h]
    refine Idealize.SL.BI.Entails.antisymm
      (show iprop(∃ _d : (cfg0.win w).block.Idx → Elt F (cfg0.win w).elt, owns (c : Thread nD τ) ((cfg0.win w).stage (cfg0.slots t w)) fullShare (dat.after w t)) ⊢ _ from ?_)
      (show _ ⊢ iprop(∃ _d : (cfg0.win w).block.Idx → Elt F (cfg0.win w).elt, owns (c : Thread nD τ) ((cfg0.win w).stage (cfg0.slots t w)) fullShare (dat.after w t)) from ?_)
    · iintro ⟨%d, H⟩
      iexact H
    · iintro H
      iexists (dat.after w t)
      iexact H
  · rfl

end Cert.OutKernel.Hand

end
-- ==== Proof.OutRunA.lean ====
module

public import proofs.«01_k».proof.Proof.OutRuns

@[expose] public section

-- membership in a rectangle of production extents (`View.cover_of_tiled`): the elaborator's structural look
-- recurses once per coordinate of the long axes
set_option maxRecDepth 16384

noncomputable section

namespace Cert.OutKernel.Hand

open Cert.OutKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2108000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S200x1024 .bf16) (harg1 : arg1.IsWhole) (arg2 : Memref sig .tc .vmem S16x200x128 .f32) (harg2 : arg2.IsWhole) (arg3 : Memref sig .tc .vmem S16x200x128 .f32) (harg3 : arg3.IsWhole) (arg4 : Memref sig .tc .vmem S16x200x512 .bf16) (harg4 : arg4.IsWhole) (arg5 : Memref sig .tc .vmem S16x200x128 .f32) (harg5 : arg5.IsWhole) (arg6 : Memref sig .tc .vmem S512x4096 .fp8e4m3) (harg6 : arg6.IsWhole) (arg7 : Memref sig .tc .vmem S4x16x1x128 .f32) (harg7 : arg7.IsWhole) (arg8 : Memref sig .tc .vmem S16x1x1024 .f32) (harg8 : arg8.IsWhole) (arg9 : Memref sig .tc .vmem S2048x1024 .fp8e4m3) (harg9 : arg9.IsWhole) (arg10 : Memref sig .tc .vmem S200x1024 .bf16) (harg10 : arg10.IsWhole) (arg11 : Memref sig .tc .vmem S16x200x128 .f32) (harg11 : arg11.IsWhole) (arg12 : Memref sig .tc .vmem S16x200x128 .f32) (harg12 : arg12.IsWhole) (arg13 : Memref sig .tc .vmem S200x2048 .fp8e4m3) (harg13 : arg13.IsWhole) (arg14 : Memref sig .tc .vmem S200x16 .f32) (harg14 : arg14.IsWhole) (arg15 : Memref sig .tc .vmem S200x2048 .bf16) (harg15 : arg15.IsWhole) (hc0 : cond0_0 i)
    (x0 : Vec F S200x1024 .bf16) (x1 : Vec F S16x200x128 .f32) (x2 : Vec F S16x200x128 .f32) (x3 : Vec F S16x200x512 .bf16) (x4 : Vec F S16x200x128 .f32) (x5 : Vec F S512x4096 .fp8e4m3) (x6 : Vec F S4x16x1x128 .f32) (x7 : Vec F S16x1x1024 .f32) (x8 : Vec F S2048x1024 .fp8e4m3) :
    Σ' (L9 : List (View.Piece (Elt F) S200x1024 .bf16)), Σ' (L10 : List (View.Piece (Elt F) S16x200x128 .f32)), Σ' (L11 : List (View.Piece (Elt F) S16x200x128 .f32)), Σ' (L12 : List (View.Piece (Elt F) S200x2048 .fp8e4m3)), Σ' (L13 : List (View.Piece (Elt F) S200x16 .f32)), { LS0 : List (View.Piece (Elt F) S200x2048 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f LS0)) -∗ K ⟨⟩))
          ⊢ wp frame (wpE (defs₀ (F := F)) Variants.none c none) E (cc0_mla_out i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun E K => ?run⟩
  case run =>
    simp only [cc0_mla_out_eq_skeleton]; unfold cc0_mla_out_skel
    simp only [k0_part45_eq_skeleton, k0_part44_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part46_eq_skeleton, k0_part47_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact HS0

end Cert.OutKernel.Hand

end
-- ==== Proof.OutRunB.lean ====
module

public import proofs.«01_k».proof.Proof.OutRunA

@[expose] public section

-- membership in a rectangle of production extents (`View.cover_of_tiled`): the elaborator's structural look
-- recurses once per coordinate of the long axes
set_option maxRecDepth 16384

noncomputable section

namespace Cert.OutKernel.Hand

open Cert.OutKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, 3, 4, 5, 6), WITH the
    proof that on whole staging memrefs — the inputs' at their contents, the outputs it reads before covering (10, 11, 12, 13) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S200x1024 .bf16) (harg1 : arg1.IsWhole) (arg2 : Memref sig .tc .vmem S16x200x128 .f32) (harg2 : arg2.IsWhole) (arg3 : Memref sig .tc .vmem S16x200x128 .f32) (harg3 : arg3.IsWhole) (arg4 : Memref sig .tc .vmem S16x200x512 .bf16) (harg4 : arg4.IsWhole) (arg5 : Memref sig .tc .vmem S16x200x128 .f32) (harg5 : arg5.IsWhole) (arg6 : Memref sig .tc .vmem S512x4096 .fp8e4m3) (harg6 : arg6.IsWhole) (arg7 : Memref sig .tc .vmem S4x16x1x128 .f32) (harg7 : arg7.IsWhole) (arg8 : Memref sig .tc .vmem S16x1x1024 .f32) (harg8 : arg8.IsWhole) (arg9 : Memref sig .tc .vmem S2048x1024 .fp8e4m3) (harg9 : arg9.IsWhole) (arg10 : Memref sig .tc .vmem S200x1024 .bf16) (harg10 : arg10.IsWhole) (arg11 : Memref sig .tc .vmem S16x200x128 .f32) (harg11 : arg11.IsWhole) (arg12 : Memref sig .tc .vmem S16x200x128 .f32) (harg12 : arg12.IsWhole) (arg13 : Memref sig .tc .vmem S200x2048 .fp8e4m3) (harg13 : arg13.IsWhole) (arg14 : Memref sig .tc .vmem S200x16 .f32) (harg14 : arg14.IsWhole) (arg15 : Memref sig .tc .vmem S200x2048 .bf16) (harg15 : arg15.IsWhole) (hc0 : ¬cond0_0 i)
    (x0 : Vec F S200x1024 .bf16) (x1 : Vec F S16x200x128 .f32) (x2 : Vec F S16x200x128 .f32) (x3 : Vec F S16x200x512 .bf16) (x4 : Vec F S16x200x128 .f32) (x5 : Vec F S512x4096 .fp8e4m3) (x6 : Vec F S4x16x1x128 .f32) (x7 : Vec F S16x1x1024 .f32) (x8 : Vec F S2048x1024 .fp8e4m3) (xo10 : Vec F S16x200x128 .f32) (xo11 : Vec F S16x200x128 .f32) (xo12 : Vec F S200x2048 .fp8e4m3) (xo13 : Vec F S200x16 .f32) (xs0 : Vec F S200x2048 .bf16) :
    Σ' (L9 : List (View.Piece (Elt F) S200x1024 .bf16)), Σ' (L10 : List (View.Piece (Elt F) S16x200x128 .f32)), Σ' (L11 : List (View.Piece (Elt F) S16x200x128 .f32)), Σ' (L12 : List (View.Piece (Elt F) S200x2048 .fp8e4m3)), Σ' (L13 : List (View.Piece (Elt F) S200x16 .f32)), { LS0 : List (View.Piece (Elt F) S200x2048 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xo10 ∗ owns (c : Thread nD τ) arg12 fullShare xo11 ∗ owns (c : Thread nD τ) arg13 fullShare xo12 ∗ owns (c : Thread nD τ) arg14 fullShare xo13 ∗ owns (c : Thread nD τ) arg15 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xo10 ∗ owns (c : Thread nD τ) arg12 fullShare xo11 ∗ owns (c : Thread nD τ) arg13 fullShare xo12 ∗ owns (c : Thread nD τ) arg14 fullShare xo13 ∗ owns (c : Thread nD τ) arg15 fullShare xs0) -∗ K ⟨⟩))
          ⊢ wp frame (wpE (defs₀ (F := F)) Variants.none c none) E (cc0_mla_out i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, [], [], [], [], [], fun E K => ?run⟩
  case run =>
    simp only [cc0_mla_out_eq_skeleton]; unfold cc0_mla_out_skel
    simp only [k0_part45_eq_skeleton, k0_part46_eq_skeleton, k0_part47_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, ⟨%f13, %hf13, H13⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11; obtain rfl := harg13.eq_unread hf12; obtain rfl := harg14.eq_unread hf13; obtain rfl := harg15.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    iexists _; isplitr; · ipureintro; exact harg15.read_unread _
    iexact HS0

end Cert.OutKernel.Hand

end
-- ==== Proof.OutFrame.lean ====
module

public import proofs.«01_k».proof.Proof.OutRunB
public import Idealize.ShloMosaic.Lib.Claim

@[expose] public section

-- membership in a rectangle of production extents (`View.cover_of_tiled`): the elaborator's structural look
-- recurses once per coordinate of the long axes
set_option maxRecDepth 16384

noncomputable section

namespace Cert.OutKernel.Hand

open Cert.OutKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-- Case A's pieces for output 9 tile its block (1 store of `S200x1024`, checked by the kernel's evaluation: Lib/Ring.lean `Piece.tiledL`, linear in the pieces, through a loop's `@[irreducible]` trip theorem too), so they cover it. -/
theorem cover0_A_9 (c : Dev nD) (i : grid0.Coords) (arg1 : Memref sig .tc .vmem S200x1024 .bf16) (harg1 : arg1.IsWhole) (arg2 : Memref sig .tc .vmem S16x200x128 .f32) (harg2 : arg2.IsWhole) (arg3 : Memref sig .tc .vmem S16x200x128 .f32) (harg3 : arg3.IsWhole) (arg4 : Memref sig .tc .vmem S16x200x512 .bf16) (harg4 : arg4.IsWhole) (arg5 : Memref sig .tc .vmem S16x200x128 .f32) (harg5 : arg5.IsWhole) (arg6 : Memref sig .tc .vmem S512x4096 .fp8e4m3) (harg6 : arg6.IsWhole) (arg7 : Memref sig .tc .vmem S4x16x1x128 .f32) (harg7 : arg7.IsWhole) (arg8 : Memref sig .tc .vmem S16x1x1024 .f32) (harg8 : arg8.IsWhole) (arg9 : Memref sig .tc .vmem S2048x1024 .fp8e4m3) (harg9 : arg9.IsWhole) (arg10 : Memref sig .tc .vmem S200x1024 .bf16) (harg10 : arg10.IsWhole) (arg11 : Memref sig .tc .vmem S16x200x128 .f32) (harg11 : arg11.IsWhole) (arg12 : Memref sig .tc .vmem S16x200x128 .f32) (harg12 : arg12.IsWhole) (arg13 : Memref sig .tc .vmem S200x2048 .fp8e4m3) (harg13 : arg13.IsWhole) (arg14 : Memref sig .tc .vmem S200x16 .f32) (harg14 : arg14.IsWhole) (arg15 : Memref sig .tc .vmem S200x2048 .bf16) (harg15 : arg15.IsWhole) (hc0 : cond0_0 i)
    (x0 : Vec F S200x1024 .bf16) (x1 : Vec F S16x200x128 .f32) (x2 : Vec F S16x200x128 .f32) (x3 : Vec F S16x200x512 .bf16) (x4 : Vec F S16x200x128 .f32) (x5 : Vec F S512x4096 .fp8e4m3) (x6 : Vec F S4x16x1x128 .f32) (x7 : Vec F S16x1x1024 .f32) (x8 : Vec F S2048x1024 .fp8e4m3) (y : S200x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).1 S200x1024.size (by sl_kernel_rfl) y

/-- What case A leaves in output 9's staging buffer: its pieces read back over junk. -/
def out0_A_9 (c : Dev nD) (i : grid0.Coords) (arg1 : Memref sig .tc .vmem S200x1024 .bf16) (harg1 : arg1.IsWhole) (arg2 : Memref sig .tc .vmem S16x200x128 .f32) (harg2 : arg2.IsWhole) (arg3 : Memref sig .tc .vmem S16x200x128 .f32) (harg3 : arg3.IsWhole) (arg4 : Memref sig .tc .vmem S16x200x512 .bf16) (harg4 : arg4.IsWhole) (arg5 : Memref sig .tc .vmem S16x200x128 .f32) (harg5 : arg5.IsWhole) (arg6 : Memref sig .tc .vmem S512x4096 .fp8e4m3) (harg6 : arg6.IsWhole) (arg7 : Memref sig .tc .vmem S4x16x1x128 .f32) (harg7 : arg7.IsWhole) (arg8 : Memref sig .tc .vmem S16x1x1024 .f32) (harg8 : arg8.IsWhole) (arg9 : Memref sig .tc .vmem S2048x1024 .fp8e4m3) (harg9 : arg9.IsWhole) (arg10 : Memref sig .tc .vmem S200x1024 .bf16) (harg10 : arg10.IsWhole) (arg11 : Memref sig .tc .vmem S16x200x128 .f32) (harg11 : arg11.IsWhole) (arg12 : Memref sig .tc .vmem S16x200x128 .f32) (harg12 : arg12.IsWhole) (arg13 : Memref sig .tc .vmem S200x2048 .fp8e4m3) (harg13 : arg13.IsWhole) (arg14 : Memref sig .tc .vmem S200x16 .f32) (harg14 : arg14.IsWhole) (arg15 : Memref sig .tc .vmem S200x2048 .bf16) (harg15 : arg15.IsWhole) (hc0 : cond0_0 i)
    (x0 : Vec F S200x1024 .bf16) (x1 : Vec F S16x200x128 .f32) (x2 : Vec F S16x200x128 .f32) (x3 : Vec F S16x200x512 .bf16) (x4 : Vec F S16x200x128 .f32) (x5 : Vec F S512x4096 .fp8e4m3) (x6 : Vec F S4x16x1x128 .f32) (x7 : Vec F S16x1x1024 .f32) (x8 : Vec F S2048x1024 .fp8e4m3) : Vec F S200x1024 .bf16 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).1)

/-- Case A's pieces for output 10 tile its block (16 stores of `S1x200x128`, checked by the kernel's evaluation: Lib/Ring.lean `Piece.tiledL`, linear in the pieces, through a loop's `@[irreducible]` trip theorem too), so they cover it. -/
theorem cover0_A_10 (c : Dev nD) (i : grid0.Coords) (arg1 : Memref sig .tc .vmem S200x1024 .bf16) (harg1 : arg1.IsWhole) (arg2 : Memref sig .tc .vmem S16x200x128 .f32) (harg2 : arg2.IsWhole) (arg3 : Memref sig .tc .vmem S16x200x128 .f32) (harg3 : arg3.IsWhole) (arg4 : Memref sig .tc .vmem S16x200x512 .bf16) (harg4 : arg4.IsWhole) (arg5 : Memref sig .tc .vmem S16x200x128 .f32) (harg5 : arg5.IsWhole) (arg6 : Memref sig .tc .vmem S512x4096 .fp8e4m3) (harg6 : arg6.IsWhole) (arg7 : Memref sig .tc .vmem S4x16x1x128 .f32) (harg7 : arg7.IsWhole) (arg8 : Memref sig .tc .vmem S16x1x1024 .f32) (harg8 : arg8.IsWhole) (arg9 : Memref sig .tc .vmem S2048x1024 .fp8e4m3) (harg9 : arg9.IsWhole) (arg10 : Memref sig .tc .vmem S200x1024 .bf16) (harg10 : arg10.IsWhole) (arg11 : Memref sig .tc .vmem S16x200x128 .f32) (harg11 : arg11.IsWhole) (arg12 : Memref sig .tc .vmem S16x200x128 .f32) (harg12 : arg12.IsWhole) (arg13 : Memref sig .tc .vmem S200x2048 .fp8e4m3) (harg13 : arg13.IsWhole) (arg14 : Memref sig .tc .vmem S200x16 .f32) (harg14 : arg14.IsWhole) (arg15 : Memref sig .tc .vmem S200x2048 .bf16) (harg15 : arg15.IsWhole) (hc0 : cond0_0 i)
    (x0 : Vec F S200x1024 .bf16) (x1 : Vec F S16x200x128 .f32) (x2 : Vec F S16x200x128 .f32) (x3 : Vec F S16x200x512 .bf16) (x4 : Vec F S16x200x128 .f32) (x5 : Vec F S512x4096 .fp8e4m3) (x6 : Vec F S4x16x1x128 .f32) (x7 : Vec F S16x1x1024 .f32) (x8 : Vec F S2048x1024 .fp8e4m3) (y : S16x200x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.1 S1x200x128.size (by sl_kernel_rfl) y

/-- What case A leaves in output 10's staging buffer: its pieces read back over junk. -/
def out0_A_10 (c : Dev nD) (i : grid0.Coords) (arg1 : Memref sig .tc .vmem S200x1024 .bf16) (harg1 : arg1.IsWhole) (arg2 : Memref sig .tc .vmem S16x200x128 .f32) (harg2 : arg2.IsWhole) (arg3 : Memref sig .tc .vmem S16x200x128 .f32) (harg3 : arg3.IsWhole) (arg4 : Memref sig .tc .vmem S16x200x512 .bf16) (harg4 : arg4.IsWhole) (arg5 : Memref sig .tc .vmem S16x200x128 .f32) (harg5 : arg5.IsWhole) (arg6 : Memref sig .tc .vmem S512x4096 .fp8e4m3) (harg6 : arg6.IsWhole) (arg7 : Memref sig .tc .vmem S4x16x1x128 .f32) (harg7 : arg7.IsWhole) (arg8 : Memref sig .tc .vmem S16x1x1024 .f32) (harg8 : arg8.IsWhole) (arg9 : Memref sig .tc .vmem S2048x1024 .fp8e4m3) (harg9 : arg9.IsWhole) (arg10 : Memref sig .tc .vmem S200x1024 .bf16) (harg10 : arg10.IsWhole) (arg11 : Memref sig .tc .vmem S16x200x128 .f32) (harg11 : arg11.IsWhole) (arg12 : Memref sig .tc .vmem S16x200x128 .f32) (harg12 : arg12.IsWhole) (arg13 : Memref sig .tc .vmem S200x2048 .fp8e4m3) (harg13 : arg13.IsWhole) (arg14 : Memref sig .tc .vmem S200x16 .f32) (harg14 : arg14.IsWhole) (arg15 : Memref sig .tc .vmem S200x2048 .bf16) (harg15 : arg15.IsWhole) (hc0 : cond0_0 i)
    (x0 : Vec F S200x1024 .bf16) (x1 : Vec F S16x200x128 .f32) (x2 : Vec F S16x200x128 .f32) (x3 : Vec F S16x200x512 .bf16) (x4 : Vec F S16x200x128 .f32) (x5 : Vec F S512x4096 .fp8e4m3) (x6 : Vec F S4x16x1x128 .f32) (x7 : Vec F S16x1x1024 .f32) (x8 : Vec F S2048x1024 .fp8e4m3) : Vec F S16x200x128 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.1)

/-- Case A's pieces for output 11 tile its block (16 stores of `S1x200x128`, checked by the kernel's evaluation: Lib/Ring.lean `Piece.tiledL`, linear in the pieces, through a loop's `@[irreducible]` trip theorem too), so they cover it. -/
theorem cover0_A_11 (c : Dev nD) (i : grid0.Coords) (arg1 : Memref sig .tc .vmem S200x1024 .bf16) (harg1 : arg1.IsWhole) (arg2 : Memref sig .tc .vmem S16x200x128 .f32) (harg2 : arg2.IsWhole) (arg3 : Memref sig .tc .vmem S16x200x128 .f32) (harg3 : arg3.IsWhole) (arg4 : Memref sig .tc .vmem S16x200x512 .bf16) (harg4 : arg4.IsWhole) (arg5 : Memref sig .tc .vmem S16x200x128 .f32) (harg5 : arg5.IsWhole) (arg6 : Memref sig .tc .vmem S512x4096 .fp8e4m3) (harg6 : arg6.IsWhole) (arg7 : Memref sig .tc .vmem S4x16x1x128 .f32) (harg7 : arg7.IsWhole) (arg8 : Memref sig .tc .vmem S16x1x1024 .f32) (harg8 : arg8.IsWhole) (arg9 : Memref sig .tc .vmem S2048x1024 .fp8e4m3) (harg9 : arg9.IsWhole) (arg10 : Memref sig .tc .vmem S200x1024 .bf16) (harg10 : arg10.IsWhole) (arg11 : Memref sig .tc .vmem S16x200x128 .f32) (harg11 : arg11.IsWhole) (arg12 : Memref sig .tc .vmem S16x200x128 .f32) (harg12 : arg12.IsWhole) (arg13 : Memref sig .tc .vmem S200x2048 .fp8e4m3) (harg13 : arg13.IsWhole) (arg14 : Memref sig .tc .vmem S200x16 .f32) (harg14 : arg14.IsWhole) (arg15 : Memref sig .tc .vmem S200x2048 .bf16) (harg15 : arg15.IsWhole) (hc0 : cond0_0 i)
    (x0 : Vec F S200x1024 .bf16) (x1 : Vec F S16x200x128 .f32) (x2 : Vec F S16x200x128 .f32) (x3 : Vec F S16x200x512 .bf16) (x4 : Vec F S16x200x128 .f32) (x5 : Vec F S512x4096 .fp8e4m3) (x6 : Vec F S4x16x1x128 .f32) (x7 : Vec F S16x1x1024 .f32) (x8 : Vec F S2048x1024 .fp8e4m3) (y : S16x200x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.1 S1x200x128.size (by sl_kernel_rfl) y

/-- What case A leaves in output 11's staging buffer: its pieces read back over junk. -/
def out0_A_11 (c : Dev nD) (i : grid0.Coords) (arg1 : Memref sig .tc .vmem S200x1024 .bf16) (harg1 : arg1.IsWhole) (arg2 : Memref sig .tc .vmem S16x200x128 .f32) (harg2 : arg2.IsWhole) (arg3 : Memref sig .tc .vmem S16x200x128 .f32) (harg3 : arg3.IsWhole) (arg4 : Memref sig .tc .vmem S16x200x512 .bf16) (harg4 : arg4.IsWhole) (arg5 : Memref sig .tc .vmem S16x200x128 .f32) (harg5 : arg5.IsWhole) (arg6 : Memref sig .tc .vmem S512x4096 .fp8e4m3) (harg6 : arg6.IsWhole) (arg7 : Memref sig .tc .vmem S4x16x1x128 .f32) (harg7 : arg7.IsWhole) (arg8 : Memref sig .tc .vmem S16x1x1024 .f32) (harg8 : arg8.IsWhole) (arg9 : Memref sig .tc .vmem S2048x1024 .fp8e4m3) (harg9 : arg9.IsWhole) (arg10 : Memref sig .tc .vmem S200x1024 .bf16) (harg10 : arg10.IsWhole) (arg11 : Memref sig .tc .vmem S16x200x128 .f32) (harg11 : arg11.IsWhole) (arg12 : Memref sig .tc .vmem S16x200x128 .f32) (harg12 : arg12.IsWhole) (arg13 : Memref sig .tc .vmem S200x2048 .fp8e4m3) (harg13 : arg13.IsWhole) (arg14 : Memref sig .tc .vmem S200x16 .f32) (harg14 : arg14.IsWhole) (arg15 : Memref sig .tc .vmem S200x2048 .bf16) (harg15 : arg15.IsWhole) (hc0 : cond0_0 i)
    (x0 : Vec F S200x1024 .bf16) (x1 : Vec F S16x200x128 .f32) (x2 : Vec F S16x200x128 .f32) (x3 : Vec F S16x200x512 .bf16) (x4 : Vec F S16x200x128 .f32) (x5 : Vec F S512x4096 .fp8e4m3) (x6 : Vec F S4x16x1x128 .f32) (x7 : Vec F S16x1x1024 .f32) (x8 : Vec F S2048x1024 .fp8e4m3) : Vec F S16x200x128 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.1)

/-- Case A's pieces for output 12 tile its block (16 stores of `S200x128`, checked by the kernel's evaluation: Lib/Ring.lean `Piece.tiledL`, linear in the pieces, through a loop's `@[irreducible]` trip theorem too), so they cover it. -/
theorem cover0_A_12 (c : Dev nD) (i : grid0.Coords) (arg1 : Memref sig .tc .vmem S200x1024 .bf16) (harg1 : arg1.IsWhole) (arg2 : Memref sig .tc .vmem S16x200x128 .f32) (harg2 : arg2.IsWhole) (arg3 : Memref sig .tc .vmem S16x200x128 .f32) (harg3 : arg3.IsWhole) (arg4 : Memref sig .tc .vmem S16x200x512 .bf16) (harg4 : arg4.IsWhole) (arg5 : Memref sig .tc .vmem S16x200x128 .f32) (harg5 : arg5.IsWhole) (arg6 : Memref sig .tc .vmem S512x4096 .fp8e4m3) (harg6 : arg6.IsWhole) (arg7 : Memref sig .tc .vmem S4x16x1x128 .f32) (harg7 : arg7.IsWhole) (arg8 : Memref sig .tc .vmem S16x1x1024 .f32) (harg8 : arg8.IsWhole) (arg9 : Memref sig .tc .vmem S2048x1024 .fp8e4m3) (harg9 : arg9.IsWhole) (arg10 : Memref sig .tc .vmem S200x1024 .bf16) (harg10 : arg10.IsWhole) (arg11 : Memref sig .tc .vmem S16x200x128 .f32) (harg11 : arg11.IsWhole) (arg12 : Memref sig .tc .vmem S16x200x128 .f32) (harg12 : arg12.IsWhole) (arg13 : Memref sig .tc .vmem S200x2048 .fp8e4m3) (harg13 : arg13.IsWhole) (arg14 : Memref sig .tc .vmem S200x16 .f32) (harg14 : arg14.IsWhole) (arg15 : Memref sig .tc .vmem S200x2048 .bf16) (harg15 : arg15.IsWhole) (hc0 : cond0_0 i)
    (x0 : Vec F S200x1024 .bf16) (x1 : Vec F S16x200x128 .f32) (x2 : Vec F S16x200x128 .f32) (x3 : Vec F S16x200x512 .bf16) (x4 : Vec F S16x200x128 .f32) (x5 : Vec F S512x4096 .fp8e4m3) (x6 : Vec F S4x16x1x128 .f32) (x7 : Vec F S16x1x1024 .f32) (x8 : Vec F S2048x1024 .fp8e4m3) (y : S200x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.2.1 S200x128.size (by sl_kernel_rfl) y

/-- What case A leaves in output 12's staging buffer: its pieces read back over junk. -/
def out0_A_12 (c : Dev nD) (i : grid0.Coords) (arg1 : Memref sig .tc .vmem S200x1024 .bf16) (harg1 : arg1.IsWhole) (arg2 : Memref sig .tc .vmem S16x200x128 .f32) (harg2 : arg2.IsWhole) (arg3 : Memref sig .tc .vmem S16x200x128 .f32) (harg3 : arg3.IsWhole) (arg4 : Memref sig .tc .vmem S16x200x512 .bf16) (harg4 : arg4.IsWhole) (arg5 : Memref sig .tc .vmem S16x200x128 .f32) (harg5 : arg5.IsWhole) (arg6 : Memref sig .tc .vmem S512x4096 .fp8e4m3) (harg6 : arg6.IsWhole) (arg7 : Memref sig .tc .vmem S4x16x1x128 .f32) (harg7 : arg7.IsWhole) (arg8 : Memref sig .tc .vmem S16x1x1024 .f32) (harg8 : arg8.IsWhole) (arg9 : Memref sig .tc .vmem S2048x1024 .fp8e4m3) (harg9 : arg9.IsWhole) (arg10 : Memref sig .tc .vmem S200x1024 .bf16) (harg10 : arg10.IsWhole) (arg11 : Memref sig .tc .vmem S16x200x128 .f32) (harg11 : arg11.IsWhole) (arg12 : Memref sig .tc .vmem S16x200x128 .f32) (harg12 : arg12.IsWhole) (arg13 : Memref sig .tc .vmem S200x2048 .fp8e4m3) (harg13 : arg13.IsWhole) (arg14 : Memref sig .tc .vmem S200x16 .f32) (harg14 : arg14.IsWhole) (arg15 : Memref sig .tc .vmem S200x2048 .bf16) (harg15 : arg15.IsWhole) (hc0 : cond0_0 i)
    (x0 : Vec F S200x1024 .bf16) (x1 : Vec F S16x200x128 .f32) (x2 : Vec F S16x200x128 .f32) (x3 : Vec F S16x200x512 .bf16) (x4 : Vec F S16x200x128 .f32) (x5 : Vec F S512x4096 .fp8e4m3) (x6 : Vec F S4x16x1x128 .f32) (x7 : Vec F S16x1x1024 .f32) (x8 : Vec F S2048x1024 .fp8e4m3) : Vec F S200x2048 .fp8e4m3 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.2.1)

/-- Case A's pieces for output 13 tile its block (1 store of `S200x16`, checked by the kernel's evaluation: Lib/Ring.lean `Piece.tiledL`, linear in the pieces, through a loop's `@[irreducible]` trip theorem too), so they cover it. -/
theorem cover0_A_13 (c : Dev nD) (i : grid0.Coords) (arg1 : Memref sig .tc .vmem S200x1024 .bf16) (harg1 : arg1.IsWhole) (arg2 : Memref sig .tc .vmem S16x200x128 .f32) (harg2 : arg2.IsWhole) (arg3 : Memref sig .tc .vmem S16x200x128 .f32) (harg3 : arg3.IsWhole) (arg4 : Memref sig .tc .vmem S16x200x512 .bf16) (harg4 : arg4.IsWhole) (arg5 : Memref sig .tc .vmem S16x200x128 .f32) (harg5 : arg5.IsWhole) (arg6 : Memref sig .tc .vmem S512x4096 .fp8e4m3) (harg6 : arg6.IsWhole) (arg7 : Memref sig .tc .vmem S4x16x1x128 .f32) (harg7 : arg7.IsWhole) (arg8 : Memref sig .tc .vmem S16x1x1024 .f32) (harg8 : arg8.IsWhole) (arg9 : Memref sig .tc .vmem S2048x1024 .fp8e4m3) (harg9 : arg9.IsWhole) (arg10 : Memref sig .tc .vmem S200x1024 .bf16) (harg10 : arg10.IsWhole) (arg11 : Memref sig .tc .vmem S16x200x128 .f32) (harg11 : arg11.IsWhole) (arg12 : Memref sig .tc .vmem S16x200x128 .f32) (harg12 : arg12.IsWhole) (arg13 : Memref sig .tc .vmem S200x2048 .fp8e4m3) (harg13 : arg13.IsWhole) (arg14 : Memref sig .tc .vmem S200x16 .f32) (harg14 : arg14.IsWhole) (arg15 : Memref sig .tc .vmem S200x2048 .bf16) (harg15 : arg15.IsWhole) (hc0 : cond0_0 i)
    (x0 : Vec F S200x1024 .bf16) (x1 : Vec F S16x200x128 .f32) (x2 : Vec F S16x200x128 .f32) (x3 : Vec F S16x200x512 .bf16) (x4 : Vec F S16x200x128 .f32) (x5 : Vec F S512x4096 .fp8e4m3) (x6 : Vec F S4x16x1x128 .f32) (x7 : Vec F S16x1x1024 .f32) (x8 : Vec F S2048x1024 .fp8e4m3) (y : S200x16.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.2.2.1 S200x16.size (by sl_kernel_rfl) y

/-- What case A leaves in output 13's staging buffer: its pieces read back over junk. -/
def out0_A_13 (c : Dev nD) (i : grid0.Coords) (arg1 : Memref sig .tc .vmem S200x1024 .bf16) (harg1 : arg1.IsWhole) (arg2 : Memref sig .tc .vmem S16x200x128 .f32) (harg2 : arg2.IsWhole) (arg3 : Memref sig .tc .vmem S16x200x128 .f32) (harg3 : arg3.IsWhole) (arg4 : Memref sig .tc .vmem S16x200x512 .bf16) (harg4 : arg4.IsWhole) (arg5 : Memref sig .tc .vmem S16x200x128 .f32) (harg5 : arg5.IsWhole) (arg6 : Memref sig .tc .vmem S512x4096 .fp8e4m3) (harg6 : arg6.IsWhole) (arg7 : Memref sig .tc .vmem S4x16x1x128 .f32) (harg7 : arg7.IsWhole) (arg8 : Memref sig .tc .vmem S16x1x1024 .f32) (harg8 : arg8.IsWhole) (arg9 : Memref sig .tc .vmem S2048x1024 .fp8e4m3) (harg9 : arg9.IsWhole) (arg10 : Memref sig .tc .vmem S200x1024 .bf16) (harg10 : arg10.IsWhole) (arg11 : Memref sig .tc .vmem S16x200x128 .f32) (harg11 : arg11.IsWhole) (arg12 : Memref sig .tc .vmem S16x200x128 .f32) (harg12 : arg12.IsWhole) (arg13 : Memref sig .tc .vmem S200x2048 .fp8e4m3) (harg13 : arg13.IsWhole) (arg14 : Memref sig .tc .vmem S200x16 .f32) (harg14 : arg14.IsWhole) (arg15 : Memref sig .tc .vmem S200x2048 .bf16) (harg15 : arg15.IsWhole) (hc0 : cond0_0 i)
    (x0 : Vec F S200x1024 .bf16) (x1 : Vec F S16x200x128 .f32) (x2 : Vec F S16x200x128 .f32) (x3 : Vec F S16x200x512 .bf16) (x4 : Vec F S16x200x128 .f32) (x5 : Vec F S512x4096 .fp8e4m3) (x6 : Vec F S4x16x1x128 .f32) (x7 : Vec F S16x1x1024 .f32) (x8 : Vec F S2048x1024 .fp8e4m3) : Vec F S200x16 .f32 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.2.2.1)

/-- Case A's pieces for scratch `arg15`, which the kernel carries between points, cover it: 16 pieces of `S200x128` tiling it (Lib/Ring.lean `Piece.tiledL`). -/
theorem scover0_A_0 (c : Dev nD) (i : grid0.Coords) (arg1 : Memref sig .tc .vmem S200x1024 .bf16) (harg1 : arg1.IsWhole) (arg2 : Memref sig .tc .vmem S16x200x128 .f32) (harg2 : arg2.IsWhole) (arg3 : Memref sig .tc .vmem S16x200x128 .f32) (harg3 : arg3.IsWhole) (arg4 : Memref sig .tc .vmem S16x200x512 .bf16) (harg4 : arg4.IsWhole) (arg5 : Memref sig .tc .vmem S16x200x128 .f32) (harg5 : arg5.IsWhole) (arg6 : Memref sig .tc .vmem S512x4096 .fp8e4m3) (harg6 : arg6.IsWhole) (arg7 : Memref sig .tc .vmem S4x16x1x128 .f32) (harg7 : arg7.IsWhole) (arg8 : Memref sig .tc .vmem S16x1x1024 .f32) (harg8 : arg8.IsWhole) (arg9 : Memref sig .tc .vmem S2048x1024 .fp8e4m3) (harg9 : arg9.IsWhole) (arg10 : Memref sig .tc .vmem S200x1024 .bf16) (harg10 : arg10.IsWhole) (arg11 : Memref sig .tc .vmem S16x200x128 .f32) (harg11 : arg11.IsWhole) (arg12 : Memref sig .tc .vmem S16x200x128 .f32) (harg12 : arg12.IsWhole) (arg13 : Memref sig .tc .vmem S200x2048 .fp8e4m3) (harg13 : arg13.IsWhole) (arg14 : Memref sig .tc .vmem S200x16 .f32) (harg14 : arg14.IsWhole) (arg15 : Memref sig .tc .vmem S200x2048 .bf16) (harg15 : arg15.IsWhole) (hc0 : cond0_0 i)
    (x0 : Vec F S200x1024 .bf16) (x1 : Vec F S16x200x128 .f32) (x2 : Vec F S16x200x128 .f32) (x3 : Vec F S16x200x512 .bf16) (x4 : Vec F S16x200x128 .f32) (x5 : Vec F S512x4096 .fp8e4m3) (x6 : Vec F S4x16x1x128 .f32) (x7 : Vec F S16x1x1024 .f32) (x8 : Vec F S2048x1024 .fp8e4m3) (y : S200x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.2.2.2.1 S200x128.size (by sl_kernel_rfl) y

/-- What case A leaves in scratch `arg15`: its pieces read back over junk. -/
def sout0_A_0 (c : Dev nD) (i : grid0.Coords) (arg1 : Memref sig .tc .vmem S200x1024 .bf16) (harg1 : arg1.IsWhole) (arg2 : Memref sig .tc .vmem S16x200x128 .f32) (harg2 : arg2.IsWhole) (arg3 : Memref sig .tc .vmem S16x200x128 .f32) (harg3 : arg3.IsWhole) (arg4 : Memref sig .tc .vmem S16x200x512 .bf16) (harg4 : arg4.IsWhole) (arg5 : Memref sig .tc .vmem S16x200x128 .f32) (harg5 : arg5.IsWhole) (arg6 : Memref sig .tc .vmem S512x4096 .fp8e4m3) (harg6 : arg6.IsWhole) (arg7 : Memref sig .tc .vmem S4x16x1x128 .f32) (harg7 : arg7.IsWhole) (arg8 : Memref sig .tc .vmem S16x1x1024 .f32) (harg8 : arg8.IsWhole) (arg9 : Memref sig .tc .vmem S2048x1024 .fp8e4m3) (harg9 : arg9.IsWhole) (arg10 : Memref sig .tc .vmem S200x1024 .bf16) (harg10 : arg10.IsWhole) (arg11 : Memref sig .tc .vmem S16x200x128 .f32) (harg11 : arg11.IsWhole) (arg12 : Memref sig .tc .vmem S16x200x128 .f32) (harg12 : arg12.IsWhole) (arg13 : Memref sig .tc .vmem S200x2048 .fp8e4m3) (harg13 : arg13.IsWhole) (arg14 : Memref sig .tc .vmem S200x16 .f32) (harg14 : arg14.IsWhole) (arg15 : Memref sig .tc .vmem S200x2048 .bf16) (harg15 : arg15.IsWhole) (hc0 : cond0_0 i)
    (x0 : Vec F S200x1024 .bf16) (x1 : Vec F S16x200x128 .f32) (x2 : Vec F S16x200x128 .f32) (x3 : Vec F S16x200x512 .bf16) (x4 : Vec F S16x200x128 .f32) (x5 : Vec F S512x4096 .fp8e4m3) (x6 : Vec F S4x16x1x128 .f32) (x7 : Vec F S16x1x1024 .f32) (x8 : Vec F S2048x1024 .fp8e4m3) : Vec F S200x2048 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.2.2.2.1)

/-- Case B's pieces for output 9 tile its block (1 store of `S200x1024`, checked by the kernel's evaluation: Lib/Ring.lean `Piece.tiledL`, linear in the pieces, through a loop's `@[irreducible]` trip theorem too), so they cover it. -/
theorem cover0_B_9 (c : Dev nD) (i : grid0.Coords) (arg1 : Memref sig .tc .vmem S200x1024 .bf16) (harg1 : arg1.IsWhole) (arg2 : Memref sig .tc .vmem S16x200x128 .f32) (harg2 : arg2.IsWhole) (arg3 : Memref sig .tc .vmem S16x200x128 .f32) (harg3 : arg3.IsWhole) (arg4 : Memref sig .tc .vmem S16x200x512 .bf16) (harg4 : arg4.IsWhole) (arg5 : Memref sig .tc .vmem S16x200x128 .f32) (harg5 : arg5.IsWhole) (arg6 : Memref sig .tc .vmem S512x4096 .fp8e4m3) (harg6 : arg6.IsWhole) (arg7 : Memref sig .tc .vmem S4x16x1x128 .f32) (harg7 : arg7.IsWhole) (arg8 : Memref sig .tc .vmem S16x1x1024 .f32) (harg8 : arg8.IsWhole) (arg9 : Memref sig .tc .vmem S2048x1024 .fp8e4m3) (harg9 : arg9.IsWhole) (arg10 : Memref sig .tc .vmem S200x1024 .bf16) (harg10 : arg10.IsWhole) (arg11 : Memref sig .tc .vmem S16x200x128 .f32) (harg11 : arg11.IsWhole) (arg12 : Memref sig .tc .vmem S16x200x128 .f32) (harg12 : arg12.IsWhole) (arg13 : Memref sig .tc .vmem S200x2048 .fp8e4m3) (harg13 : arg13.IsWhole) (arg14 : Memref sig .tc .vmem S200x16 .f32) (harg14 : arg14.IsWhole) (arg15 : Memref sig .tc .vmem S200x2048 .bf16) (harg15 : arg15.IsWhole) (hc0 : ¬cond0_0 i)
    (x0 : Vec F S200x1024 .bf16) (x1 : Vec F S16x200x128 .f32) (x2 : Vec F S16x200x128 .f32) (x3 : Vec F S16x200x512 .bf16) (x4 : Vec F S16x200x128 .f32) (x5 : Vec F S512x4096 .fp8e4m3) (x6 : Vec F S4x16x1x128 .f32) (x7 : Vec F S16x1x1024 .f32) (x8 : Vec F S2048x1024 .fp8e4m3) (xo10 : Vec F S16x200x128 .f32) (xo11 : Vec F S16x200x128 .f32) (xo12 : Vec F S200x2048 .fp8e4m3) (xo13 : Vec F S200x16 .f32) (xs0 : Vec F S200x2048 .bf16) (y : S200x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xo12 xo13 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xo12 xo13 xs0).1 S200x1024.size (by sl_kernel_rfl) y

/-- What case B leaves in output 9's staging buffer: its pieces read back over junk. -/
def out0_B_9 (c : Dev nD) (i : grid0.Coords) (arg1 : Memref sig .tc .vmem S200x1024 .bf16) (harg1 : arg1.IsWhole) (arg2 : Memref sig .tc .vmem S16x200x128 .f32) (harg2 : arg2.IsWhole) (arg3 : Memref sig .tc .vmem S16x200x128 .f32) (harg3 : arg3.IsWhole) (arg4 : Memref sig .tc .vmem S16x200x512 .bf16) (harg4 : arg4.IsWhole) (arg5 : Memref sig .tc .vmem S16x200x128 .f32) (harg5 : arg5.IsWhole) (arg6 : Memref sig .tc .vmem S512x4096 .fp8e4m3) (harg6 : arg6.IsWhole) (arg7 : Memref sig .tc .vmem S4x16x1x128 .f32) (harg7 : arg7.IsWhole) (arg8 : Memref sig .tc .vmem S16x1x1024 .f32) (harg8 : arg8.IsWhole) (arg9 : Memref sig .tc .vmem S2048x1024 .fp8e4m3) (harg9 : arg9.IsWhole) (arg10 : Memref sig .tc .vmem S200x1024 .bf16) (harg10 : arg10.IsWhole) (arg11 : Memref sig .tc .vmem S16x200x128 .f32) (harg11 : arg11.IsWhole) (arg12 : Memref sig .tc .vmem S16x200x128 .f32) (harg12 : arg12.IsWhole) (arg13 : Memref sig .tc .vmem S200x2048 .fp8e4m3) (harg13 : arg13.IsWhole) (arg14 : Memref sig .tc .vmem S200x16 .f32) (harg14 : arg14.IsWhole) (arg15 : Memref sig .tc .vmem S200x2048 .bf16) (harg15 : arg15.IsWhole) (hc0 : ¬cond0_0 i)
    (x0 : Vec F S200x1024 .bf16) (x1 : Vec F S16x200x128 .f32) (x2 : Vec F S16x200x128 .f32) (x3 : Vec F S16x200x512 .bf16) (x4 : Vec F S16x200x128 .f32) (x5 : Vec F S512x4096 .fp8e4m3) (x6 : Vec F S4x16x1x128 .f32) (x7 : Vec F S16x1x1024 .f32) (x8 : Vec F S2048x1024 .fp8e4m3) (xo10 : Vec F S16x200x128 .f32) (xo11 : Vec F S16x200x128 .f32) (xo12 : Vec F S200x2048 .fp8e4m3) (xo13 : Vec F S200x16 .f32) (xs0 : Vec F S200x2048 .bf16) : Vec F S200x1024 .bf16 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xo12 xo13 xs0).1)

/-- Case B stores nothing into output 10, a live window: its staging buffer holds what the point before left. -/
def out0_B_10 (c : Dev nD) (i : grid0.Coords) (arg1 : Memref sig .tc .vmem S200x1024 .bf16) (harg1 : arg1.IsWhole) (arg2 : Memref sig .tc .vmem S16x200x128 .f32) (harg2 : arg2.IsWhole) (arg3 : Memref sig .tc .vmem S16x200x128 .f32) (harg3 : arg3.IsWhole) (arg4 : Memref sig .tc .vmem S16x200x512 .bf16) (harg4 : arg4.IsWhole) (arg5 : Memref sig .tc .vmem S16x200x128 .f32) (harg5 : arg5.IsWhole) (arg6 : Memref sig .tc .vmem S512x4096 .fp8e4m3) (harg6 : arg6.IsWhole) (arg7 : Memref sig .tc .vmem S4x16x1x128 .f32) (harg7 : arg7.IsWhole) (arg8 : Memref sig .tc .vmem S16x1x1024 .f32) (harg8 : arg8.IsWhole) (arg9 : Memref sig .tc .vmem S2048x1024 .fp8e4m3) (harg9 : arg9.IsWhole) (arg10 : Memref sig .tc .vmem S200x1024 .bf16) (harg10 : arg10.IsWhole) (arg11 : Memref sig .tc .vmem S16x200x128 .f32) (harg11 : arg11.IsWhole) (arg12 : Memref sig .tc .vmem S16x200x128 .f32) (harg12 : arg12.IsWhole) (arg13 : Memref sig .tc .vmem S200x2048 .fp8e4m3) (harg13 : arg13.IsWhole) (arg14 : Memref sig .tc .vmem S200x16 .f32) (harg14 : arg14.IsWhole) (arg15 : Memref sig .tc .vmem S200x2048 .bf16) (harg15 : arg15.IsWhole) (hc0 : ¬cond0_0 i)
    (x0 : Vec F S200x1024 .bf16) (x1 : Vec F S16x200x128 .f32) (x2 : Vec F S16x200x128 .f32) (x3 : Vec F S16x200x512 .bf16) (x4 : Vec F S16x200x128 .f32) (x5 : Vec F S512x4096 .fp8e4m3) (x6 : Vec F S4x16x1x128 .f32) (x7 : Vec F S16x1x1024 .f32) (x8 : Vec F S2048x1024 .fp8e4m3) (xo10 : Vec F S16x200x128 .f32) (xo11 : Vec F S16x200x128 .f32) (xo12 : Vec F S200x2048 .fp8e4m3) (xo13 : Vec F S200x16 .f32) (xs0 : Vec F S200x2048 .bf16) : Vec F S16x200x128 .f32 := xo10

/-- Case B stores nothing into output 11, a live window: its staging buffer holds what the point before left. -/
def out0_B_11 (c : Dev nD) (i : grid0.Coords) (arg1 : Memref sig .tc .vmem S200x1024 .bf16) (harg1 : arg1.IsWhole) (arg2 : Memref sig .tc .vmem S16x200x128 .f32) (harg2 : arg2.IsWhole) (arg3 : Memref sig .tc .vmem S16x200x128 .f32) (harg3 : arg3.IsWhole) (arg4 : Memref sig .tc .vmem S16x200x512 .bf16) (harg4 : arg4.IsWhole) (arg5 : Memref sig .tc .vmem S16x200x128 .f32) (harg5 : arg5.IsWhole) (arg6 : Memref sig .tc .vmem S512x4096 .fp8e4m3) (harg6 : arg6.IsWhole) (arg7 : Memref sig .tc .vmem S4x16x1x128 .f32) (harg7 : arg7.IsWhole) (arg8 : Memref sig .tc .vmem S16x1x1024 .f32) (harg8 : arg8.IsWhole) (arg9 : Memref sig .tc .vmem S2048x1024 .fp8e4m3) (harg9 : arg9.IsWhole) (arg10 : Memref sig .tc .vmem S200x1024 .bf16) (harg10 : arg10.IsWhole) (arg11 : Memref sig .tc .vmem S16x200x128 .f32) (harg11 : arg11.IsWhole) (arg12 : Memref sig .tc .vmem S16x200x128 .f32) (harg12 : arg12.IsWhole) (arg13 : Memref sig .tc .vmem S200x2048 .fp8e4m3) (harg13 : arg13.IsWhole) (arg14 : Memref sig .tc .vmem S200x16 .f32) (harg14 : arg14.IsWhole) (arg15 : Memref sig .tc .vmem S200x2048 .bf16) (harg15 : arg15.IsWhole) (hc0 : ¬cond0_0 i)
    (x0 : Vec F S200x1024 .bf16) (x1 : Vec F S16x200x128 .f32) (x2 : Vec F S16x200x128 .f32) (x3 : Vec F S16x200x512 .bf16) (x4 : Vec F S16x200x128 .f32) (x5 : Vec F S512x4096 .fp8e4m3) (x6 : Vec F S4x16x1x128 .f32) (x7 : Vec F S16x1x1024 .f32) (x8 : Vec F S2048x1024 .fp8e4m3) (xo10 : Vec F S16x200x128 .f32) (xo11 : Vec F S16x200x128 .f32) (xo12 : Vec F S200x2048 .fp8e4m3) (xo13 : Vec F S200x16 .f32) (xs0 : Vec F S200x2048 .bf16) : Vec F S16x200x128 .f32 := xo11

/-- Case B stores nothing into output 12, a live window: its staging buffer holds what the point before left. -/
def out0_B_12 (c : Dev nD) (i : grid0.Coords) (arg1 : Memref sig .tc .vmem S200x1024 .bf16) (harg1 : arg1.IsWhole) (arg2 : Memref sig .tc .vmem S16x200x128 .f32) (harg2 : arg2.IsWhole) (arg3 : Memref sig .tc .vmem S16x200x128 .f32) (harg3 : arg3.IsWhole) (arg4 : Memref sig .tc .vmem S16x200x512 .bf16) (harg4 : arg4.IsWhole) (arg5 : Memref sig .tc .vmem S16x200x128 .f32) (harg5 : arg5.IsWhole) (arg6 : Memref sig .tc .vmem S512x4096 .fp8e4m3) (harg6 : arg6.IsWhole) (arg7 : Memref sig .tc .vmem S4x16x1x128 .f32) (harg7 : arg7.IsWhole) (arg8 : Memref sig .tc .vmem S16x1x1024 .f32) (harg8 : arg8.IsWhole) (arg9 : Memref sig .tc .vmem S2048x1024 .fp8e4m3) (harg9 : arg9.IsWhole) (arg10 : Memref sig .tc .vmem S200x1024 .bf16) (harg10 : arg10.IsWhole) (arg11 : Memref sig .tc .vmem S16x200x128 .f32) (harg11 : arg11.IsWhole) (arg12 : Memref sig .tc .vmem S16x200x128 .f32) (harg12 : arg12.IsWhole) (arg13 : Memref sig .tc .vmem S200x2048 .fp8e4m3) (harg13 : arg13.IsWhole) (arg14 : Memref sig .tc .vmem S200x16 .f32) (harg14 : arg14.IsWhole) (arg15 : Memref sig .tc .vmem S200x2048 .bf16) (harg15 : arg15.IsWhole) (hc0 : ¬cond0_0 i)
    (x0 : Vec F S200x1024 .bf16) (x1 : Vec F S16x200x128 .f32) (x2 : Vec F S16x200x128 .f32) (x3 : Vec F S16x200x512 .bf16) (x4 : Vec F S16x200x128 .f32) (x5 : Vec F S512x4096 .fp8e4m3) (x6 : Vec F S4x16x1x128 .f32) (x7 : Vec F S16x1x1024 .f32) (x8 : Vec F S2048x1024 .fp8e4m3) (xo10 : Vec F S16x200x128 .f32) (xo11 : Vec F S16x200x128 .f32) (xo12 : Vec F S200x2048 .fp8e4m3) (xo13 : Vec F S200x16 .f32) (xs0 : Vec F S200x2048 .bf16) : Vec F S200x2048 .fp8e4m3 := xo12

/-- Case B stores nothing into output 13, a live window: its staging buffer holds what the point before left. -/
def out0_B_13 (c : Dev nD) (i : grid0.Coords) (arg1 : Memref sig .tc .vmem S200x1024 .bf16) (harg1 : arg1.IsWhole) (arg2 : Memref sig .tc .vmem S16x200x128 .f32) (harg2 : arg2.IsWhole) (arg3 : Memref sig .tc .vmem S16x200x128 .f32) (harg3 : arg3.IsWhole) (arg4 : Memref sig .tc .vmem S16x200x512 .bf16) (harg4 : arg4.IsWhole) (arg5 : Memref sig .tc .vmem S16x200x128 .f32) (harg5 : arg5.IsWhole) (arg6 : Memref sig .tc .vmem S512x4096 .fp8e4m3) (harg6 : arg6.IsWhole) (arg7 : Memref sig .tc .vmem S4x16x1x128 .f32) (harg7 : arg7.IsWhole) (arg8 : Memref sig .tc .vmem S16x1x1024 .f32) (harg8 : arg8.IsWhole) (arg9 : Memref sig .tc .vmem S2048x1024 .fp8e4m3) (harg9 : arg9.IsWhole) (arg10 : Memref sig .tc .vmem S200x1024 .bf16) (harg10 : arg10.IsWhole) (arg11 : Memref sig .tc .vmem S16x200x128 .f32) (harg11 : arg11.IsWhole) (arg12 : Memref sig .tc .vmem S16x200x128 .f32) (harg12 : arg12.IsWhole) (arg13 : Memref sig .tc .vmem S200x2048 .fp8e4m3) (harg13 : arg13.IsWhole) (arg14 : Memref sig .tc .vmem S200x16 .f32) (harg14 : arg14.IsWhole) (arg15 : Memref sig .tc .vmem S200x2048 .bf16) (harg15 : arg15.IsWhole) (hc0 : ¬cond0_0 i)
    (x0 : Vec F S200x1024 .bf16) (x1 : Vec F S16x200x128 .f32) (x2 : Vec F S16x200x128 .f32) (x3 : Vec F S16x200x512 .bf16) (x4 : Vec F S16x200x128 .f32) (x5 : Vec F S512x4096 .fp8e4m3) (x6 : Vec F S4x16x1x128 .f32) (x7 : Vec F S16x1x1024 .f32) (x8 : Vec F S2048x1024 .fp8e4m3) (xo10 : Vec F S16x200x128 .f32) (xo11 : Vec F S16x200x128 .f32) (xo12 : Vec F S200x2048 .fp8e4m3) (xo13 : Vec F S200x16 .f32) (xs0 : Vec F S200x2048 .bf16) : Vec F S200x16 .f32 := xo13

/-- Case B stores nothing into scratch `arg15`: it holds what the point before left. -/
def sout0_B_0 (c : Dev nD) (i : grid0.Coords) (arg1 : Memref sig .tc .vmem S200x1024 .bf16) (harg1 : arg1.IsWhole) (arg2 : Memref sig .tc .vmem S16x200x128 .f32) (harg2 : arg2.IsWhole) (arg3 : Memref sig .tc .vmem S16x200x128 .f32) (harg3 : arg3.IsWhole) (arg4 : Memref sig .tc .vmem S16x200x512 .bf16) (harg4 : arg4.IsWhole) (arg5 : Memref sig .tc .vmem S16x200x128 .f32) (harg5 : arg5.IsWhole) (arg6 : Memref sig .tc .vmem S512x4096 .fp8e4m3) (harg6 : arg6.IsWhole) (arg7 : Memref sig .tc .vmem S4x16x1x128 .f32) (harg7 : arg7.IsWhole) (arg8 : Memref sig .tc .vmem S16x1x1024 .f32) (harg8 : arg8.IsWhole) (arg9 : Memref sig .tc .vmem S2048x1024 .fp8e4m3) (harg9 : arg9.IsWhole) (arg10 : Memref sig .tc .vmem S200x1024 .bf16) (harg10 : arg10.IsWhole) (arg11 : Memref sig .tc .vmem S16x200x128 .f32) (harg11 : arg11.IsWhole) (arg12 : Memref sig .tc .vmem S16x200x128 .f32) (harg12 : arg12.IsWhole) (arg13 : Memref sig .tc .vmem S200x2048 .fp8e4m3) (harg13 : arg13.IsWhole) (arg14 : Memref sig .tc .vmem S200x16 .f32) (harg14 : arg14.IsWhole) (arg15 : Memref sig .tc .vmem S200x2048 .bf16) (harg15 : arg15.IsWhole) (hc0 : ¬cond0_0 i)
    (x0 : Vec F S200x1024 .bf16) (x1 : Vec F S16x200x128 .f32) (x2 : Vec F S16x200x128 .f32) (x3 : Vec F S16x200x512 .bf16) (x4 : Vec F S16x200x128 .f32) (x5 : Vec F S512x4096 .fp8e4m3) (x6 : Vec F S4x16x1x128 .f32) (x7 : Vec F S16x1x1024 .f32) (x8 : Vec F S2048x1024 .fp8e4m3) (xo10 : Vec F S16x200x128 .f32) (xo11 : Vec F S16x200x128 .f32) (xo12 : Vec F S200x2048 .fp8e4m3) (xo13 : Vec F S200x16 .f32) (xs0 : Vec F S200x2048 .bf16) : Vec F S200x2048 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S200x1024 .bf16 × Vec F S16x200x128 .f32 × Vec F S16x200x128 .f32 × Vec F S200x2048 .fp8e4m3 × Vec F S200x16 .f32 × Vec F S200x2048 .bf16
  | 0, hn => (out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩))
  | n + 1, hn =>
    if h0 : (n + 1) % 7 = 0 then
      (out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩))
    else
      (out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2)

/-- `outsAt0` at a point of case A: that case's contents. -/
theorem outsAt0_A (c : Dev nD) (t : Fin cfg0.N) (h0 : t.val % 7 = 0) :
    outsAt0 m c t.val t.isLt = (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 7 = 0) :
    outsAt0 m c t.val t.isLt = (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).1
    | ⟨10, _⟩ => (outsAt0 m c t.val t.isLt).2.1
    | ⟨11, _⟩ => (outsAt0 m c t.val t.isLt).2.2.1
    | ⟨12, _⟩ => (outsAt0 m c t.val t.isLt).2.2.2.1
    | ⟨13, _⟩ => (outsAt0 m c t.val t.isLt).2.2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt).1 := by dsimp only [dats]
theorem after0_10 (c : Dev nD) (t : Fin cfg0.N) : (dats m 0 c).after 10 t = (outsAt0 m c t.val t.isLt).2.1 := by dsimp only [dats]
theorem after0_11 (c : Dev nD) (t : Fin cfg0.N) : (dats m 0 c).after 11 t = (outsAt0 m c t.val t.isLt).2.2.1 := by dsimp only [dats]
theorem after0_12 (c : Dev nD) (t : Fin cfg0.N) : (dats m 0 c).after 12 t = (outsAt0 m c t.val t.isLt).2.2.2.1 := by dsimp only [dats]
theorem after0_13 (c : Dev nD) (t : Fin cfg0.N) : (dats m 0 c).after 13 t = (outsAt0 m c t.val t.isLt).2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- Output 10's contents CARRY through the points that leave it idle: at such a point, its buffer not fresh, the proof data's
    `after` is the point before's (the case there stores nothing into the window and its term says so; a case that stores
    into it is not idle there by `liveAt0_10_κ`) — the hypothesis of Lib/Pipeline/TableIdle.lean `Dat.before_out_traj`. -/
theorem hcarry0_10 (c : Dev nD) : ∀ (t : Fin cfg0.N) (_ : t.val ≠ 0), cfg0.idle 10 (grid0.coords t) = true → cfg0.fresh 10 t.val = false →
    (dats m 0 c).after 10 t = (dats m 0 c).after 10 ⟨t.val - 1, by omega⟩ := by
  intro t _ hi _
  have hN : t.val < 7 := lt_of_lt_of_eq t.isLt (show cfg0.N = 7 from N_0)
  rw [after0_10, after0_10]
  by_cases h0 : t.val % 7 = 0
  · rw [liveAt0_10_A t ((hcond0_0 t).mpr h0)] at hi
    exact absurd hi Bool.false_ne_true
  · rw [outsAt0_B m c t h0]
    dsimp only
    unfold out0_B_10
    rfl

/-- Output 11's contents CARRY through the points that leave it idle: at such a point, its buffer not fresh, the proof data's
    `after` is the point before's (the case there stores nothing into the window and its term says so; a case that stores
    into it is not idle there by `liveAt0_11_κ`) — the hypothesis of Lib/Pipeline/TableIdle.lean `Dat.before_out_traj`. -/
theorem hcarry0_11 (c : Dev nD) : ∀ (t : Fin cfg0.N) (_ : t.val ≠ 0), cfg0.idle 11 (grid0.coords t) = true → cfg0.fresh 11 t.val = false →
    (dats m 0 c).after 11 t = (dats m 0 c).after 11 ⟨t.val - 1, by omega⟩ := by
  intro t _ hi _
  have hN : t.val < 7 := lt_of_lt_of_eq t.isLt (show cfg0.N = 7 from N_0)
  rw [after0_11, after0_11]
  by_cases h0 : t.val % 7 = 0
  · rw [liveAt0_11_A t ((hcond0_0 t).mpr h0)] at hi
    exact absurd hi Bool.false_ne_true
  · rw [outsAt0_B m c t h0]
    dsimp only
    unfold out0_B_11
    rfl

/-- Output 12's contents CARRY through the points that leave it idle: at such a point, its buffer not fresh, the proof data's
    `after` is the point before's (the case there stores nothing into the window and its term says so; a case that stores
    into it is not idle there by `liveAt0_12_κ`) — the hypothesis of Lib/Pipeline/TableIdle.lean `Dat.before_out_traj`. -/
theorem hcarry0_12 (c : Dev nD) : ∀ (t : Fin cfg0.N) (_ : t.val ≠ 0), cfg0.idle 12 (grid0.coords t) = true → cfg0.fresh 12 t.val = false →
    (dats m 0 c).after 12 t = (dats m 0 c).after 12 ⟨t.val - 1, by omega⟩ := by
  intro t _ hi _
  have hN : t.val < 7 := lt_of_lt_of_eq t.isLt (show cfg0.N = 7 from N_0)
  rw [after0_12, after0_12]
  by_cases h0 : t.val % 7 = 0
  · rw [liveAt0_12_A t ((hcond0_0 t).mpr h0)] at hi
    exact absurd hi Bool.false_ne_true
  · rw [outsAt0_B m c t h0]
    dsimp only
    unfold out0_B_12
    rfl

/-- Output 13's contents CARRY through the points that leave it idle: at such a point, its buffer not fresh, the proof data's
    `after` is the point before's (the case there stores nothing into the window and its term says so; a case that stores
    into it is not idle there by `liveAt0_13_κ`) — the hypothesis of Lib/Pipeline/TableIdle.lean `Dat.before_out_traj`. -/
theorem hcarry0_13 (c : Dev nD) : ∀ (t : Fin cfg0.N) (_ : t.val ≠ 0), cfg0.idle 13 (grid0.coords t) = true → cfg0.fresh 13 t.val = false →
    (dats m 0 c).after 13 t = (dats m 0 c).after 13 ⟨t.val - 1, by omega⟩ := by
  intro t _ hi _
  have hN : t.val < 7 := lt_of_lt_of_eq t.isLt (show cfg0.N = 7 from N_0)
  rw [after0_13, after0_13]
  by_cases h0 : t.val % 7 = 0
  · rw [liveAt0_13_A t ((hcond0_0 t).mpr h0)] at hi
    exact absurd hi Bool.false_ne_true
  · rw [outsAt0_B m c t h0]
    dsimp only
    unfold out0_B_13
    rfl
/-- At a point of case B output 10's current staging buffer holds what the point before left: the buffer is not fresh
    there (`notFresh0_10_B`: stored into since the region's entry or the last write-back, carried through the points that
    leave it idle by `hcarry0_10`; Lib/Pipeline/TableIdle.lean `Dat.before_out_traj`). -/
theorem before0_10_B (c : Dev nD) (t : Fin cfg0.N) (h0 : ¬t.val % 7 = 0) (d) :
    (dats m 0 c).before 10 t d = (outsAt0 m c (t.val - 1) (Nat.lt_of_le_of_lt (Nat.sub_le _ _) t.isLt)).2.1 := by
  rw [Dat.before_out_traj _ 10 rfl (fun _ _ => rfl) (hcarry0_10 m c) t.val t rfl d,
    if_neg (by rw [notFresh0_10_B t (fun h => h0 ((hcond0_0 t).mp h))]; exact Bool.false_ne_true)]
  dsimp only [dats]
/-- At a point of case B output 11's current staging buffer holds what the point before left: the buffer is not fresh
    there (`notFresh0_11_B`: stored into since the region's entry or the last write-back, carried through the points that
    leave it idle by `hcarry0_11`; Lib/Pipeline/TableIdle.lean `Dat.before_out_traj`). -/
theorem before0_11_B (c : Dev nD) (t : Fin cfg0.N) (h0 : ¬t.val % 7 = 0) (d) :
    (dats m 0 c).before 11 t d = (outsAt0 m c (t.val - 1) (Nat.lt_of_le_of_lt (Nat.sub_le _ _) t.isLt)).2.2.1 := by
  rw [Dat.before_out_traj _ 11 rfl (fun _ _ => rfl) (hcarry0_11 m c) t.val t rfl d,
    if_neg (by rw [notFresh0_11_B t (fun h => h0 ((hcond0_0 t).mp h))]; exact Bool.false_ne_true)]
  dsimp only [dats]
/-- At a point of case B output 12's current staging buffer holds what the point before left: the buffer is not fresh
    there (`notFresh0_12_B`: stored into since the region's entry or the last write-back, carried through the points that
    leave it idle by `hcarry0_12`; Lib/Pipeline/TableIdle.lean `Dat.before_out_traj`). -/
theorem before0_12_B (c : Dev nD) (t : Fin cfg0.N) (h0 : ¬t.val % 7 = 0) (d) :
    (dats m 0 c).before 12 t d = (outsAt0 m c (t.val - 1) (Nat.lt_of_le_of_lt (Nat.sub_le _ _) t.isLt)).2.2.2.1 := by
  rw [Dat.before_out_traj _ 12 rfl (fun _ _ => rfl) (hcarry0_12 m c) t.val t rfl d,
    if_neg (by rw [notFresh0_12_B t (fun h => h0 ((hcond0_0 t).mp h))]; exact Bool.false_ne_true)]
  dsimp only [dats]
/-- At a point of case B output 13's current staging buffer holds what the point before left: the buffer is not fresh
    there (`notFresh0_13_B`: stored into since the region's entry or the last write-back, carried through the points that
    leave it idle by `hcarry0_13`; Lib/Pipeline/TableIdle.lean `Dat.before_out_traj`). -/
theorem before0_13_B (c : Dev nD) (t : Fin cfg0.N) (h0 : ¬t.val % 7 = 0) (d) :
    (dats m 0 c).before 13 t d = (outsAt0 m c (t.val - 1) (Nat.lt_of_le_of_lt (Nat.sub_le _ _) t.isLt)).2.2.2.2.1 := by
  rw [Dat.before_out_traj _ 13 rfl (fun _ _ => rfl) (hcarry0_13 m c) t.val t rfl d,
    if_neg (by rw [notFresh0_13_B t (fun h => h0 ((hcond0_0 t).mp h))]; exact Bool.false_ne_true)]
  dsimp only [dats]

/-- At a point of case B the body finds output 10's buffer as it is stated to leave it. -/
theorem kept0_10 (c : Dev nD) (t : Fin cfg0.N) (h0 : ¬t.val % 7 = 0) (d) :
    (dats m 0 c).before 10 t d = (dats m 0 c).after 10 t := by
  rw [before0_10_B m c t h0, after0_10, outsAt0_B m c t h0]
  dsimp only
  unfold out0_B_10
  rfl
/-- At a point of case B the body finds output 11's buffer as it is stated to leave it. -/
theorem kept0_11 (c : Dev nD) (t : Fin cfg0.N) (h0 : ¬t.val % 7 = 0) (d) :
    (dats m 0 c).before 11 t d = (dats m 0 c).after 11 t := by
  rw [before0_11_B m c t h0, after0_11, outsAt0_B m c t h0]
  dsimp only
  unfold out0_B_11
  rfl
/-- At a point of case B the body finds output 12's buffer as it is stated to leave it. -/
theorem kept0_12 (c : Dev nD) (t : Fin cfg0.N) (h0 : ¬t.val % 7 = 0) (d) :
    (dats m 0 c).before 12 t d = (dats m 0 c).after 12 t := by
  rw [before0_12_B m c t h0, after0_12, outsAt0_B m c t h0]
  dsimp only
  unfold out0_B_12
  rfl
/-- At a point of case B the body finds output 13's buffer as it is stated to leave it. -/
theorem kept0_13 (c : Dev nD) (t : Fin cfg0.N) (h0 : ¬t.val % 7 = 0) (d) :
    (dats m 0 c).before 13 t d = (dats m 0 c).after 13 t := by
  rw [before0_13_B m c t h0, after0_13, outsAt0_B m c t h0]
  dsimp only
  unfold out0_B_13
  rfl

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  have hN : t.val < 7 := lt_of_lt_of_eq t.isLt (show cfg0.N = 7 from N_0)
  by_cases h0 : t.val % 7 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    rw [show (dats m 0 c).leavesExact 10 t = owns (c : Thread nD τ) (ms0_10 t) fullShare ((dats m 0 c).after 10 t) from by
      unfold Dat.leavesExact; rw [liveAt0_10_A t ((hcond0_0 t).mpr h0)], after0_10]
    rw [show (dats m 0 c).leavesExact 11 t = owns (c : Thread nD τ) (ms0_11 t) fullShare ((dats m 0 c).after 11 t) from by
      unfold Dat.leavesExact; rw [liveAt0_11_A t ((hcond0_0 t).mpr h0)], after0_11]
    rw [show (dats m 0 c).leavesExact 12 t = owns (c : Thread nD τ) (ms0_12 t) fullShare ((dats m 0 c).after 12 t) from by
      unfold Dat.leavesExact; rw [liveAt0_12_A t ((hcond0_0 t).mpr h0)], after0_12]
    rw [show (dats m 0 c).leavesExact 13 t = owns (c : Thread nD τ) (ms0_13 t) fullShare ((dats m 0 c).after 13 t) from by
      unfold Dat.leavesExact; rw [liveAt0_13_A t ((hcond0_0 t).mpr h0)], after0_13]
    by_cases hz : t.val = 0
    · rw [PhiS_castSucc m c t, PhiS_zero m c _ _ hz, PhiA0_eq]
      rw [outsAt0_A m c t h0]
      unfold out0_A_9 out0_A_10 out0_A_11 out0_A_12 out0_A_13 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun0_A c (grid0.coords t) _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t)).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [H12]; · iexists _; iexact H12
      isplitl [H13]; · iexists _; iexact H13
      isplitl [HS0]; · iexact HS0
      iintro ⟨H0, H1, H2, H3, H4, H5, H6, H7, H8, ⟨%e9, H9⟩, ⟨%e10, H10⟩, ⟨%e11, H11⟩, ⟨%e12, H12⟩, ⟨%e13, H13⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover0_A_12 c _ _ _ _ _ _ _ _ _ _ _ _ _ _ _ _ _ _ _ _ _ _ _ _ _ _ _ _ _ _ _ _ _ _ _ _ _ _ _ _ _)
      unfold owns; iexists _; isplitr
      swap; · iexact H13
      ipureintro; exact View.read_writes_of_cover _ _ _ _ _ (cover0_A_13 c _ _ _ _ _ _ _ _ _ _ _ _ _ _ _ _ _ _ _ _ _ _ _ _ _ _ _ _ _ _ _ _ _ _ _ _ _ _ _ _ _)
    · exfalso; have hN : t.val < 7 := lt_of_lt_of_eq t.isLt (show cfg0.N = 7 from N_0); omega
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    rw [show (dats m 0 c).leavesExact 10 t = owns (c : Thread nD τ) (ms0_10 t) fullShare ((dats m 0 c).after 10 t) from leaves_kept _ 10 t (kept0_10 m c t h0), after0_10]
    rw [show (dats m 0 c).leavesExact 11 t = owns (c : Thread nD τ) (ms0_11 t) fullShare ((dats m 0 c).after 11 t) from leaves_kept _ 11 t (kept0_11 m c t h0), after0_11]
    rw [show (dats m 0 c).leavesExact 12 t = owns (c : Thread nD τ) (ms0_12 t) fullShare ((dats m 0 c).after 12 t) from leaves_kept _ 12 t (kept0_12 m c t h0), after0_12]
    rw [show (dats m 0 c).leavesExact 13 t = owns (c : Thread nD τ) (ms0_13 t) fullShare ((dats m 0 c).after 13 t) from leaves_kept _ 13 t (kept0_13 m c t h0), after0_13]
    by_cases hz : t.val = 0
    · exfalso; have hN : t.val < 7 := lt_of_lt_of_eq t.isLt (show cfg0.N = 7 from N_0); omega
    · rw [PhiS_castSucc m c t, PhiS_pos m c _ _ hz]
      rw [outsAt0_B m c t h0]
      simp only [before0_10_B m c t h0, before0_11_B m c t h0, before0_12_B m c t h0, before0_13_B m c t h0]
      unfold out0_B_9 out0_B_10 out0_B_11 out0_B_12 out0_B_13 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun0_B c (grid0.coords t) _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) _ _ _ _ _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [H11]; · iexact H11
      isplitl [H12]; · iexact H12
      isplitl [H13]; · iexact H13
      isplitl [HS0]; · iexact HS0
      iintro ⟨H0, H1, H2, H3, H4, H5, H6, H7, H8, ⟨%e9, H9⟩, H10, H11, H12, H13, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _ _ _ _ _ _ _ _ _ _ _ _ _)
      isplitl [H10]; · iexact H10
      isplitl [H11]; · iexact H11
      isplitl [H12]; · iexact H12
      iexact H13

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 7 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The frame: the run terminates without a fault, the arguments end unchanged, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.OutKernel.Hand

end
-- ==== Proof.OutSpec.lean ====
module

public import proofs.«01_k».proof.Proof.Gen.OutReference.Value
public import Idealize.ShloMosaic.Lib.Pipeline.ValueKit
public import Idealize.ShloMosaic.Lib.Pointwise

@[expose] public section

set_option maxRecDepth 16384
set_option maxHeartbeats 4000000

noncomputable section

/-! The two functions the output call's results hold: per head, the product of the latent rows with the head's value
    columns, and its merge with the other half of the attention. -/

namespace Cert.Mla.Out

open Cert.OutReference Cert.OutReference.Gen Idealize.ShloMosaic Idealize.ShloMosaic.TcCoe Idealize.ShloMosaic.Tactic

variable {F : FTy → Type} [FloatOps F]

/-- A head's rows of 128 lie inside the array. -/
theorem inb128 (h : Fin 16) : ∀ a, (![h.val, 0, 0] : Fin 3 → ℕ) a + S1x200x128.size a ≤ S16x200x128.size a := by
  intro a
  have := h.isLt
  fin_cases a
  · show h.val + 1 ≤ 16
    omega
  · exact le_refl _
  · exact le_refl _

/-- A head's rows of 512 lie inside the array. -/
theorem inb512 (h : Fin 16) : ∀ a, (![h.val, 0, 0] : Fin 3 → ℕ) a + S1x200x512.size a ≤ S16x200x512.size a := by
  intro a
  have := h.isLt
  fin_cases a
  · show h.val + 1 ≤ 16
    omega
  · exact le_refl _
  · exact le_refl _

/-- A head's rows of 128. -/
abbrev rows (h : Fin 16) : Rect S16x200x128 := Rect.unit (s := S16x200x128) ![h.val, 0, 0] S1x200x128.size (inb128 h)

/-- A head's latent rows. -/
abbrev latent (h : Fin 16) : Rect S16x200x512 := Rect.unit (s := S16x200x512) ![h.val, 0, 0] S1x200x512.size (inb512 h)

/-- The product of a head's latent rows with its value columns. -/
def product (o : Vec F S1x200x512 .bf16) (w : FVec F S512x128 .bf16) : FVec F S200x128 .f32 :=
  matmul dot_S200x512_S512x128_S200x128_1_0_0_1_n_n none (shapeCast S200x512 o shapeCasts_S1x200x512_S200x512) w
    (constant S200x128 .f32 0x00000000#32)

/-- The merge of a head's two halves, each weighted by the exponential of its logarithm less the larger of the two. -/
def merge (p : FVec F S200x128 .f32) (lp ls op : Vec F S1x200x128 .f32) : FVec F S200x128 .f32 :=
  have x : FVec F S200x128 .f32 := shapeCast S200x128 lp shapeCasts_S1x200x128_S200x128
  have y : FVec F S200x128 .f32 := shapeCast S200x128 ls shapeCasts_S1x200x128_S200x128
  have a : FVec F S200x128 .f32 := exp (subf x (maximumf x y))
  have b : FVec F S200x128 .f32 := exp (subf y (maximumf x y))
  divf (addf (mulf a (shapeCast S200x128 op shapeCasts_S1x200x128_S200x128)) (mulf b p)) (addf a b)

/-- The suffix product of every head. -/
def suffixes (W : Fin 16 → FVec F S512x128 .bf16) (ol : Vec F S16x200x512 .bf16) (h : Fin 16) : FVec F S200x128 .f32 :=
  product (View.ld ol (latent h)) (W h)

/-- The merged attention of every head. -/
def merged (W : Fin 16 → FVec F S512x128 .bf16) (op lp : Vec F S16x200x128 .f32) (ol : Vec F S16x200x512 .bf16)
    (ls : Vec F S16x200x128 .f32) (h : Fin 16) : FVec F S200x128 .f32 :=
  merge (product (View.ld ol (latent h)) (W h)) (View.ld lp (rows h)) (View.ld ls (rows h)) (View.ld op (rows h))

/-- The array whose head `h` is `f h`. -/
def stack (f : Fin 16 → FVec F S200x128 .f32) : Vec F S16x200x128 .f32 := fun y => f (y 0) (ix2 (y 1) (y 2))

/-- The stores that write head after head of `f`, the last first. -/
def pieces (f : Fin 16 → FVec F S200x128 .f32) : (n : ℕ) → n ≤ 16 → List (View.Piece (Elt F) S16x200x128 .f32)
  | 0, _ => []
  | n + 1, hn => ⟨rows ⟨n, hn⟩, shapeCast S1x200x128 (f ⟨n, hn⟩) shapeCasts_S200x128_S1x200x128⟩ :: pieces f n (Nat.le_of_succ_le hn)

/-- Each of the stores holds its head of `stack f`. -/
theorem pieces_apply (f : Fin 16 → FVec F S200x128 .f32) : ∀ (n : ℕ) (hn : n ≤ 16), ∀ p ∈ pieces f n hn, ∀ x : p.1.shape.Idx,
    p.2 x = stack f (p.1.emb x)
  | 0, _, p, hp => absurd hp List.not_mem_nil
  | n + 1, hn, p, hp => by
    rcases List.mem_cons.1 hp with rfl | hp
    · intro x
      refine (shapeCast_addUnit_apply ![200, 128] (f ⟨n, hn⟩) shapeCasts_S200x128_S1x200x128 x).trans ?_
      have e0 : ((rows ⟨n, hn⟩).emb x) 0 = (⟨n, hn⟩ : Fin 16) := Fin.ext (by
        have := (x 0).isLt
        show n + 1 * (x 0).val = n
        have h1 : (x 0).val < 1 := this
        omega)
      unfold stack
      show _ = f (((rows ⟨n, hn⟩).emb x) 0) _
      rw [e0]
      congr 1
      funext a
      fin_cases a
      · exact Fin.ext (by show (x 1).val = 0 + 1 * (x 1).val; omega)
      · exact Fin.ext (by show (x 2).val = 0 + 1 * (x 2).val; omega)
    · exact pieces_apply f n _ p hp

/-- The stores reach every index of a head below `n`. -/
theorem pieces_cover (f : Fin 16 → FVec F S200x128 .f32) (y : S16x200x128.Idx) : ∀ (n : ℕ) (hn : n ≤ 16), (y 0).val < n →
    ∃ p ∈ pieces f n hn, y ∈ p.1.set
  | 0, _, h => absurd h (Nat.not_lt_zero _)
  | n + 1, hn, h => by
    by_cases e : (y 0).val = n
    · refine ⟨_, List.mem_cons_self, ?_⟩
      rw [Rect.mem_set_unit]
      intro a
      have h1 : (y 1).val < 200 := (y 1).isLt
      have h2 : (y 2).val < 128 := (y 2).isLt
      match a with
      | ⟨0, _⟩ => exact ⟨e.ge, by show (y 0).val < n + 1; omega⟩
      | ⟨1, _⟩ => exact ⟨Nat.zero_le _, by show (y 1).val < 0 + 200; omega⟩
      | ⟨2, _⟩ => exact ⟨Nat.zero_le _, by show (y 2).val < 0 + 128; omega⟩
    · obtain ⟨p, hp, hy⟩ := pieces_cover f y n (Nat.le_of_succ_le hn) (by omega)
      exact ⟨p, List.mem_cons_of_mem _ hp, hy⟩

/-- What the sixteen stores leave. -/
theorem canon_pieces (f : Fin 16 → FVec F S200x128 .f32) : View.canon (pieces f 16 le_rfl) = stack f :=
  funext fun y => View.canon_apply_of_pieces (stack f) _ (pieces_apply f 16 le_rfl) y (pieces_cover f y 16 le_rfl (y 0).isLt)

/-! ## The reference -/

/-- A head's value columns lie inside the weight. -/
theorem inbW (h : Fin 16) : ∀ a, (![0, 256 * h.val + 128] : Fin 2 → ℕ) a + S512x128.size a ≤ S512x4096.size a := by
  intro a
  have := h.isLt
  fin_cases a
  · exact le_refl _
  · show 256 * h.val + 128 + 128 ≤ 4096
    omega

/-- A head's scales lie inside the array of scales. -/
theorem inbS (h : Fin 16) : ∀ a, (![0, h.val, 1] : Fin 3 → ℕ) a + S4x1x1.size a ≤ S4x16x2.size a := by
  intro a
  have := h.isLt
  fin_cases a
  · exact le_refl _
  · show h.val + 1 ≤ 16
    omega
  · exact le_refl _

/-- A head's value columns, scaled, as the reference spells them. -/
def columns (w : Vec F S512x4096 .fp8e4m3) (s : Vec F S4x16x2 .f32) (h : Fin 16) : FVec F S512x128 .bf16 :=
  mulf (extf .bf16 (View.ld w (Rect.unit (s := S512x4096) ![0, 256 * h.val + 128] S512x128.size (inbW h))) bitsLt_fp8e4m3_bf16)
    (shapeCast S512x128 (broadcastTo S4x128x128 (shapeCast S4x1x1 (truncf .bf16 (shapeCast S4x1x1 (shapeCast S4
      (View.ld s (Rect.unit (s := S4x16x2) ![0, h.val, 1] S4x1x1.size (inbS h))) shapeCasts_S4x1x1_S4) shapeCasts_S4_S4x1x1)
        bitsLt_bf16_f32) shapeCasts_S4x1x1_S4x1x1) broadcasts_S4x1x1_S4x128x128) shapeCasts_S4x128x128_S512x128)

variable (op lp : Vec F S16x200x128 .f32) (ol : Vec F S16x200x512 .bf16) (ls : Vec F S16x200x128 .f32) (w : Vec F S512x4096 .fp8e4m3)
  (s : Vec F S4x16x2 .f32)

/-- The reference's merged attention. -/
theorem ref_merged : Cert.OutReference.Value.G6 op lp ol ls w s = stack (merged (columns w s) op lp ol ls) :=
  Eq.trans (congrArg View.canon (by rfl)) (canon_pieces _)

/-- The reference's suffix products. -/
theorem ref_suffixes : Cert.OutReference.Value.G7 op lp ol ls w s = stack (suffixes (columns w s) ol) :=
  Eq.trans (congrArg View.canon (by rfl)) (canon_pieces _)

end Cert.Mla.Out

end
-- ==== Proof.OutStores.lean ====
module

public import proofs.«01_k».proof.Proof.OutRunA
public import proofs.«01_k».proof.Proof.OutSpec

@[expose] public section

set_option maxRecDepth 16384
set_option maxHeartbeats 8000000

noncomputable section

/-! The stores the kernel makes at its first point, head by head. -/

namespace Cert.Mla.Out

open Cert.OutKernel Cert.OutKernel.Hand Cert.OutKernel.Gen Idealize.ShloMosaic Idealize.ShloMosaic.TcCoe Idealize.ShloMosaic.Tactic

variable {F : FTy → Type} [BitOps F]

/-- A block of a head's value columns lies inside the weight. -/
theorem inbB (b : Fin 4) (h : Fin 16) : ∀ a, (![128 * b.val, 256 * h.val + 128] : Fin 2 → ℕ) a + S128x128.size a ≤ S512x4096.size a := by
  intro a
  have := b.isLt
  have := h.isLt
  fin_cases a
  · show 128 * b.val + 128 ≤ 512
    omega
  · show 256 * h.val + 128 + 128 ≤ 4096
    omega

/-- A block's scale lies inside the array of scales. -/
theorem inbR (b : Fin 4) (h : Fin 16) : ∀ a, (![b.val, h.val, 0, 0] : Fin 4 → ℕ) a + S1x1x1x128.size a ≤ S4x16x1x128.size a := by
  intro a
  have := b.isLt
  have := h.isLt
  fin_cases a
  · show b.val + 1 ≤ 4
    omega
  · show h.val + 1 ≤ 16
    omega
  · exact le_refl _
  · exact le_refl _

/-- One block of a head's value columns, scaled, as the kernel spells it. -/
def block (w : Vec F S512x4096 .fp8e4m3) (s : Vec F S4x16x1x128 .f32) (h : Fin 16) (b : Fin 4) : FVec F S128x128 .bf16 :=
  mulf (extf .bf16 (View.ld w (Rect.unit (s := S512x4096) ![128 * b.val, 256 * h.val + 128] S128x128.size (inbB b h))) bitsLt_fp8e4m3_bf16)
    (broadcastTo S128x128 (truncf .bf16 (shapeCast S1x128
      (View.ld s (Rect.unit (s := S4x16x1x128) ![b.val, h.val, 0, 0] S1x1x1x128.size (inbR b h))) shapeCasts_S1x1x1x128_S1x128)
        bitsLt_bf16_f32) broadcasts_S1x128_S128x128)

/-- A head's value columns, scaled, as the kernel spells them: the four blocks one under the other. -/
def stacked (w : Vec F S512x4096 .fp8e4m3) (s : Vec F S4x16x1x128 .f32) (h : Fin 16) : FVec F S512x128 .bf16 :=
  concatenate S512x128 0 [⟨S128x128, block w s h 0⟩, ⟨S128x128, block w s h 1⟩, ⟨S128x128, block w s h 2⟩, ⟨S128x128, block w s h 3⟩]
    concatenates_S128x128_S128x128_S128x128_S128x128_S512x128_d0

/-- The stores into the merged attention. -/
theorem stores_merged (c : Dev nD) (i : grid0.Coords) (arg1 : Memref sig .tc .vmem S200x1024 .bf16) (harg1 : arg1.IsWhole) (arg2 : Memref sig .tc .vmem S16x200x128 .f32) (harg2 : arg2.IsWhole) (arg3 : Memref sig .tc .vmem S16x200x128 .f32) (harg3 : arg3.IsWhole) (arg4 : Memref sig .tc .vmem S16x200x512 .bf16) (harg4 : arg4.IsWhole) (arg5 : Memref sig .tc .vmem S16x200x128 .f32) (harg5 : arg5.IsWhole) (arg6 : Memref sig .tc .vmem S512x4096 .fp8e4m3) (harg6 : arg6.IsWhole) (arg7 : Memref sig .tc .vmem S4x16x1x128 .f32) (harg7 : arg7.IsWhole) (arg8 : Memref sig .tc .vmem S16x1x1024 .f32) (harg8 : arg8.IsWhole) (arg9 : Memref sig .tc .vmem S2048x1024 .fp8e4m3) (harg9 : arg9.IsWhole) (arg10 : Memref sig .tc .vmem S200x1024 .bf16) (harg10 : arg10.IsWhole) (arg11 : Memref sig .tc .vmem S16x200x128 .f32) (harg11 : arg11.IsWhole) (arg12 : Memref sig .tc .vmem S16x200x128 .f32) (harg12 : arg12.IsWhole) (arg13 : Memref sig .tc .vmem S200x2048 .fp8e4m3) (harg13 : arg13.IsWhole) (arg14 : Memref sig .tc .vmem S200x16 .f32) (harg14 : arg14.IsWhole) (arg15 : Memref sig .tc .vmem S200x2048 .bf16) (harg15 : arg15.IsWhole) (hc0 : cond0_0 i)
    (x0 : Vec F S200x1024 .bf16) (x1 : Vec F S16x200x128 .f32) (x2 : Vec F S16x200x128 .f32) (x3 : Vec F S16x200x512 .bf16) (x4 : Vec F S16x200x128 .f32) (x5 : Vec F S512x4096 .fp8e4m3) (x6 : Vec F S4x16x1x128 .f32) (x7 : Vec F S16x1x1024 .f32) (x8 : Vec F S2048x1024 .fp8e4m3) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.1
      = pieces (merged (stacked x5 x6) x1 x2 x3 x4) 16 le_rfl := by
  unfold kernelRun0_A
  dsimp only
  sl_unfold_run_names
  simp only [View.readAt_eq_ld, Memref.IsWhole.read_unread]
  rfl

/-- The stores into the suffix products. -/
theorem stores_suffixes (c : Dev nD) (i : grid0.Coords) (arg1 : Memref sig .tc .vmem S200x1024 .bf16) (harg1 : arg1.IsWhole) (arg2 : Memref sig .tc .vmem S16x200x128 .f32) (harg2 : arg2.IsWhole) (arg3 : Memref sig .tc .vmem S16x200x128 .f32) (harg3 : arg3.IsWhole) (arg4 : Memref sig .tc .vmem S16x200x512 .bf16) (harg4 : arg4.IsWhole) (arg5 : Memref sig .tc .vmem S16x200x128 .f32) (harg5 : arg5.IsWhole) (arg6 : Memref sig .tc .vmem S512x4096 .fp8e4m3) (harg6 : arg6.IsWhole) (arg7 : Memref sig .tc .vmem S4x16x1x128 .f32) (harg7 : arg7.IsWhole) (arg8 : Memref sig .tc .vmem S16x1x1024 .f32) (harg8 : arg8.IsWhole) (arg9 : Memref sig .tc .vmem S2048x1024 .fp8e4m3) (harg9 : arg9.IsWhole) (arg10 : Memref sig .tc .vmem S200x1024 .bf16) (harg10 : arg10.IsWhole) (arg11 : Memref sig .tc .vmem S16x200x128 .f32) (harg11 : arg11.IsWhole) (arg12 : Memref sig .tc .vmem S16x200x128 .f32) (harg12 : arg12.IsWhole) (arg13 : Memref sig .tc .vmem S200x2048 .fp8e4m3) (harg13 : arg13.IsWhole) (arg14 : Memref sig .tc .vmem S200x16 .f32) (harg14 : arg14.IsWhole) (arg15 : Memref sig .tc .vmem S200x2048 .bf16) (harg15 : arg15.IsWhole) (hc0 : cond0_0 i)
    (x0 : Vec F S200x1024 .bf16) (x1 : Vec F S16x200x128 .f32) (x2 : Vec F S16x200x128 .f32) (x3 : Vec F S16x200x512 .bf16) (x4 : Vec F S16x200x128 .f32) (x5 : Vec F S512x4096 .fp8e4m3) (x6 : Vec F S4x16x1x128 .f32) (x7 : Vec F S16x1x1024 .f32) (x8 : Vec F S2048x1024 .fp8e4m3) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.1
      = pieces (suffixes (stacked x5 x6) x3) 16 le_rfl := by
  unfold kernelRun0_A
  dsimp only
  sl_unfold_run_names
  simp only [View.readAt_eq_ld, Memref.IsWhole.read_unread]
  rfl

end Cert.Mla.Out

end
-- ==== Proof.OutColumns.lean ====
module

public import proofs.«01_k».proof.Proof.OutStores

@[expose] public section

set_option maxRecDepth 16384
set_option maxHeartbeats 4000000

noncomputable section

/-! The two spellings of a head's scaled value columns are one array. -/

namespace Cert.Mla.Out

open Cert.OutKernel Cert.OutKernel.Gen Idealize.ShloMosaic Idealize.ShloMosaic.TcCoe Idealize.ShloMosaic.Tactic

variable {F : FTy → Type} [BitOps F]

/-- An entry of one of the kernel's blocks. -/
theorem block_apply (w : Vec F S512x4096 .fp8e4m3) (s : Vec F S4x16x1x128 .f32) (h : Fin 16) (b : Fin 4) (k j : Fin 128) :
    block w s h b (ix2 k j)
      = FloatOps.mulf (FloatOps.extf .bf16 bitsLt_fp8e4m3_bf16 (w (ix2 ⟨128 * b.val + k.val, by omega⟩ ⟨256 * h.val + 128 + j.val, by omega⟩)))
          (FloatOps.truncf .bf16 bitsLt_bf16_f32 (s (ix4 b h 0 j))) := by
  unfold block
  pointwise

/-- An entry of the reference's columns. -/
theorem columns_apply (w : Vec F S512x4096 .fp8e4m3) (s : Vec F S4x16x2 .f32) (h : Fin 16) (k : Fin 512) (j : Fin 128) :
    columns w s h (ix2 k j)
      = FloatOps.mulf (FloatOps.extf .bf16 bitsLt_fp8e4m3_bf16 (w (ix2 k ⟨256 * h.val + 128 + j.val, by omega⟩)))
          (FloatOps.truncf .bf16 bitsLt_bf16_f32 (s (ix3 ⟨k.val / 128, by omega⟩ h 1))) := by
  unfold columns
  pointwise

/-- Where the kernel's array of scales repeats the reference's on every lane, the two spellings of the columns agree. -/
theorem stacked_eq (w : Vec F S512x4096 .fp8e4m3) (s : Vec F S4x16x2 .f32) (s' : Vec F S4x16x1x128 .f32)
    (hs : ∀ b h j, s' (ix4 b h 0 j) = s (ix3 b h 1)) : stacked w s' = columns w s := by
  funext h i
  obtain ⟨k, j, rfl⟩ : ∃ k j, i = ix2 k j := ⟨i 0, i 1, eq_ix2 i⟩
  have hk := k.isLt
  have block_eq : ∀ (b : Fin 4) (n : Fin 128), k.val = 128 * b.val + n.val → block w s' h b (ix2 n j) = columns w s h (ix2 k j) := by
    intro b n e
    rw [block_apply, columns_apply, hs]
    have e1 : (⟨128 * b.val + n.val, by omega⟩ : Fin 512) = k := Fin.ext e.symm
    have e2 : (⟨k.val / 128, by omega⟩ : Fin 4) = b := Fin.ext (by show k.val / 128 = b.val; omega)
    rw [e1, e2]
  unfold stacked
  pointwise
  split_ifs <;> refine block_eq _ _ ?_ <;> simp <;> omega

end Cert.Mla.Out

end
-- ==== Proof.OutValue.lean ====
module

public import proofs.«01_k».proof.Proof.OutFrame
public import proofs.«01_k».proof.Proof.OutColumns

@[expose] public section

set_option maxRecDepth 16384
set_option maxHeartbeats 4000000

noncomputable section

/-! The output call's run: two of its result arrays hold the merged attention and the suffix products of the arguments,
    and the arguments are unchanged. -/

namespace Cert.Mla.Out

open Cert.OutKernel Cert.OutKernel.Hand Cert.OutKernel.Gen Idealize.ShloMosaic Idealize.ShloMosaic.TcCoe Idealize.ShloMosaic.Tactic
open Idealize.SL.Sem

variable {F : FTy → Type} [BitOps F]

/-- Each window the two results depend on is its whole array, at every point. -/
theorem places : ∀ t : Fin cfg0.N, win0_1.index t = ![0, 0, 0] ∧ win0_2.index t = ![0, 0, 0] ∧ win0_3.index t = ![0, 0, 0]
    ∧ win0_4.index t = ![0, 0, 0] ∧ win0_5.index t = ![0, 0] ∧ win0_6.index t = ![0, 0, 0, 0]
    ∧ win0_10.index t = ![0, 0, 0] ∧ win0_11.index t = ![0, 0, 0] := by decide +kernel

variable (m : (ℓ : Loc nD τ sig) → Buf (Elt F) ℓ) (c : Dev nD) (t : Fin cfg0.N)

/-- The block of one half of the attention. -/
theorem blk1 : (iblk m c 1 t : Vec F S16x200x128 .f32) = m ((c : Thread nD τ).loc main_arg1) := by
  funext y
  blk_ext! [iblk, V, places t]

/-- The block of that half's logarithms. -/
theorem blk2 : (iblk m c 2 t : Vec F S16x200x128 .f32) = m ((c : Thread nD τ).loc main_arg2) := by
  funext y
  blk_ext! [iblk, V, places t]

/-- The block of the latent rows. -/
theorem blk3 : (iblk m c 3 t : Vec F S16x200x512 .bf16) = m ((c : Thread nD τ).loc main_arg3) := by
  funext y
  blk_ext! [iblk, V, places t]

/-- The block of the other half's logarithms. -/
theorem blk4 : (iblk m c 4 t : Vec F S16x200x128 .f32) = m ((c : Thread nD τ).loc main_arg4) := by
  funext y
  blk_ext! [iblk, V, places t]

/-- The block of the weight. -/
theorem blk5 : (iblk m c 5 t : Vec F S512x4096 .fp8e4m3) = m ((c : Thread nD τ).loc main_arg5) := by
  funext y
  blk_ext! [iblk, V, places t]

/-- The block of scales: a head's value scale of each block, on every lane. -/
theorem blk6 (b : Fin 4) (h : Fin 16) (j : Fin 128) :
    (iblk m c 6 t : Vec F S4x16x1x128 .f32) (ix4 b h 0 j) = m ((c : Thread nD τ).loc main_arg6) (ix3 b h 1) := by
  unfold iblk
  entry_read
  blk_simp [places t]
  have e : (win0_6.blk t).view.emb (ix4 b h 0 j) = ix4 b h 0 j := by blk_ext [places t]
  rw [e]
  pointwise

/-- The kernel's scaled value columns, of the arguments. -/
theorem stacked_blocks : stacked (iblk m c 5 t) (iblk m c 6 t) = columns (m ((c : Thread nD τ).loc main_arg5)) (m ((c : Thread nD τ).loc main_arg6)) := by
  rw [blk5 m c t]
  exact stacked_eq _ _ _ fun b h j => blk6 m c t b h j

/-- The merged attention of the arguments. -/
abbrev attn : Vec F S16x200x128 .f32 :=
  stack (merged (columns (m ((c : Thread nD τ).loc main_arg5)) (m ((c : Thread nD τ).loc main_arg6))) (m ((c : Thread nD τ).loc main_arg1))
    (m ((c : Thread nD τ).loc main_arg2)) (m ((c : Thread nD τ).loc main_arg3)) (m ((c : Thread nD τ).loc main_arg4)))

/-- The suffix products of the arguments. -/
abbrev osuf : Vec F S16x200x128 .f32 :=
  stack (suffixes (columns (m ((c : Thread nD τ).loc main_arg5)) (m ((c : Thread nD τ).loc main_arg6))) (m ((c : Thread nD τ).loc main_arg3)))

/-- The first point's stores leave the merged attention. -/
theorem first10 (h0 : t.val % 7 = 0) : (outsAt0 m c t.val t.isLt).2.1 = attn m c := by
  rw [outsAt0_A m c t h0]
  dsimp only
  unfold out0_A_10
  rw [stores_merged, stacked_blocks, blk1 m c t, blk2 m c t, blk3 m c t, blk4 m c t]
  exact funext fun y => View.read_writes_apply_of_pieces _ _ (stack _) _ (pieces_apply _ 16 le_rfl) y
    (pieces_cover _ y 16 le_rfl (y 0).isLt)

/-- The first point's stores leave the suffix products. -/
theorem first11 (h0 : t.val % 7 = 0) : (outsAt0 m c t.val t.isLt).2.2.1 = osuf m c := by
  rw [outsAt0_A m c t h0]
  dsimp only
  unfold out0_A_11
  rw [stores_suffixes, stacked_blocks, blk3 m c t]
  exact funext fun y => View.read_writes_apply_of_pieces _ _ (stack _) _ (pieces_apply _ 16 le_rfl) y
    (pieces_cover _ y 16 le_rfl (y 0).isLt)

/-- Every later point leaves the two results as the point before left them. -/
theorem holds : ∀ (n : ℕ) (hn : n < cfg0.N), (outsAt0 m c n hn).2.1 = attn m c ∧ (outsAt0 m c n hn).2.2.1 = osuf m c
  | 0, hn => ⟨first10 m c ⟨0, hn⟩ rfl, first11 m c ⟨0, hn⟩ rfl⟩
  | n + 1, hn => by
    have h0 : ¬(n + 1) % 7 = 0 := by
      have h7 : n + 1 < 7 := lt_of_lt_of_eq hn N_0
      omega
    have ih := holds n (Nat.lt_of_succ_lt hn)
    have e := outsAt0_B m c ⟨n + 1, hn⟩ h0
    exact ⟨(congrArg (·.2.1) e).trans ih.1, (congrArg (·.2.2.1) e).trans ih.2⟩

/-- The merged attention's array after the run. -/
theorem final10 : (dats m 0 c).arrAt 10 cfg0.N = attn m c := by
  refine (dats m 0 c).arrAt_eq_of_covers 10 _ (by decide +kernel) fun t hf y => ?_
  have e : (win0_10.blk t).view.emb y = y := by blk_ext [places t]
  blk_simp
  rw [after0_10, e, (holds m c t.val t.isLt).1]

/-- The suffix products' array after the run. -/
theorem final11 : (dats m 0 c).arrAt 11 cfg0.N = osuf m c := by
  refine (dats m 0 c).arrAt_eq_of_covers 11 _ (by decide +kernel) fun t hf y => ?_
  have e : (win0_11.blk t).view.emb y = y := by blk_ext [places t]
  blk_simp
  rw [after0_11, e, (holds m c t.val t.isLt).2]

variable (ρ : Dev nD → PrngReg)

/-- Argument 0 ends as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- Argument 1 ends as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- Argument 2 ends as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- Argument 3 ends as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- Argument 4 ends as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- Argument 5 ends as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- Argument 6 ends as launched: no window stages it, and the run leaves such arrays as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- Argument 7 ends as launched: no window stages it, and the run leaves such arrays as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- Argument 8 ends as launched: input window 8 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

/-- The run: the two result arrays hold the two functions of the arguments, the arguments unchanged. -/
theorem run : θ_run defs (onTc (τ := τ) (main (F := F))) ⟨m, fun _ => 0, ρ⟩ fun r => ∀ c : Dev nD,
      r.2.mem ((c : Thread nD τ).loc main_v8_1) = attn m c
      ∧ r.2.mem ((c : Thread nD τ).loc main_v8_2) = osuf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨((h c).1 10).trans (final10 m c), ((h c).1 11).trans (final11 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c⟩)
    (run_main m ρ)

end Cert.Mla.Out

end
-- ==== Proof.lean ====
module

public import proofs.«01_k».proof.Defs
public import proofs.«01_k».proof.Proof.KernelFrame
public import proofs.«01_k».proof.Proof.KernelIdealFrame
public import proofs.«01_k».proof.Proof.Arrays
public import proofs.«01_k».proof.Proof.RefArrays
public import proofs.«01_k».proof.Proof.Gen.ReferenceIdeal.Value
public import proofs.«01_k».proof.Proof.Gen.ReferenceIdeal.Frame
public import proofs.«01_k».proof.Proof.OutValue
public import proofs.«01_k».proof.Proof.Gen.OutReference.Value
public import Idealize.ShloMosaic.Adequacy
public import Idealize.ShloMosaic.Init

@[expose] public section

noncomputable section

namespace Cert.Proof

open Idealize.ShloMosaic Idealize.SL.Sem Cert.Kernel

/-- On memories that agree on the arguments, the ideal kernel and the reference leave the same two result arrays. -/
theorem algebraic : Cert.algebraic_KernelIdeal_ReferenceIdeal (hKernelIdeal := Cert.KernelIdeal.Gen.facts)
    (hReferenceIdeal := Cert.ReferenceIdeal.Gen.facts) := by
  intro m g m' g' _ hm
  refine ⟨fun c => Cert.Mla.outs (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    fun c => Cert.Mla.lses (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.Mla.final7 m c), (h c).2.1.trans (Cert.Mla.final8 m c), (h c).2.2⟩)
      (Cert.Mla.run_blocks m g)
  · refine (θ_run Cert.ReferenceIdeal.defs _ _).mono (fun r h c => ⟨(h c).1.trans ?_, (h c).2.1.trans ?_, (h c).2.2⟩)
      (Cert.ReferenceIdeal.Value.run_blocks m' g')
    · obtain ⟨e0, e1, e2, e3, e4, e5, e6, e7⟩ := hm c
      exact (Cert.Mla.Ref.final8 m' c).trans (by rw [e0, e1, e2, e3, e4, e5, e6, e7])
    · obtain ⟨e0, e1, e2, e3, e4, -, -, e7⟩ := hm c
      exact (Cert.Mla.Ref.final9 m' c).trans (by rw [e0, e1, e2, e3, e4, e7])

/-- On memories that agree on the arguments, the output call and its reference leave the same two result arrays, bit for bit. -/
theorem bitexact : Cert.bitexact_OutKernel_OutReference (hOutKernel := Cert.OutKernel.Gen.facts)
    (hOutReference := Cert.OutReference.Gen.facts) := by
  intro m g m' g' _ hm
  refine ⟨fun c => Cert.Mla.Out.attn m c, fun c => Cert.Mla.Out.osuf m c, Cert.Mla.Out.run m g, ?_⟩
  refine (θ_run Cert.OutReference.defs _ _).mono (fun r h c => ⟨(h c).1.trans ?_, (h c).2.1.trans ?_, (h c).2.2⟩)
    (Cert.OutReference.Value.run m' g')
  · obtain ⟨-, e1, e2, e3, e4, e5, e6, -, -⟩ := hm c
    exact (Cert.Mla.Out.ref_merged _ _ _ _ _ _).trans (by rw [e1, e2, e3, e4, e5, e6])
  · obtain ⟨-, e1, e2, e3, e4, e5, e6, -, -⟩ := hm c
    exact (Cert.Mla.Out.ref_suffixes _ _ _ _ _ _).trans (by rw [e3, e5, e6])

/-- Everything the certificate claims. -/
theorem claim : Cert.Claim :=
  ⟨Cert.Kernel.Gen.facts, Cert.KernelIdeal.Gen.facts, Cert.ReferenceIdeal.Gen.facts, Cert.OutKernel.Gen.facts,
    Cert.OutReference.Gen.facts,
    fun m ρ _ => Cert.Kernel.Hand.frame m ρ,
    fun m ρ _ => Cert.KernelIdeal.Hand.frame m ρ,
    fun m ρ _ => Cert.ReferenceIdeal.Gen.frame m ρ,
    fun m ρ _ => Cert.OutKernel.Hand.frame m ρ,
    fun m ρ _ => Cert.OutReference.Gen.frame m ρ,
    ⟨IdealRules.named_const.statement Cert.KernelIdeal.κ "scale_log2e" .f32 _ _ rfl,
      IdealRules.named_const.statement Cert.KernelIdeal.κ "inv_p_scale" .f32 _ _ rfl,
      IdealRules.named_const.statement Cert.KernelIdeal.κ "log2_p_scale" .f32 _ _ rfl,
      IdealRules.named_const.statement Cert.KernelIdeal.κ "log2e" .f32 _ _ rfl⟩,
    algebraic, bitexact⟩

end Cert.Proof

end
